-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_offsets_partition [hPre_offsets_partition : Cert.Pre_offsets_partition.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_partition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_offsets_partition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_partition [hPre_offsets_partition : Cert.Pre_offsets_partition.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_partition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_offsets_partition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_KernelCIdeal_offsets_partition3 [hPre_offsets_partition3 : Cert.Pre_offsets_partition3.Facts] (m : (ℓ : Loc Cert.KernelCIdeal.nD Cert.KernelCIdeal.τ Cert.KernelCIdeal.sig) → Buf (Elt Ideal) ℓ) : Prop :=
  ∀ c : Dev Cert.KernelCIdeal.nD,
    (Cert.Pre_offsets_partition3.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7)) (m ((c.tc : Thread Cert.KernelCIdeal.nD Cert.KernelCIdeal.τ).loc Cert.KernelCIdeal.main_arg8))).1 = (fun _ => 1#1)
    ∧ (Cert.Pre_offsets_partition3.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7)) (m ((c.tc : Thread Cert.KernelCIdeal.nD Cert.KernelCIdeal.τ).loc Cert.KernelCIdeal.main_arg8))).2 = (fun _ => 1#1)

def Pre_ReferenceCIdeal (m : (ℓ : Loc Cert.ReferenceCIdeal.nD Cert.ReferenceCIdeal.τ Cert.ReferenceCIdeal.sig) → Buf (Elt Ideal) ℓ) : Prop :=
  True

def Pre_ReferenceCIdeal_offsets_partition3 [hPre_offsets_partition3 : Cert.Pre_offsets_partition3.Facts] (m : (ℓ : Loc Cert.ReferenceCIdeal.nD Cert.ReferenceCIdeal.τ Cert.ReferenceCIdeal.sig) → Buf (Elt Ideal) ℓ) : Prop :=
  ∀ c : Dev Cert.ReferenceCIdeal.nD,
    (Cert.Pre_offsets_partition3.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7)) (m ((c.tc : Thread Cert.ReferenceCIdeal.nD Cert.ReferenceCIdeal.τ).loc Cert.ReferenceCIdeal.main_arg8))).1 = (fun _ => 1#1)
    ∧ (Cert.Pre_offsets_partition3.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7)) (m ((c.tc : Thread Cert.ReferenceCIdeal.nD Cert.ReferenceCIdeal.τ).loc Cert.ReferenceCIdeal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_offsets_partition [hKernelIdeal : Cert.KernelIdeal.Facts] [hPre_offsets_partition : Cert.Pre_offsets_partition.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_offsets_partition m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_offsets_partition [hReferenceIdeal : Cert.ReferenceIdeal.Facts] [hPre_offsets_partition : Cert.Pre_offsets_partition.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_partition m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3)
      ∧ r.2.mem ((c.tc : Thread Cert.KernelC.nD Cert.KernelC.τ).loc Cert.KernelC.main_arg4) = m ((c.tc : Thread Cert.KernelC.nD Cert.KernelC.τ).loc Cert.KernelC.main_arg4)
      ∧ r.2.mem ((c.tc : Thread Cert.KernelC.nD Cert.KernelC.τ).loc Cert.KernelC.main_arg5) = m ((c.tc : Thread Cert.KernelC.nD Cert.KernelC.τ).loc Cert.KernelC.main_arg5)
      ∧ r.2.mem ((c.tc : Thread Cert.KernelC.nD Cert.KernelC.τ).loc Cert.KernelC.main_arg6) = m ((c.tc : Thread Cert.KernelC.nD Cert.KernelC.τ).loc Cert.KernelC.main_arg6)
      ∧ r.2.mem ((c.tc : Thread Cert.KernelC.nD Cert.KernelC.τ).loc Cert.KernelC.main_arg7) = m ((c.tc : Thread Cert.KernelC.nD Cert.KernelC.τ).loc Cert.KernelC.main_arg7)
      ∧ r.2.mem ((c.tc : Thread Cert.KernelC.nD Cert.KernelC.τ).loc Cert.KernelC.main_arg8) = m ((c.tc : Thread Cert.KernelC.nD Cert.KernelC.τ).loc Cert.KernelC.main_arg8))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
      ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7)
      ∧ r.2.mem ((c.tc : Thread Cert.KernelCIdeal.nD Cert.KernelCIdeal.τ).loc Cert.KernelCIdeal.main_arg8) = m ((c.tc : Thread Cert.KernelCIdeal.nD Cert.KernelCIdeal.τ).loc Cert.KernelCIdeal.main_arg8))
      ∧ r.2.sem = fun _ => 0)

def quiescent_KernelCIdeal_pre_offsets_partition3 [hKernelCIdeal : Cert.KernelCIdeal.Facts] [hPre_offsets_partition3 : Cert.Pre_offsets_partition3.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal_offsets_partition3 m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
      ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7)
      ∧ r.2.mem ((c.tc : Thread Cert.KernelCIdeal.nD Cert.KernelCIdeal.τ).loc Cert.KernelCIdeal.main_arg8) = m ((c.tc : Thread Cert.KernelCIdeal.nD Cert.KernelCIdeal.τ).loc Cert.KernelCIdeal.main_arg8))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5)
      ∧ r.2.mem ((c.tc : Thread Cert.ReferenceCIdeal.nD Cert.ReferenceCIdeal.τ).loc Cert.ReferenceCIdeal.main_arg6) = m ((c.tc : Thread Cert.ReferenceCIdeal.nD Cert.ReferenceCIdeal.τ).loc Cert.ReferenceCIdeal.main_arg6)
      ∧ r.2.mem ((c.tc : Thread Cert.ReferenceCIdeal.nD Cert.ReferenceCIdeal.τ).loc Cert.ReferenceCIdeal.main_arg7) = m ((c.tc : Thread Cert.ReferenceCIdeal.nD Cert.ReferenceCIdeal.τ).loc Cert.ReferenceCIdeal.main_arg7)
      ∧ r.2.mem ((c.tc : Thread Cert.ReferenceCIdeal.nD Cert.ReferenceCIdeal.τ).loc Cert.ReferenceCIdeal.main_arg8) = m ((c.tc : Thread Cert.ReferenceCIdeal.nD Cert.ReferenceCIdeal.τ).loc Cert.ReferenceCIdeal.main_arg8))
      ∧ r.2.sem = fun _ => 0)

def quiescent_ReferenceCIdeal_pre_offsets_partition3 [hReferenceCIdeal : Cert.ReferenceCIdeal.Facts] [hPre_offsets_partition3 : Cert.Pre_offsets_partition3.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal_offsets_partition3 m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5)
      ∧ r.2.mem ((c.tc : Thread Cert.ReferenceCIdeal.nD Cert.ReferenceCIdeal.τ).loc Cert.ReferenceCIdeal.main_arg6) = m ((c.tc : Thread Cert.ReferenceCIdeal.nD Cert.ReferenceCIdeal.τ).loc Cert.ReferenceCIdeal.main_arg6)
      ∧ r.2.mem ((c.tc : Thread Cert.ReferenceCIdeal.nD Cert.ReferenceCIdeal.τ).loc Cert.ReferenceCIdeal.main_arg7) = m ((c.tc : Thread Cert.ReferenceCIdeal.nD Cert.ReferenceCIdeal.τ).loc Cert.ReferenceCIdeal.main_arg7)
      ∧ r.2.mem ((c.tc : Thread Cert.ReferenceCIdeal.nD Cert.ReferenceCIdeal.τ).loc Cert.ReferenceCIdeal.main_arg8) = m ((c.tc : Thread Cert.ReferenceCIdeal.nD Cert.ReferenceCIdeal.τ).loc Cert.ReferenceCIdeal.main_arg8))
      ∧ r.2.sem = fun _ => 0)

def preserves_Kernel_KernelIdeal : Prop :=
  True

def algebraic_KernelIdeal_ReferenceIdeal_pre_offsets_partition [hKernelIdeal : Cert.KernelIdeal.Facts] [hReferenceIdeal : Cert.ReferenceIdeal.Facts] [hPre_offsets_partition : Cert.Pre_offsets_partition.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_offsets_partition m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelC_KernelCIdeal : Prop :=
  True

def algebraic_KernelCIdeal_ReferenceCIdeal_pre_offsets_partition3 [hKernelCIdeal : Cert.KernelCIdeal.Facts] [hReferenceCIdeal : Cert.ReferenceCIdeal.Facts] [hPre_offsets_partition3 : Cert.Pre_offsets_partition3.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal_offsets_partition3 m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)
      ∧ m' ((c.tc : Thread Cert.ReferenceCIdeal.nD Cert.ReferenceCIdeal.τ).loc Cert.ReferenceCIdeal.main_arg4) = m ((c.tc : Thread Cert.KernelCIdeal.nD Cert.KernelCIdeal.τ).loc Cert.KernelCIdeal.main_arg4)
      ∧ m' ((c.tc : Thread Cert.ReferenceCIdeal.nD Cert.ReferenceCIdeal.τ).loc Cert.ReferenceCIdeal.main_arg5) = m ((c.tc : Thread Cert.KernelCIdeal.nD Cert.KernelCIdeal.τ).loc Cert.KernelCIdeal.main_arg5)
      ∧ m' ((c.tc : Thread Cert.ReferenceCIdeal.nD Cert.ReferenceCIdeal.τ).loc Cert.ReferenceCIdeal.main_arg6) = m ((c.tc : Thread Cert.KernelCIdeal.nD Cert.KernelCIdeal.τ).loc Cert.KernelCIdeal.main_arg6)
      ∧ m' ((c.tc : Thread Cert.ReferenceCIdeal.nD Cert.ReferenceCIdeal.τ).loc Cert.ReferenceCIdeal.main_arg7) = m ((c.tc : Thread Cert.KernelCIdeal.nD Cert.KernelCIdeal.τ).loc Cert.KernelCIdeal.main_arg7)
      ∧ m' ((c.tc : Thread Cert.ReferenceCIdeal.nD Cert.ReferenceCIdeal.τ).loc Cert.ReferenceCIdeal.main_arg8) = m ((c.tc : Thread Cert.KernelCIdeal.nD Cert.KernelCIdeal.τ).loc Cert.KernelCIdeal.main_arg8)) →
    ∃ (v0 : (c : Dev Cert.KernelCIdeal.nD) → Buf (Elt Ideal) ((c.tc : Thread Cert.KernelCIdeal.nD Cert.KernelCIdeal.τ).loc Cert.KernelCIdeal.main_v58)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v58) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
          ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
          ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
          ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
          ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7)
          ∧ r.2.mem ((c.tc : Thread Cert.KernelCIdeal.nD Cert.KernelCIdeal.τ).loc Cert.KernelCIdeal.main_arg8) = m ((c.tc : Thread Cert.KernelCIdeal.nD Cert.KernelCIdeal.τ).loc Cert.KernelCIdeal.main_arg8))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v2) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3)
          ∧ r.2.mem ((c.tc : Thread Cert.ReferenceCIdeal.nD Cert.ReferenceCIdeal.τ).loc Cert.ReferenceCIdeal.main_arg4) = m' ((c.tc : Thread Cert.ReferenceCIdeal.nD Cert.ReferenceCIdeal.τ).loc Cert.ReferenceCIdeal.main_arg4)
          ∧ r.2.mem ((c.tc : Thread Cert.ReferenceCIdeal.nD Cert.ReferenceCIdeal.τ).loc Cert.ReferenceCIdeal.main_arg5) = m' ((c.tc : Thread Cert.ReferenceCIdeal.nD Cert.ReferenceCIdeal.τ).loc Cert.ReferenceCIdeal.main_arg5)
          ∧ r.2.mem ((c.tc : Thread Cert.ReferenceCIdeal.nD Cert.ReferenceCIdeal.τ).loc Cert.ReferenceCIdeal.main_arg6) = m' ((c.tc : Thread Cert.ReferenceCIdeal.nD Cert.ReferenceCIdeal.τ).loc Cert.ReferenceCIdeal.main_arg6)
          ∧ r.2.mem ((c.tc : Thread Cert.ReferenceCIdeal.nD Cert.ReferenceCIdeal.τ).loc Cert.ReferenceCIdeal.main_arg7) = m' ((c.tc : Thread Cert.ReferenceCIdeal.nD Cert.ReferenceCIdeal.τ).loc Cert.ReferenceCIdeal.main_arg7)
          ∧ r.2.mem ((c.tc : Thread Cert.ReferenceCIdeal.nD Cert.ReferenceCIdeal.τ).loc Cert.ReferenceCIdeal.main_arg8) = m' ((c.tc : Thread Cert.ReferenceCIdeal.nD Cert.ReferenceCIdeal.τ).loc Cert.ReferenceCIdeal.main_arg8))

def Claim : Prop :=
  ∃ (hKernel : Cert.Kernel.Facts) (hKernelIdeal : Cert.KernelIdeal.Facts) (hReferenceIdeal : Cert.ReferenceIdeal.Facts) (hKernelC : Cert.KernelC.Facts) (hKernelCIdeal : Cert.KernelCIdeal.Facts) (hReferenceCIdeal : Cert.ReferenceCIdeal.Facts) (hPre_offsets_partition : Cert.Pre_offsets_partition.Facts) (hPre_offsets_partition3 : Cert.Pre_offsets_partition3.Facts),
    quiescent_Kernel (hKernel := hKernel)
    ∧ quiescent_KernelIdeal (hKernelIdeal := hKernelIdeal)
    ∧ quiescent_KernelIdeal_pre_offsets_partition (hKernelIdeal := hKernelIdeal) (hPre_offsets_partition := hPre_offsets_partition)
    ∧ quiescent_ReferenceIdeal (hReferenceIdeal := hReferenceIdeal)
    ∧ quiescent_ReferenceIdeal_pre_offsets_partition (hReferenceIdeal := hReferenceIdeal) (hPre_offsets_partition := hPre_offsets_partition)
    ∧ quiescent_KernelC (hKernelC := hKernelC)
    ∧ quiescent_KernelCIdeal (hKernelCIdeal := hKernelCIdeal)
    ∧ quiescent_KernelCIdeal_pre_offsets_partition3 (hKernelCIdeal := hKernelCIdeal) (hPre_offsets_partition3 := hPre_offsets_partition3)
    ∧ quiescent_ReferenceCIdeal (hReferenceCIdeal := hReferenceCIdeal)
    ∧ quiescent_ReferenceCIdeal_pre_offsets_partition3 (hReferenceCIdeal := hReferenceCIdeal) (hPre_offsets_partition3 := hPre_offsets_partition3)
    ∧ preserves_Kernel_KernelIdeal
    ∧ algebraic_KernelIdeal_ReferenceIdeal_pre_offsets_partition (hKernelIdeal := hKernelIdeal) (hReferenceIdeal := hReferenceIdeal) (hPre_offsets_partition := hPre_offsets_partition)
    ∧ preserves_KernelC_KernelCIdeal
    ∧ algebraic_KernelCIdeal_ReferenceCIdeal_pre_offsets_partition3 (hKernelCIdeal := hKernelCIdeal) (hReferenceCIdeal := hReferenceCIdeal) (hPre_offsets_partition3 := hPre_offsets_partition3)
-- ==== Pre_offsets_partition.lean ====
abbrev S6 : Shape := ⟨1, ![6]⟩
abbrev S4096x16384 : Shape := ⟨2, ![4096, 16384]⟩
abbrev S4096x1 : Shape := ⟨2, ![4096, 1]⟩
abbrev S16384x2048 : Shape := ⟨2, ![16384, 2048]⟩
abbrev S256x2048 : Shape := ⟨2, ![256, 2048]⟩
abbrev S5x16384x2048 : Shape := ⟨3, ![5, 16384, 2048]⟩
abbrev S5x256x2048 : Shape := ⟨3, ![5, 256, 2048]⟩
abbrev S2048 : Shape := ⟨1, ![2048]⟩
abbrev S5x2048 : Shape := ⟨2, ![5, 2048]⟩
abbrev S1 : Shape := ⟨1, ![1]⟩
abbrev S_ : Shape := ⟨0, ![]⟩
abbrev S5 : Shape := ⟨1, ![5]⟩

class Facts : Prop where
  slices_S6_S1_0 : S6.Slices ![0] S1
  shapeCasts_S1_S_ : S1.ShapeCasts S_
  slices_S6_S1_5 : S6.Slices ![5] S1
  slices_S6_S5_0 : S6.Slices ![0] S5
  slices_S6_S5_1 : S6.Slices ![1] S5

variable [Facts]

def fn {F : FTy → Type} [FloatOps F] (main_arg0 : IVec S6 32) (main_arg1 : FVec F S4096x16384 .fp8e4m3) (main_arg2 : FVec F S4096x1 .f32) (main_arg3 : FVec F S16384x2048 .fp8e4m3) (main_arg4 : FVec F S256x2048 .f32) (main_arg5 : FVec F S5x16384x2048 .fp8e4m3) (main_arg6 : FVec F S5x256x2048 .f32) (main_arg7 : FVec F S2048 .f32) (main_arg8 : FVec F S5x2048 .f32) : IVec S_ 1 × IVec S5 1 :=
  let main_v0 : IVec S1 32 := (extractStridedSlice S1 ![0] · slices_S6_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![5] · slices_S6_S1_5) main_arg0
  let main_v4 : IVec S_ 32 := shapeCast S_ main_v3 shapeCasts_S1_S_
  let main_c_0 : IVec S_ 32 := constantI S_ 32 4096#32
  let main_v5 : IVec S_ 1 := cmpi .eq main_v4 main_c_0
  let main_v6 : IVec S_ 1 := andi main_v2 main_v5
  let main_v7 : IVec S5 32 := (extractStridedSlice S5 ![0] · slices_S6_S5_0) main_arg0
  let main_v8 : IVec S5 32 := (extractStridedSlice S5 ![1] · slices_S6_S5_1) main_arg0
  let main_v9 : IVec S5 1 := cmpi .sle main_v7 main_v8
  (main_v6, main_v9)
-- ==== Pre_offsets_partition3.lean ====
abbrev S6 : Shape := ⟨1, ![6]⟩
abbrev S4096x1152 : Shape := ⟨2, ![4096, 1152]⟩
abbrev S4096x1 : Shape := ⟨2, ![4096, 1]⟩
abbrev S1152x256 : Shape := ⟨2, ![1152, 256]⟩
abbrev S18x256 : Shape := ⟨2, ![18, 256]⟩
abbrev S5x1152x256 : Shape := ⟨3, ![5, 1152, 256]⟩
abbrev S5x18x256 : Shape := ⟨3, ![5, 18, 256]⟩
abbrev S256 : Shape := ⟨1, ![256]⟩
abbrev S5x256 : Shape := ⟨2, ![5, 256]⟩
abbrev S1 : Shape := ⟨1, ![1]⟩
abbrev S_ : Shape := ⟨0, ![]⟩
abbrev S5 : Shape := ⟨1, ![5]⟩

class Facts : Prop where
  slices_S6_S1_0 : S6.Slices ![0] S1
  shapeCasts_S1_S_ : S1.ShapeCasts S_
  slices_S6_S1_5 : S6.Slices ![5] S1
  slices_S6_S5_0 : S6.Slices ![0] S5
  slices_S6_S5_1 : S6.Slices ![1] S5

variable [Facts]

def fn {F : FTy → Type} [FloatOps F] (main_arg0 : IVec S6 32) (main_arg1 : FVec F S4096x1152 .fp8e4m3) (main_arg2 : FVec F S4096x1 .f32) (main_arg3 : FVec F S1152x256 .fp8e4m3) (main_arg4 : FVec F S18x256 .f32) (main_arg5 : FVec F S5x1152x256 .fp8e4m3) (main_arg6 : FVec F S5x18x256 .f32) (main_arg7 : FVec F S256 .f32) (main_arg8 : FVec F S5x256 .f32) : IVec S_ 1 × IVec S5 1 :=
  let main_v0 : IVec S1 32 := (extractStridedSlice S1 ![0] · slices_S6_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![5] · slices_S6_S1_5) main_arg0
  let main_v4 : IVec S_ 32 := shapeCast S_ main_v3 shapeCasts_S1_S_
  let main_c_0 : IVec S_ 32 := constantI S_ 32 4096#32
  let main_v5 : IVec S_ 1 := cmpi .eq main_v4 main_c_0
  let main_v6 : IVec S_ 1 := andi main_v2 main_v5
  let main_v7 : IVec S5 32 := (extractStridedSlice S5 ![0] · slices_S6_S5_0) main_arg0
  let main_v8 : IVec S5 32 := (extractStridedSlice S5 ![1] · slices_S6_S5_1) main_arg0
  let main_v9 : IVec S5 1 := cmpi .sle main_v7 main_v8
  (main_v6, main_v9)
-- ==== Kernel.lean ====
abbrev S6 : Shape := ⟨1, ![6]⟩
abbrev S4096x16384 : Shape := ⟨2, ![4096, 16384]⟩
abbrev S4096x1 : Shape := ⟨2, ![4096, 1]⟩
abbrev S16384x2048 : Shape := ⟨2, ![16384, 2048]⟩
abbrev S256x2048 : Shape := ⟨2, ![256, 2048]⟩
abbrev S5x16384x2048 : Shape := ⟨3, ![5, 16384, 2048]⟩
abbrev S5x256x2048 : Shape := ⟨3, ![5, 256, 2048]⟩
abbrev S2048 : Shape := ⟨1, ![2048]⟩
abbrev S5x2048 : Shape := ⟨2, ![5, 2048]⟩
abbrev S8 : Shape := ⟨1, ![8]⟩
abbrev S8x1 : Shape := ⟨2, ![8, 1]⟩
abbrev S_ : Shape := ⟨0, ![]⟩
abbrev S5 : Shape := ⟨1, ![5]⟩
abbrev S1x5 : Shape := ⟨2, ![1, 5]⟩
abbrev S8x5 : Shape := ⟨2, ![8, 5]⟩
abbrev S40 : Shape := ⟨1, ![40]⟩
abbrev S12 : Shape := ⟨1, ![12]⟩
abbrev S12x1 : Shape := ⟨2, ![12, 1]⟩
abbrev S1x2048 : Shape := ⟨2, ![1, 2048]⟩
abbrev S5x1x2048 : Shape := ⟨3, ![5, 1, 2048]⟩
abbrev S4096x2048 : Shape := ⟨2, ![4096, 2048]⟩
abbrev S512x1024 : Shape := ⟨2, ![512, 1024]⟩
abbrev S1 : Shape := ⟨1, ![1]⟩
abbrev S512x1 : Shape := ⟨2, ![512, 1]⟩
abbrev S1024x1024 : Shape := ⟨2, ![1024, 1024]⟩
abbrev S16x1024 : Shape := ⟨2, ![16, 1024]⟩
abbrev S1x1024x1024 : Shape := ⟨3, ![1, 1024, 1024]⟩
abbrev S1x16x1024 : Shape := ⟨3, ![1, 16, 1024]⟩
abbrev S1x1024 : Shape := ⟨2, ![1, 1024]⟩
abbrev S1x1x1024 : Shape := ⟨3, ![1, 1, 1024]⟩
abbrev S16x64x1024 : Shape := ⟨3, ![16, 64, 1024]⟩
abbrev S16x1x1024 : Shape := ⟨3, ![16, 1, 1024]⟩

abbrev nBuf : Space → Nat
  | .hbm => 120
  | .vmem => 19
  | .smem => 4
  | _ => 0

abbrev bufTy : (tb : Table) → Fin (tcTables nBuf tb) → BufTy
  | .hbm, ⟨0, _⟩ => ⟨S6, .i32⟩
  | .hbm, ⟨1, _⟩ => ⟨S4096x16384, .fp8e4m3⟩
  | .hbm, ⟨2, _⟩ => ⟨S4096x1, .f32⟩
  | .hbm, ⟨3, _⟩ => ⟨S16384x2048, .fp8e4m3⟩
  | .hbm, ⟨4, _⟩ => ⟨S256x2048, .f32⟩
  | .hbm, ⟨5, _⟩ => ⟨S5x16384x2048, .fp8e4m3⟩
  | .hbm, ⟨6, _⟩ => ⟨S5x256x2048, .f32⟩
  | .hbm, ⟨7, _⟩ => ⟨S2048, .f32⟩
  | .hbm, ⟨8, _⟩ => ⟨S5x2048, .f32⟩
  | .hbm, ⟨9, _⟩ => ⟨S8, .i32⟩
  | .hbm, ⟨10, _⟩ => ⟨S8x1, .i32⟩
  | .hbm, ⟨11, _⟩ => ⟨S_, .i32⟩
  | .hbm, ⟨12, _⟩ => ⟨S8x1, .i32⟩
  | .hbm, ⟨13, _⟩ => ⟨S8x1, .i32⟩
  | .hbm, ⟨14, _⟩ => ⟨S5, .i32⟩
  | .hbm, ⟨15, _⟩ => ⟨S1x5, .i32⟩
  | .hbm, ⟨16, _⟩ => ⟨S8x5, .i32⟩
  | .hbm, ⟨17, _⟩ => ⟨S8x5, .i32⟩
  | .hbm, ⟨18, _⟩ => ⟨S8x5, .i32⟩
  | .hbm, ⟨19, _⟩ => ⟨S40, .i32⟩
  | .hbm, ⟨20, _⟩ => ⟨S5, .i32⟩
  | .hbm, ⟨21, _⟩ => ⟨S1x5, .i32⟩
  | .hbm, ⟨22, _⟩ => ⟨S_, .i32⟩
  | .hbm, ⟨23, _⟩ => ⟨S8x1, .i32⟩
  | .hbm, ⟨24, _⟩ => ⟨S8x1, .i32⟩
  | .hbm, ⟨25, _⟩ => ⟨S8x5, .i32⟩
  | .hbm, ⟨26, _⟩ => ⟨S8x5, .i32⟩
  | .hbm, ⟨27, _⟩ => ⟨S8x5, .i32⟩
  | .hbm, ⟨28, _⟩ => ⟨S40, .i32⟩
  | .hbm, ⟨29, _⟩ => ⟨S40, .i1⟩
  | .hbm, ⟨30, _⟩ => ⟨S40, .i1⟩
  | .hbm, ⟨31, _⟩ => ⟨S40, .i32⟩
  | .hbm, ⟨32, _⟩ => ⟨S40, .i1⟩
  | .hbm, ⟨33, _⟩ => ⟨S40, .i32⟩
  | .hbm, ⟨34, _⟩ => ⟨S12, .i32⟩
  | .hbm, ⟨35, _⟩ => ⟨S40, .i32⟩
  | .hbm, ⟨36, _⟩ => ⟨S_, .i32⟩
  | .hbm, ⟨37, _⟩ => ⟨S_, .i32⟩
  | .hbm, ⟨38, _⟩ => ⟨S12, .i32⟩
  | .hbm, ⟨39, _⟩ => ⟨S_, .i32⟩
  | .hbm, ⟨40, _⟩ => ⟨S_, .i32⟩
  | .hbm, ⟨41, _⟩ => ⟨S12, .i32⟩
  | .hbm, ⟨42, _⟩ => ⟨S12, .i32⟩
  | .hbm, ⟨43, _⟩ => ⟨S_, .i32⟩
  | .hbm, ⟨44, _⟩ => ⟨S12, .i32⟩
  | .hbm, ⟨45, _⟩ => ⟨S12, .i1⟩
  | .hbm, ⟨46, _⟩ => ⟨S_, .i32⟩
  | .hbm, ⟨47, _⟩ => ⟨S12, .i32⟩
  | .hbm, ⟨48, _⟩ => ⟨S12, .i32⟩
  | .hbm, ⟨49, _⟩ => ⟨S12, .i32⟩
  | .hbm, ⟨50, _⟩ => ⟨S12x1, .i32⟩
  | .hbm, ⟨51, _⟩ => ⟨S12, .i32⟩
  | .hbm, ⟨52, _⟩ => ⟨S12, .i32⟩
  | .hbm, ⟨53, _⟩ => ⟨S12, .i32⟩
  | .hbm, ⟨54, _⟩ => ⟨S12, .i1⟩
  | .hbm, ⟨55, _⟩ => ⟨S_, .i32⟩
  | .hbm, ⟨56, _⟩ => ⟨S_, .i32⟩
  | .hbm, ⟨57, _⟩ => ⟨S12, .i32⟩
  | .hbm, ⟨58, _⟩ => ⟨S12, .i32⟩
  | .hbm, ⟨59, _⟩ => ⟨S12, .i32⟩
  | .hbm, ⟨60, _⟩ => ⟨S_, .i32⟩
  | .hbm, ⟨61, _⟩ => ⟨S12, .i32⟩
  | .hbm, ⟨62, _⟩ => ⟨S12, .i1⟩
  | .hbm, ⟨63, _⟩ => ⟨S12, .i32⟩
  | .hbm, ⟨64, _⟩ => ⟨S12, .i32⟩
  | .hbm, ⟨65, _⟩ => ⟨S_, .i32⟩
  | .hbm, ⟨66, _⟩ => ⟨S12, .i32⟩
  | .hbm, ⟨67, _⟩ => ⟨S12, .i1⟩
  | .hbm, ⟨68, _⟩ => ⟨S12, .i1⟩
  | .hbm, ⟨69, _⟩ => ⟨S_, .i32⟩
  | .hbm, ⟨70, _⟩ => ⟨S12, .i32⟩
  | .hbm, ⟨71, _⟩ => ⟨S12, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S12, .i32⟩
  | .hbm, ⟨79, _⟩ => ⟨S12, .i32⟩
  | .hbm, ⟨80, _⟩ => ⟨S_, .i32⟩
  | .hbm, ⟨81, _⟩ => ⟨S12, .i32⟩
  | .hbm, ⟨82, _⟩ => ⟨S12, .i1⟩
  | .hbm, ⟨83, _⟩ => ⟨S_, .i32⟩
  | .hbm, ⟨84, _⟩ => ⟨S12, .i32⟩
  | .hbm, ⟨85, _⟩ => ⟨S12, .i1⟩
  | .hbm, ⟨86, _⟩ => ⟨S_, .i32⟩
  | .hbm, ⟨87, _⟩ => ⟨S_, .i1⟩
  | .hbm, ⟨88, _⟩ => ⟨S12, .i1⟩
  | .hbm, ⟨89, _⟩ => ⟨S12, .i1⟩
  | .hbm, ⟨90, _⟩ => ⟨S12, .i1⟩
  | .hbm, ⟨91, _⟩ => ⟨S12, .i32⟩
  | .hbm, ⟨92, _⟩ => ⟨S12, .i32⟩
  | .hbm, ⟨93, _⟩ => ⟨S_, .i32⟩
  | .hbm, ⟨94, _⟩ => ⟨S12, .i32⟩
  | .hbm, ⟨95, _⟩ => ⟨S12, .i1⟩
  | .hbm, ⟨96, _⟩ => ⟨S_, .i32⟩
  | .hbm, ⟨97, _⟩ => ⟨S12, .i32⟩
  | .hbm, ⟨98, _⟩ => ⟨S12, .i32⟩
  | .hbm, ⟨99, _⟩ => ⟨S12, .i32⟩
  | .hbm, ⟨100, _⟩ => ⟨S12x1, .i32⟩
  | .hbm, ⟨101, _⟩ => ⟨S12, .i32⟩
  | .hbm, ⟨102, _⟩ => ⟨S_, .i32⟩
  | .hbm, ⟨103, _⟩ => ⟨S_, .i32⟩
  | .hbm, ⟨104, _⟩ => ⟨S12, .i32⟩
  | .hbm, ⟨105, _⟩ => ⟨S_, .i32⟩
  | .hbm, ⟨106, _⟩ => ⟨S12, .i32⟩
  | .hbm, ⟨107, _⟩ => ⟨S12, .i1⟩
  | .hbm, ⟨108, _⟩ => ⟨S_, .i32⟩
  | .hbm, ⟨109, _⟩ => ⟨S12, .i32⟩
  | .hbm, ⟨110, _⟩ => ⟨S12, .i32⟩
  | .hbm, ⟨111, _⟩ => ⟨S12, .i32⟩
  | .hbm, ⟨112, _⟩ => ⟨S12x1, .i32⟩
  | .hbm, ⟨113, _⟩ => ⟨S12, .i32⟩
  | .hbm, ⟨114, _⟩ => ⟨S_, .i32⟩
  | .hbm, ⟨115, _⟩ => ⟨S_, .i32⟩
  | .hbm, ⟨116, _⟩ => ⟨S12, .i32⟩
  | .hbm, ⟨117, _⟩ => ⟨S1x2048, .f32⟩
  | .hbm, ⟨118, _⟩ => ⟨S5x1x2048, .f32⟩
  | .hbm, ⟨119, _⟩ => ⟨S4096x2048, .f32⟩
  | .local _ .vmem, ⟨0, _⟩ => ⟨S512x1024, .fp8e4m3⟩
  | .local _ .vmem, ⟨1, _⟩ => ⟨S512x1024, .fp8e4m3⟩
  | .local _ .vmem, ⟨2, _⟩ => ⟨S512x1, .f32⟩
  | .local _ .vmem, ⟨3, _⟩ => ⟨S512x1, .f32⟩
  | .local _ .vmem, ⟨4, _⟩ => ⟨S1024x1024, .fp8e4m3⟩
  | .local _ .vmem, ⟨5, _⟩ => ⟨S1024x1024, .fp8e4m3⟩
  | .local _ .vmem, ⟨6, _⟩ => ⟨S16x1024, .f32⟩
  | .local _ .vmem, ⟨7, _⟩ => ⟨S16x1024, .f32⟩
  | .local _ .vmem, ⟨8, _⟩ => ⟨S1x1024x1024, .fp8e4m3⟩
  | .local _ .vmem, ⟨9, _⟩ => ⟨S1x1024x1024, .fp8e4m3⟩
  | .local _ .vmem, ⟨10, _⟩ => ⟨S1x16x1024, .f32⟩
  | .local _ .vmem, ⟨11, _⟩ => ⟨S1x16x1024, .f32⟩
  | .local _ .vmem, ⟨12, _⟩ => ⟨S1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .smem, ⟨0, _⟩ => ⟨S12, .i32⟩
  | .local _ .smem, ⟨1, _⟩ => ⟨S12, .i32⟩
  | .local _ .smem, ⟨2, _⟩ => ⟨S12, .i32⟩
  | .local _ .smem, ⟨3, _⟩ => ⟨S12, .i32⟩
  | _, _ => ⟨S6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_c_6 : Ref sig .tc := ⟨.hbm, 72, rfl⟩
abbrev main_call2_v0 : Ref sig .tc := ⟨.hbm, 73, rfl⟩
abbrev main_call2_c : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_c_1 : Ref sig .tc := ⟨.hbm, 80, rfl⟩
abbrev main_call2_v5 : Ref sig .tc := ⟨.hbm, 81, rfl⟩
abbrev main_call2_v6 : Ref sig .tc := ⟨.hbm, 82, rfl⟩
abbrev main_call2_c_2 : Ref sig .tc := ⟨.hbm, 83, rfl⟩
abbrev main_call2_v7 : Ref sig .tc := ⟨.hbm, 84, rfl⟩
abbrev main_call2_v8 : Ref sig .tc := ⟨.hbm, 85, rfl⟩
abbrev main_call2_c_3 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_c_7 : Ref sig .tc := ⟨.hbm, 93, rfl⟩
abbrev main_v40 : Ref sig .tc := ⟨.hbm, 94, rfl⟩
abbrev main_v41 : Ref sig .tc := ⟨.hbm, 95, rfl⟩
abbrev main_c_8 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_c_9 : Ref sig .tc := ⟨.hbm, 102, rfl⟩
abbrev main_call3_v0 : Ref sig .tc := ⟨.hbm, 103, rfl⟩
abbrev main_call3_v1 : Ref sig .tc := ⟨.hbm, 104, rfl⟩
abbrev main_c_10 : Ref sig .tc := ⟨.hbm, 105, rfl⟩
abbrev main_v48 : Ref sig .tc := ⟨.hbm, 106, rfl⟩
abbrev main_v49 : Ref sig .tc := ⟨.hbm, 107, rfl⟩
abbrev main_c_11 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_c_12 : Ref sig .tc := ⟨.hbm, 114, rfl⟩
abbrev main_call4_v0 : Ref sig .tc := ⟨.hbm, 115, rfl⟩
abbrev main_call4_v1 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v38 : Ref sig .tc := ⟨.smem, 0, rfl⟩
abbrev main_v39 : Ref sig .tc := ⟨.smem, 1, rfl⟩
abbrev main_v47 : Ref sig .tc := ⟨.smem, 2, rfl⟩
abbrev main_v55 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 12, 16], ![false, false, false]⟩

abbrev pre0 : Pipeline.Prefetch sig := ⟨4, ![main_v38.idx, main_v39.idx, main_v47.idx, main_v55.idx], fun | 0 => main_v38.names | 1 => main_v39.names | 2 => main_v47.names | 3 => main_v55.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (i : grid0.Coords) : BitVec 1 :=
  let arg2 : BitVec 32 := BitVec.ofNat 32 (i 2).val
  let c15_i32 : BitVec 32 := 15#32
  let v32 : BitVec 1 := Scalar.cmpi .eq arg2 c15_i32
  let v33 : BitVec 32 := Scalar.extui v32
  let c0_i32_15 : BitVec 32 := 0#32
  let v34 : BitVec 1 := Scalar.cmpi .ne v33 c0_i32_15
  v34

def k0_off2 (i : grid0.Coords) : Fin 1 → Nat :=
  let arg1 : BitVec 32 := BitVec.ofNat 32 (i 1).val
  let v46 : Index := Scalar.indexCast arg1
  ![v46.toNat]
def k0_cond1 (v1 : BitVec 32) (v3 : BitVec 32) : BitVec 1 :=
  let v4 : BitVec 1 := Scalar.cmpi .sgt v3 v1
  let v5 : BitVec 32 := Scalar.extui v4
  let c0_i32 : BitVec 32 := 0#32
  let v6 : BitVec 1 := Scalar.cmpi .ne v5 c0_i32
  v6

def cc0_transform_0 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S12) ![v0.toNat] S1.size (k0_off1_inb i)) numel1_S1
  let v2 : Index := Scalar.indexCast arg1
  let v3 : BitVec 32 := pf.at 3 (Rect.unit (s := S12) ![v2.toNat] S1.size (k0_off1_inb i)) numel1_S1
  let v4 : Index := Scalar.indexCast arg1
  let v5 : BitVec 32 := pf.at 2 (Rect.unit (s := S12) ![v4.toNat] S1.size (k0_off1_inb i)) numel1_S1
  let v6 : BitVec 1 := Scalar.cmpi .sgt v3 v5
  let c15_i32 : BitVec 32 := 15#32
  let v7 : BitVec 32 := Scalar.select v6 arg2 c15_i32
  let c0_i32 : BitVec 32 := 0#32
  ![v1.toNat, v7.toNat]

def cc0_transform_1 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S12) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 3 (Rect.unit (s := S12) ![v0.toNat] S1.size (k0_off1_inb i)) numel1_S1
  let v2 : Index := Scalar.indexCast arg1
  let v3 : BitVec 32 := pf.at 2 (Rect.unit (s := S12) ![v2.toNat] S1.size (k0_off1_inb i)) numel1_S1
  let v4 : BitVec 1 := Scalar.cmpi .sgt v1 v3
  let c15_i32 : BitVec 32 := 15#32
  let v5 : BitVec 32 := Scalar.select v4 arg2 c15_i32
  let c0_i32 : BitVec 32 := 0#32
  ![v5.toNat, arg0.toNat]

def cc0_transform_3 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 3 (Rect.unit (s := S12) ![v0.toNat] S1.size (k0_off1_inb i)) numel1_S1
  let v2 : Index := Scalar.indexCast arg1
  let v3 : BitVec 32 := pf.at 2 (Rect.unit (s := S12) ![v2.toNat] S1.size (k0_off1_inb i)) numel1_S1
  let v4 : BitVec 1 := Scalar.cmpi .sgt v1 v3
  let c15_i32 : BitVec 32 := 15#32
  let v5 : BitVec 32 := Scalar.select v4 arg2 c15_i32
  let c0_i32 : BitVec 32 := 0#32
  ![v5.toNat, arg0.toNat]

def cc0_transform_4 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 1 (Rect.unit (s := S12) ![v0.toNat] S1.size (k0_off1_inb i)) numel1_S1
  let v2 : Index := Scalar.indexCast arg1
  let v3 : BitVec 32 := pf.at 3 (Rect.unit (s := S12) ![v2.toNat] S1.size (k0_off1_inb i)) numel1_S1
  let v4 : Index := Scalar.indexCast arg1
  let v5 : BitVec 32 := pf.at 2 (Rect.unit (s := S12) ![v4.toNat] S1.size (k0_off1_inb i)) numel1_S1
  let v6 : BitVec 1 := Scalar.cmpi .sgt v3 v5
  let c15_i32 : BitVec 32 := 15#32
  let v7 : BitVec 32 := Scalar.select v6 arg2 c15_i32
  let c0_i32 : BitVec 32 := 0#32
  ![v1.toNat, v7.toNat, arg0.toNat]

def cc0_transform_5 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 1 (Rect.unit (s := S12) ![v0.toNat] S1.size (k0_off1_inb i)) numel1_S1
  let v2 : Index := Scalar.indexCast arg1
  let v3 : BitVec 32 := pf.at 3 (Rect.unit (s := S12) ![v2.toNat] S1.size (k0_off1_inb i)) numel1_S1
  let v4 : Index := Scalar.indexCast arg1
  let v5 : BitVec 32 := pf.at 2 (Rect.unit (s := S12) ![v4.toNat] S1.size (k0_off1_inb i)) numel1_S1
  let v6 : BitVec 1 := Scalar.cmpi .sgt v3 v5
  let c15_i32 : BitVec 32 := 15#32
  let v7 : BitVec 32 := Scalar.select v6 arg2 c15_i32
  let c0_i32 : BitVec 32 := 0#32
  ![v1.toNat, v7.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 1 (Rect.unit (s := S12) ![v0.toNat] S1.size (k0_off1_inb i)) numel1_S1
  let c0_i32 : BitVec 32 := 0#32
  let c0_i32_0 : BitVec 32 := 0#32
  ![v1.toNat, c0_i32.toNat, arg0.toNat]

def cc0_transform_8 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S12) ![v0.toNat] S1.size (k0_off1_inb i)) numel1_S1
  let c0_i32 : BitVec 32 := 0#32
  ![v1.toNat, arg0.toNat]

abbrev stage0_0 : Fin 2 → Memref sig .tc .vmem S512x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S6 : Shape := ⟨1, ![6]⟩
abbrev S4096x16384 : Shape := ⟨2, ![4096, 16384]⟩
abbrev S4096x1 : Shape := ⟨2, ![4096, 1]⟩
abbrev S16384x2048 : Shape := ⟨2, ![16384, 2048]⟩
abbrev S256x2048 : Shape := ⟨2, ![256, 2048]⟩
abbrev S5x16384x2048 : Shape := ⟨3, ![5, 16384, 2048]⟩
abbrev S5x256x2048 : Shape := ⟨3, ![5, 256, 2048]⟩
abbrev S2048 : Shape := ⟨1, ![2048]⟩
abbrev S5x2048 : Shape := ⟨2, ![5, 2048]⟩
abbrev S1x2048 : Shape := ⟨2, ![1, 2048]⟩
abbrev S5x1x2048 : Shape := ⟨3, ![5, 1, 2048]⟩
abbrev S4096x2048 : Shape := ⟨2, ![4096, 2048]⟩
abbrev S1 : Shape := ⟨1, ![1]⟩
abbrev S1x16384x2048 : Shape := ⟨3, ![1, 16384, 2048]⟩
abbrev S1x256x2048 : Shape := ⟨3, ![1, 256, 2048]⟩
abbrev S256x64x2048 : Shape := ⟨3, ![256, 64, 2048]⟩
abbrev S256x1x2048 : Shape := ⟨3, ![256, 1, 2048]⟩
abbrev S1x1x2048 : Shape := ⟨3, ![1, 1, 2048]⟩

abbrev nBuf : Space → Nat
  | .hbm => 12
  | .vmem => 9
  | .smem => 1
  | _ => 0

abbrev bufTy : (tb : Table) → Fin (tcTables nBuf tb) → BufTy
  | .hbm, ⟨0, _⟩ => ⟨S6, .i32⟩
  | .hbm, ⟨1, _⟩ => ⟨S4096x16384, .fp8e4m3⟩
  | .hbm, ⟨2, _⟩ => ⟨S4096x1, .f32⟩
  | .hbm, ⟨3, _⟩ => ⟨S16384x2048, .fp8e4m3⟩
  | .hbm, ⟨4, _⟩ => ⟨S256x2048, .f32⟩
  | .hbm, ⟨5, _⟩ => ⟨S5x16384x2048, .fp8e4m3⟩
  | .hbm, ⟨6, _⟩ => ⟨S5x256x2048, .f32⟩
  | .hbm, ⟨7, _⟩ => ⟨S2048, .f32⟩
  | .hbm, ⟨8, _⟩ => ⟨S5x2048, .f32⟩
  | .hbm, ⟨9, _⟩ => ⟨S1x2048, .f32⟩
  | .hbm, ⟨10, _⟩ => ⟨S5x1x2048, .f32⟩
  | .hbm, ⟨11, _⟩ => ⟨S4096x2048, .f32⟩
  | .local _ .vmem, ⟨0, _⟩ => ⟨S4096x16384, .fp8e4m3⟩
  | .local _ .vmem, ⟨1, _⟩ => ⟨S4096x1, .f32⟩
  | .local _ .vmem, ⟨2, _⟩ => ⟨S16384x2048, .fp8e4m3⟩
  | .local _ .vmem, ⟨3, _⟩ => ⟨S256x2048, .f32⟩
  | .local _ .vmem, ⟨4, _⟩ => ⟨S5x16384x2048, .fp8e4m3⟩
  | .local _ .vmem, ⟨5, _⟩ => ⟨S5x256x2048, .f32⟩
  | .local _ .vmem, ⟨6, _⟩ => ⟨S1x2048, .f32⟩
  | .local _ .vmem, ⟨7, _⟩ => ⟨S5x1x2048, .f32⟩
  | .local _ .vmem, ⟨8, _⟩ => ⟨S4096x2048, .f32⟩
  | .local _ .smem, ⟨0, _⟩ => ⟨S6, .i32⟩
  | _, _ => ⟨S6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x16384x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelC.lean ====
abbrev S6 : Shape := ⟨1, ![6]⟩
abbrev S4096x1152 : Shape := ⟨2, ![4096, 1152]⟩
abbrev S4096x1 : Shape := ⟨2, ![4096, 1]⟩
abbrev S1152x256 : Shape := ⟨2, ![1152, 256]⟩
abbrev S18x256 : Shape := ⟨2, ![18, 256]⟩
abbrev S5x1152x256 : Shape := ⟨3, ![5, 1152, 256]⟩
abbrev S5x18x256 : Shape := ⟨3, ![5, 18, 256]⟩
abbrev S256 : Shape := ⟨1, ![256]⟩
abbrev S5x256 : Shape := ⟨2, ![5, 256]⟩
abbrev S8 : Shape := ⟨1, ![8]⟩
abbrev S8x1 : Shape := ⟨2, ![8, 1]⟩
abbrev S_ : Shape := ⟨0, ![]⟩
abbrev S5 : Shape := ⟨1, ![5]⟩
abbrev S1x5 : Shape := ⟨2, ![1, 5]⟩
abbrev S8x5 : Shape := ⟨2, ![8, 5]⟩
abbrev S40 : Shape := ⟨1, ![40]⟩
abbrev S12 : Shape := ⟨1, ![12]⟩
abbrev S12x1 : Shape := ⟨2, ![12, 1]⟩
abbrev S1x256 : Shape := ⟨2, ![1, 256]⟩
abbrev S5x1x256 : Shape := ⟨3, ![5, 1, 256]⟩
abbrev S4096x256 : Shape := ⟨2, ![4096, 256]⟩
abbrev S512x1152 : Shape := ⟨2, ![512, 1152]⟩
abbrev S1 : Shape := ⟨1, ![1]⟩
abbrev S512x1 : Shape := ⟨2, ![512, 1]⟩
abbrev S1x1152x256 : Shape := ⟨3, ![1, 1152, 256]⟩
abbrev S1x18x256 : Shape := ⟨3, ![1, 18, 256]⟩
abbrev S1x1x256 : Shape := ⟨3, ![1, 1, 256]⟩
abbrev S512x256 : Shape := ⟨2, ![512, 256]⟩
abbrev S18x64x256 : Shape := ⟨3, ![18, 64, 256]⟩
abbrev S18x1x256 : Shape := ⟨3, ![18, 1, 256]⟩

abbrev nBuf : Space → Nat
  | .hbm => 120
  | .vmem => 18
  | .smem => 4
  | _ => 0

abbrev bufTy : (tb : Table) → Fin (tcTables nBuf tb) → BufTy
  | .hbm, ⟨0, _⟩ => ⟨S6, .i32⟩
  | .hbm, ⟨1, _⟩ => ⟨S4096x1152, .fp8e4m3⟩
  | .hbm, ⟨2, _⟩ => ⟨S4096x1, .f32⟩
  | .hbm, ⟨3, _⟩ => ⟨S1152x256, .fp8e4m3⟩
  | .hbm, ⟨4, _⟩ => ⟨S18x256, .f32⟩
  | .hbm, ⟨5, _⟩ => ⟨S5x1152x256, .fp8e4m3⟩
  | .hbm, ⟨6, _⟩ => ⟨S5x18x256, .f32⟩
  | .hbm, ⟨7, _⟩ => ⟨S256, .f32⟩
  | .hbm, ⟨8, _⟩ => ⟨S5x256, .f32⟩
  | .hbm, ⟨9, _⟩ => ⟨S8, .i32⟩
  | .hbm, ⟨10, _⟩ => ⟨S8x1, .i32⟩
  | .hbm, ⟨11, _⟩ => ⟨S_, .i32⟩
  | .hbm, ⟨12, _⟩ => ⟨S8x1, .i32⟩
  | .hbm, ⟨13, _⟩ => ⟨S8x1, .i32⟩
  | .hbm, ⟨14, _⟩ => ⟨S5, .i32⟩
  | .hbm, ⟨15, _⟩ => ⟨S1x5, .i32⟩
  | .hbm, ⟨16, _⟩ => ⟨S8x5, .i32⟩
  | .hbm, ⟨17, _⟩ => ⟨S8x5, .i32⟩
  | .hbm, ⟨18, _⟩ => ⟨S8x5, .i32⟩
  | .hbm, ⟨19, _⟩ => ⟨S40, .i32⟩
  | .hbm, ⟨20, _⟩ => ⟨S5, .i32⟩
  | .hbm, ⟨21, _⟩ => ⟨S1x5, .i32⟩
  | .hbm, ⟨22, _⟩ => ⟨S_, .i32⟩
  | .hbm, ⟨23, _⟩ => ⟨S8x1, .i32⟩
  | .hbm, ⟨24, _⟩ => ⟨S8x1, .i32⟩
  | .hbm, ⟨25, _⟩ => ⟨S8x5, .i32⟩
  | .hbm, ⟨26, _⟩ => ⟨S8x5, .i32⟩
  | .hbm, ⟨27, _⟩ => ⟨S8x5, .i32⟩
  | .hbm, ⟨28, _⟩ => ⟨S40, .i32⟩
  | .hbm, ⟨29, _⟩ => ⟨S40, .i1⟩
  | .hbm, ⟨30, _⟩ => ⟨S40, .i1⟩
  | .hbm, ⟨31, _⟩ => ⟨S40, .i32⟩
  | .hbm, ⟨32, _⟩ => ⟨S40, .i1⟩
  | .hbm, ⟨33, _⟩ => ⟨S40, .i32⟩
  | .hbm, ⟨34, _⟩ => ⟨S12, .i32⟩
  | .hbm, ⟨35, _⟩ => ⟨S40, .i32⟩
  | .hbm, ⟨36, _⟩ => ⟨S_, .i32⟩
  | .hbm, ⟨37, _⟩ => ⟨S_, .i32⟩
  | .hbm, ⟨38, _⟩ => ⟨S12, .i32⟩
  | .hbm, ⟨39, _⟩ => ⟨S_, .i32⟩
  | .hbm, ⟨40, _⟩ => ⟨S_, .i32⟩
  | .hbm, ⟨41, _⟩ => ⟨S12, .i32⟩
  | .hbm, ⟨42, _⟩ => ⟨S12, .i32⟩
  | .hbm, ⟨43, _⟩ => ⟨S_, .i32⟩
  | .hbm, ⟨44, _⟩ => ⟨S12, .i32⟩
  | .hbm, ⟨45, _⟩ => ⟨S12, .i1⟩
  | .hbm, ⟨46, _⟩ => ⟨S_, .i32⟩
  | .hbm, ⟨47, _⟩ => ⟨S12, .i32⟩
  | .hbm, ⟨48, _⟩ => ⟨S12, .i32⟩
  | .hbm, ⟨49, _⟩ => ⟨S12, .i32⟩
  | .hbm, ⟨50, _⟩ => ⟨S12x1, .i32⟩
  | .hbm, ⟨51, _⟩ => ⟨S12, .i32⟩
  | .hbm, ⟨52, _⟩ => ⟨S12, .i32⟩
  | .hbm, ⟨53, _⟩ => ⟨S12, .i32⟩
  | .hbm, ⟨54, _⟩ => ⟨S12, .i1⟩
  | .hbm, ⟨55, _⟩ => ⟨S_, .i32⟩
  | .hbm, ⟨56, _⟩ => ⟨S_, .i32⟩
  | .hbm, ⟨57, _⟩ => ⟨S12, .i32⟩
  | .hbm, ⟨58, _⟩ => ⟨S12, .i32⟩
  | .hbm, ⟨59, _⟩ => ⟨S12, .i32⟩
  | .hbm, ⟨60, _⟩ => ⟨S_, .i32⟩
  | .hbm, ⟨61, _⟩ => ⟨S12, .i32⟩
  | .hbm, ⟨62, _⟩ => ⟨S12, .i1⟩
  | .hbm, ⟨63, _⟩ => ⟨S12, .i32⟩
  | .hbm, ⟨64, _⟩ => ⟨S12, .i32⟩
  | .hbm, ⟨65, _⟩ => ⟨S_, .i32⟩
  | .hbm, ⟨66, _⟩ => ⟨S12, .i32⟩
  | .hbm, ⟨67, _⟩ => ⟨S12, .i1⟩
  | .hbm, ⟨68, _⟩ => ⟨S12, .i1⟩
  | .hbm, ⟨69, _⟩ => ⟨S_, .i32⟩
  | .hbm, ⟨70, _⟩ => ⟨S12, .i32⟩
  | .hbm, ⟨71, _⟩ => ⟨S12, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S12, .i32⟩
  | .hbm, ⟨79, _⟩ => ⟨S12, .i32⟩
  | .hbm, ⟨80, _⟩ => ⟨S_, .i32⟩
  | .hbm, ⟨81, _⟩ => ⟨S12, .i32⟩
  | .hbm, ⟨82, _⟩ => ⟨S12, .i1⟩
  | .hbm, ⟨83, _⟩ => ⟨S_, .i32⟩
  | .hbm, ⟨84, _⟩ => ⟨S12, .i32⟩
  | .hbm, ⟨85, _⟩ => ⟨S12, .i1⟩
  | .hbm, ⟨86, _⟩ => ⟨S_, .i32⟩
  | .hbm, ⟨87, _⟩ => ⟨S_, .i1⟩
  | .hbm, ⟨88, _⟩ => ⟨S12, .i1⟩
  | .hbm, ⟨89, _⟩ => ⟨S12, .i1⟩
  | .hbm, ⟨90, _⟩ => ⟨S12, .i1⟩
  | .hbm, ⟨91, _⟩ => ⟨S12, .i32⟩
  | .hbm, ⟨92, _⟩ => ⟨S12, .i32⟩
  | .hbm, ⟨93, _⟩ => ⟨S_, .i32⟩
  | .hbm, ⟨94, _⟩ => ⟨S12, .i32⟩
  | .hbm, ⟨95, _⟩ => ⟨S12, .i1⟩
  | .hbm, ⟨96, _⟩ => ⟨S_, .i32⟩
  | .hbm, ⟨97, _⟩ => ⟨S12, .i32⟩
  | .hbm, ⟨98, _⟩ => ⟨S12, .i32⟩
  | .hbm, ⟨99, _⟩ => ⟨S12, .i32⟩
  | .hbm, ⟨100, _⟩ => ⟨S12x1, .i32⟩
  | .hbm, ⟨101, _⟩ => ⟨S12, .i32⟩
  | .hbm, ⟨102, _⟩ => ⟨S_, .i32⟩
  | .hbm, ⟨103, _⟩ => ⟨S_, .i32⟩
  | .hbm, ⟨104, _⟩ => ⟨S12, .i32⟩
  | .hbm, ⟨105, _⟩ => ⟨S_, .i32⟩
  | .hbm, ⟨106, _⟩ => ⟨S12, .i32⟩
  | .hbm, ⟨107, _⟩ => ⟨S12, .i1⟩
  | .hbm, ⟨108, _⟩ => ⟨S_, .i32⟩
  | .hbm, ⟨109, _⟩ => ⟨S12, .i32⟩
  | .hbm, ⟨110, _⟩ => ⟨S12, .i32⟩
  | .hbm, ⟨111, _⟩ => ⟨S12, .i32⟩
  | .hbm, ⟨112, _⟩ => ⟨S12x1, .i32⟩
  | .hbm, ⟨113, _⟩ => ⟨S12, .i32⟩
  | .hbm, ⟨114, _⟩ => ⟨S_, .i32⟩
  | .hbm, ⟨115, _⟩ => ⟨S_, .i32⟩
  | .hbm, ⟨116, _⟩ => ⟨S12, .i32⟩
  | .hbm, ⟨117, _⟩ => ⟨S1x256, .f32⟩
  | .hbm, ⟨118, _⟩ => ⟨S5x1x256, .f32⟩
  | .hbm, ⟨119, _⟩ => ⟨S4096x256, .bf16⟩
  | .local _ .vmem, ⟨0, _⟩ => ⟨S512x1152, .fp8e4m3⟩
  | .local _ .vmem, ⟨1, _⟩ => ⟨S512x1152, .fp8e4m3⟩
  | .local _ .vmem, ⟨2, _⟩ => ⟨S512x1, .f32⟩
  | .local _ .vmem, ⟨3, _⟩ => ⟨S512x1, .f32⟩
  | .local _ .vmem, ⟨4, _⟩ => ⟨S1152x256, .fp8e4m3⟩
  | .local _ .vmem, ⟨5, _⟩ => ⟨S1152x256, .fp8e4m3⟩
  | .local _ .vmem, ⟨6, _⟩ => ⟨S18x256, .f32⟩
  | .local _ .vmem, ⟨7, _⟩ => ⟨S18x256, .f32⟩
  | .local _ .vmem, ⟨8, _⟩ => ⟨S1x1152x256, .fp8e4m3⟩
  | .local _ .vmem, ⟨9, _⟩ => ⟨S1x1152x256, .fp8e4m3⟩
  | .local _ .vmem, ⟨10, _⟩ => ⟨S1x18x256, .f32⟩
  | .local _ .vmem, ⟨11, _⟩ => ⟨S1x18x256, .f32⟩
  | .local _ .vmem, ⟨12, _⟩ => ⟨S1x256, .f32⟩
  | .local _ .vmem, ⟨13, _⟩ => ⟨S1x1x256, .f32⟩
  | .local _ .vmem, ⟨14, _⟩ => ⟨S1x1x256, .f32⟩
  | .local _ .vmem, ⟨15, _⟩ => ⟨S512x256, .bf16⟩
  | .local _ .vmem, ⟨16, _⟩ => ⟨S512x256, .bf16⟩
  | .local _ .vmem, ⟨17, _⟩ => ⟨S512x256, .f32⟩
  | .local _ .smem, ⟨0, _⟩ => ⟨S12, .i32⟩
  | .local _ .smem, ⟨1, _⟩ => ⟨S12, .i32⟩
  | .local _ .smem, ⟨2, _⟩ => ⟨S12, .i32⟩
  | .local _ .smem, ⟨3, _⟩ => ⟨S12, .i32⟩
  | _, _ => ⟨S6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_c_6 : Ref sig .tc := ⟨.hbm, 72, rfl⟩
abbrev main_call2_v0 : Ref sig .tc := ⟨.hbm, 73, rfl⟩
abbrev main_call2_c : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_c_1 : Ref sig .tc := ⟨.hbm, 80, rfl⟩
abbrev main_call2_v5 : Ref sig .tc := ⟨.hbm, 81, rfl⟩
abbrev main_call2_v6 : Ref sig .tc := ⟨.hbm, 82, rfl⟩
abbrev main_call2_c_2 : Ref sig .tc := ⟨.hbm, 83, rfl⟩
abbrev main_call2_v7 : Ref sig .tc := ⟨.hbm, 84, rfl⟩
abbrev main_call2_v8 : Ref sig .tc := ⟨.hbm, 85, rfl⟩
abbrev main_call2_c_3 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_c_7 : Ref sig .tc := ⟨.hbm, 93, rfl⟩
abbrev main_v40 : Ref sig .tc := ⟨.hbm, 94, rfl⟩
abbrev main_v41 : Ref sig .tc := ⟨.hbm, 95, rfl⟩
abbrev main_c_8 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_c_9 : Ref sig .tc := ⟨.hbm, 102, rfl⟩
abbrev main_call3_v0 : Ref sig .tc := ⟨.hbm, 103, rfl⟩
abbrev main_call3_v1 : Ref sig .tc := ⟨.hbm, 104, rfl⟩
abbrev main_c_10 : Ref sig .tc := ⟨.hbm, 105, rfl⟩
abbrev main_v48 : Ref sig .tc := ⟨.hbm, 106, rfl⟩
abbrev main_v49 : Ref sig .tc := ⟨.hbm, 107, rfl⟩
abbrev main_c_11 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_c_12 : Ref sig .tc := ⟨.hbm, 114, rfl⟩
abbrev main_call4_v0 : Ref sig .tc := ⟨.hbm, 115, rfl⟩
abbrev main_call4_v1 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v38 : Ref sig .tc := ⟨.smem, 0, rfl⟩
abbrev main_v39 : Ref sig .tc := ⟨.smem, 1, rfl⟩
abbrev main_v47 : Ref sig .tc := ⟨.smem, 2, rfl⟩
abbrev main_v55 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![1, 12, 1], ![false, false, false]⟩

abbrev pre0 : Pipeline.Prefetch sig := ⟨4, ![main_v38.idx, main_v39.idx, main_v47.idx, main_v55.idx], fun | 0 => main_v38.names | 1 => main_v39.names | 2 => main_v47.names | 3 => main_v55.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (i : grid0.Coords) : BitVec 1 :=
  let arg2 : BitVec 32 := BitVec.ofNat 32 (i 2).val
  let c0_i32_15 : BitVec 32 := 0#32
  let v32 : BitVec 1 := Scalar.cmpi .eq arg2 c0_i32_15
  let v33 : BitVec 32 := Scalar.extui v32
  let c0_i32_16 : BitVec 32 := 0#32
  let v34 : BitVec 1 := Scalar.cmpi .ne v33 c0_i32_16
  v34

def k0_off2 (i : grid0.Coords) : Fin 1 → Nat :=
  let arg1 : BitVec 32 := BitVec.ofNat 32 (i 1).val
  let v46 : Index := Scalar.indexCast arg1
  ![v46.toNat]
def k0_cond1 (v1 : BitVec 32) (v3 : BitVec 32) : BitVec 1 :=
  let v4 : BitVec 1 := Scalar.cmpi .sgt v3 v1
  let v5 : BitVec 32 := Scalar.extui v4
  let c0_i32 : BitVec 32 := 0#32
  let v6 : BitVec 1 := Scalar.cmpi .ne v5 c0_i32
  v6

def cc0_transform_0 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S12) ![v0.toNat] S1.size (k0_off1_inb i)) numel1_S1
  let v2 : Index := Scalar.indexCast arg1
  let v3 : BitVec 32 := pf.at 3 (Rect.unit (s := S12) ![v2.toNat] S1.size (k0_off1_inb i)) numel1_S1
  let v4 : Index := Scalar.indexCast arg1
  let v5 : BitVec 32 := pf.at 2 (Rect.unit (s := S12) ![v4.toNat] S1.size (k0_off1_inb i)) numel1_S1
  let v6 : BitVec 1 := Scalar.cmpi .sgt v3 v5
  let c0_i32 : BitVec 32 := 0#32
  let v7 : BitVec 32 := Scalar.select v6 arg2 c0_i32
  let c0_i32_0 : BitVec 32 := 0#32
  ![v1.toNat, v7.toNat]

def cc0_transform_1 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S12) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 3 (Rect.unit (s := S12) ![v0.toNat] S1.size (k0_off1_inb i)) numel1_S1
  let v2 : Index := Scalar.indexCast arg1
  let v3 : BitVec 32 := pf.at 2 (Rect.unit (s := S12) ![v2.toNat] S1.size (k0_off1_inb i)) numel1_S1
  let v4 : BitVec 1 := Scalar.cmpi .sgt v1 v3
  let c0_i32 : BitVec 32 := 0#32
  let v5 : BitVec 32 := Scalar.select v4 arg2 c0_i32
  let c0_i32_0 : BitVec 32 := 0#32
  ![v5.toNat, arg0.toNat]

def cc0_transform_3 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 3 (Rect.unit (s := S12) ![v0.toNat] S1.size (k0_off1_inb i)) numel1_S1
  let v2 : Index := Scalar.indexCast arg1
  let v3 : BitVec 32 := pf.at 2 (Rect.unit (s := S12) ![v2.toNat] S1.size (k0_off1_inb i)) numel1_S1
  let v4 : BitVec 1 := Scalar.cmpi .sgt v1 v3
  let c0_i32 : BitVec 32 := 0#32
  let v5 : BitVec 32 := Scalar.select v4 arg2 c0_i32
  let c0_i32_0 : BitVec 32 := 0#32
  ![v5.toNat, arg0.toNat]

def cc0_transform_4 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 1 (Rect.unit (s := S12) ![v0.toNat] S1.size (k0_off1_inb i)) numel1_S1
  let v2 : Index := Scalar.indexCast arg1
  let v3 : BitVec 32 := pf.at 3 (Rect.unit (s := S12) ![v2.toNat] S1.size (k0_off1_inb i)) numel1_S1
  let v4 : Index := Scalar.indexCast arg1
  let v5 : BitVec 32 := pf.at 2 (Rect.unit (s := S12) ![v4.toNat] S1.size (k0_off1_inb i)) numel1_S1
  let v6 : BitVec 1 := Scalar.cmpi .sgt v3 v5
  let c0_i32 : BitVec 32 := 0#32
  let v7 : BitVec 32 := Scalar.select v6 arg2 c0_i32
  let c0_i32_0 : BitVec 32 := 0#32
  ![v1.toNat, v7.toNat, arg0.toNat]

def cc0_transform_5 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 1 (Rect.unit (s := S12) ![v0.toNat] S1.size (k0_off1_inb i)) numel1_S1
  let v2 : Index := Scalar.indexCast arg1
  let v3 : BitVec 32 := pf.at 3 (Rect.unit (s := S12) ![v2.toNat] S1.size (k0_off1_inb i)) numel1_S1
  let v4 : Index := Scalar.indexCast arg1
  let v5 : BitVec 32 := pf.at 2 (Rect.unit (s := S12) ![v4.toNat] S1.size (k0_off1_inb i)) numel1_S1
  let v6 : BitVec 1 := Scalar.cmpi .sgt v3 v5
  let c0_i32 : BitVec 32 := 0#32
  let v7 : BitVec 32 := Scalar.select v6 arg2 c0_i32
  let c0_i32_0 : BitVec 32 := 0#32
  ![v1.toNat, v7.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 1 (Rect.unit (s := S12) ![v0.toNat] S1.size (k0_off1_inb i)) numel1_S1
  let c0_i32 : BitVec 32 := 0#32
  let c0_i32_0 : BitVec 32 := 0#32
  ![v1.toNat, c0_i32.toNat, arg0.toNat]

def cc0_transform_8 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S12) ![v0.toNat] S1.size (k0_off1_inb i)) numel1_S1
  let c0_i32 : BitVec 32 := 0#32
  ![v1.toNat, arg0.toNat]

abbrev stage0_0 : Fin 2 → Memref sig .tc .vmem S512x1152 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1152x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S18x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1152x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x18x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceCIdeal.lean ====
abbrev S6 : Shape := ⟨1, ![6]⟩
abbrev S4096x1152 : Shape := ⟨2, ![4096, 1152]⟩
abbrev S4096x1 : Shape := ⟨2, ![4096, 1]⟩
abbrev S1152x256 : Shape := ⟨2, ![1152, 256]⟩
abbrev S18x256 : Shape := ⟨2, ![18, 256]⟩
abbrev S5x1152x256 : Shape := ⟨3, ![5, 1152, 256]⟩
abbrev S5x18x256 : Shape := ⟨3, ![5, 18, 256]⟩
abbrev S256 : Shape := ⟨1, ![256]⟩
abbrev S5x256 : Shape := ⟨2, ![5, 256]⟩
abbrev S1x256 : Shape := ⟨2, ![1, 256]⟩
abbrev S5x1x256 : Shape := ⟨3, ![5, 1, 256]⟩
abbrev S4096x256 : Shape := ⟨2, ![4096, 256]⟩
abbrev S1 : Shape := ⟨1, ![1]⟩
abbrev S1x1152x256 : Shape := ⟨3, ![1, 1152, 256]⟩
abbrev S1x18x256 : Shape := ⟨3, ![1, 18, 256]⟩
abbrev S18x64x256 : Shape := ⟨3, ![18, 64, 256]⟩
abbrev S18x1x256 : Shape := ⟨3, ![18, 1, 256]⟩
abbrev S1x1x256 : Shape := ⟨3, ![1, 1, 256]⟩

abbrev nBuf : Space → Nat
  | .hbm => 12
  | .vmem => 9
  | .smem => 1
  | _ => 0

abbrev bufTy : (tb : Table) → Fin (tcTables nBuf tb) → BufTy
  | .hbm, ⟨0, _⟩ => ⟨S6, .i32⟩
  | .hbm, ⟨1, _⟩ => ⟨S4096x1152, .fp8e4m3⟩
  | .hbm, ⟨2, _⟩ => ⟨S4096x1, .f32⟩
  | .hbm, ⟨3, _⟩ => ⟨S1152x256, .fp8e4m3⟩
  | .hbm, ⟨4, _⟩ => ⟨S18x256, .f32⟩
  | .hbm, ⟨5, _⟩ => ⟨S5x1152x256, .fp8e4m3⟩
  | .hbm, ⟨6, _⟩ => ⟨S5x18x256, .f32⟩
  | .hbm, ⟨7, _⟩ => ⟨S256, .f32⟩
  | .hbm, ⟨8, _⟩ => ⟨S5x256, .f32⟩
  | .hbm, ⟨9, _⟩ => ⟨S1x256, .f32⟩
  | .hbm, ⟨10, _⟩ => ⟨S5x1x256, .f32⟩
  | .hbm, ⟨11, _⟩ => ⟨S4096x256, .bf16⟩
  | .local _ .vmem, ⟨0, _⟩ => ⟨S4096x1152, .fp8e4m3⟩
  | .local _ .vmem, ⟨1, _⟩ => ⟨S4096x1, .f32⟩
  | .local _ .vmem, ⟨2, _⟩ => ⟨S1152x256, .fp8e4m3⟩
  | .local _ .vmem, ⟨3, _⟩ => ⟨S18x256, .f32⟩
  | .local _ .vmem, ⟨4, _⟩ => ⟨S5x1152x256, .fp8e4m3⟩
  | .local _ .vmem, ⟨5, _⟩ => ⟨S5x18x256, .f32⟩
  | .local _ .vmem, ⟨6, _⟩ => ⟨S1x256, .f32⟩
  | .local _ .vmem, ⟨7, _⟩ => ⟨S5x1x256, .f32⟩
  | .local _ .vmem, ⟨8, _⟩ => ⟨S4096x256, .bf16⟩
  | .local _ .smem, ⟨0, _⟩ => ⟨S6, .i32⟩
  | _, _ => ⟨S6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x1152x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x18x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Body.lean ====
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a twelve-word table the body reads at grid point `i`. -/
abbrev wordIdx (i : grid0.Coords) : S12.Idx :=
  (Rect.unit (s := S12) (k0_off1 i) S1.size (k0_off1_inb i)).emb (Shape.Idx.first (numel1_S1.symm ▸ Nat.one_pos))

/-- The body's test for a first step, as a fact about the step's number; -/
theorem first_step (i : grid0.Coords) :
    (Scalar.cmpi .ne (Scalar.extui (Scalar.cmpi .eq (BitVec.ofNat 32 (i 2).val) 0#32) : BitVec 32) 0#32 = 1#1) = ((i 2).val = 0) := by
  have h : ∀ n : Fin 16, (Scalar.cmpi .ne (Scalar.extui (Scalar.cmpi .eq (BitVec.ofNat 32 n.val) 0#32) : BitVec 32) 0#32 = 1#1) = (n.val = 0) := by
    decide
  exact h (i 2)

/-- for a later one; -/
theorem later_step (i : grid0.Coords) :
    (Scalar.cmpi .ne (Scalar.extui (Scalar.cmpi .sgt (BitVec.ofNat 32 (i 2).val) 0#32) : BitVec 32) 0#32 = 1#1) = ¬ ((i 2).val = 0) := by
  have h : ∀ n : Fin 16, (Scalar.cmpi .ne (Scalar.extui (Scalar.cmpi .sgt (BitVec.ofNat 32 n.val) 0#32) : BitVec 32) 0#32 = 1#1) = ¬ (n.val = 0) := by
    decide
  exact h (i 2)

/-- and for the last. -/
theorem last_step (i : grid0.Coords) : (k0_cond4 i = 1#1) = ((i 2).val = 15) := by
  have h : ∀ n : Fin 16, (Scalar.cmpi .ne (Scalar.extui (Scalar.cmpi .eq (BitVec.ofNat 32 n.val) 15#32) : BitVec 32) 0#32 = 1#1) = (n.val = 15) := by
    decide
  exact h (i 2)

/-- What the accumulator holds after the body at point `i`: at an item with no rows what it held; at a live item the
    step's product, alone at the first step and added to what was there at the later ones. -/
def accNext (lo hi : BitVec 32) (i : grid0.Coords) (x7 : Vec F S512x1024 .fp8e4m3) (x9 : Vec F S1024x1024 .fp8e4m3)
    (x10 : Vec F S16x1024 .f32) (x11 : Vec F S1x1024x1024 .fp8e4m3) (x12 : Vec F S1x16x1024 .f32) (acc : Vec F S512x1024 .f32) :
    Vec F S512x1024 .f32 :=
  if k0_cond1 lo hi = 1#1 then
    if (i 2).val = 0 then k0_pay2 x10 x12 x9 x11 x7 else k0_pay3 x10 x12 x9 x11 x7 acc
  else acc

/-- What the output block holds after the body at point `i`: at a live item's last step the item's rows are replaced,
    at every other point it is what it was. -/
def outNext (lo hi : BitVec 32) (i : grid0.Coords) (tile : BitVec 32) (x7 : Vec F S512x1024 .fp8e4m3) (x8 : Vec F S512x1 .f32)
    (x9 : Vec F S1024x1024 .fp8e4m3) (x10 : Vec F S16x1024 .f32) (x11 : Vec F S1x1024x1024 .fp8e4m3) (x12 : Vec F S1x16x1024 .f32)
    (x13 : Vec F S1x1024 .f32) (x14 : Vec F S1x1x1024 .f32) (out acc : Vec F S512x1024 .f32) : Vec F S512x1024 .f32 :=
  if k0_cond1 lo hi = 1#1 then
    if (i 2).val = 15 then k0_pay4 lo hi (accNext lo hi i x7 x9 x10 x11 x12 acc) x8 x13 x14 tile out else out
  else out

set_option maxHeartbeats 8000000 in
/-- The body at grid point `i` on whole memrefs: the tables and the inputs keep their contents, the accumulator and the
    output block step to `accNext` and `outNext`. -/
theorem body_step (c : Dev nD) (i : grid0.Coords) (q : PosShare TreeShare) (arg3 : Memref sig .tc .smem S12 .i32) (harg3 : arg3.IsWhole) (arg4 : Memref sig .tc .smem S12 .i32) (harg4 : arg4.IsWhole) (arg5 : Memref sig .tc .smem S12 .i32) (harg5 : arg5.IsWhole) (arg6 : Memref sig .tc .smem S12 .i32) (harg6 : arg6.IsWhole) (arg7 : Memref sig .tc .vmem S512x1024 .fp8e4m3) (harg7 : arg7.IsWhole) (arg8 : Memref sig .tc .vmem S512x1 .f32) (harg8 : arg8.IsWhole) (arg9 : Memref sig .tc .vmem S1024x1024 .fp8e4m3) (harg9 : arg9.IsWhole) (arg10 : Memref sig .tc .vmem S16x1024 .f32) (harg10 : arg10.IsWhole) (arg11 : Memref sig .tc .vmem S1x1024x1024 .fp8e4m3) (harg11 : arg11.IsWhole) (arg12 : Memref sig .tc .vmem S1x16x1024 .f32) (harg12 : arg12.IsWhole) (arg13 : Memref sig .tc .vmem S1x1024 .f32) (harg13 : arg13.IsWhole) (arg14 : Memref sig .tc .vmem S1x1x1024 .f32) (harg14 : arg14.IsWhole) (arg15 : Memref sig .tc .vmem S512x1024 .f32) (harg15 : arg15.IsWhole) (arg16 : Memref sig .tc .vmem S512x1024 .f32) (harg16 : arg16.IsWhole)
    (x3 : Vec F S12 .i32) (x4 : Vec F S12 .i32) (x5 : Vec F S12 .i32) (x6 : Vec F S12 .i32) (x7 : Vec F S512x1024 .fp8e4m3) (x8 : Vec F S512x1 .f32) (x9 : Vec F S1024x1024 .fp8e4m3) (x10 : Vec F S16x1024 .f32) (x11 : Vec F S1x1024x1024 .fp8e4m3) (x12 : Vec F S1x16x1024 .f32) (x13 : Vec F S1x1024 .f32) (x14 : Vec F S1x1x1024 .f32) (x15 : Vec F S512x1024 .f32) (x16 : Vec F S512x1024 .f32)
    (E : Set ℕ) (K : PUnit → sProp 𝕄) :
    iprop(owns (c : Thread nD τ) arg3 q x3 ∗ owns (c : Thread nD τ) arg4 q x4 ∗ owns (c : Thread nD τ) arg5 q x5 ∗ owns (c : Thread nD τ) arg6 q x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg3 q x3 ∗ owns (c : Thread nD τ) arg4 q x4 ∗ owns (c : Thread nD τ) arg5 q x5 ∗ owns (c : Thread nD τ) arg6 q x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (outNext (x5 (wordIdx i)) (x6 (wordIdx i)) i (x3 (wordIdx i)) x7 x8 x9 x10 x11 x12 x13 x14 x15 x16) ∗ owns (c : Thread nD τ) arg16 fullShare (accNext (x5 (wordIdx i)) (x6 (wordIdx i)) i x7 x9 x10 x11 x12 x16)) -∗ K ⟨⟩))
      ⊢ wp frame (wpE (defs₀ (F := F)) Variants.none c none) E (cc0_star1 i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_star1_eq_skeleton]; unfold cc0_star1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  have h3 : ∀ h : _, View.readAt (Elt F) arg3.view (Rect.unit (s := S12) (k0_off2 i) S1.size h).toLoadRect (harg3.unread x3)
      (Shape.Idx.first (numel1_S1.symm ▸ Nat.one_pos)) = x3 (wordIdx i) := fun _ => congrFun hf3 (wordIdx i)
  have h5 : View.readAt (Elt F) arg5.view (Rect.unit (s := S12) (k0_off1 i) S1.size (k0_off1_inb i)).toLoadRect (harg5.unread x5)
      (Shape.Idx.first (numel1_S1.symm ▸ Nat.one_pos)) = x5 (wordIdx i) := congrFun hf5 (wordIdx i)
  have h6 : View.readAt (Elt F) arg6.view (Rect.unit (s := S12) (k0_off1 i) S1.size (k0_off1_inb i)).toLoadRect (harg6.unread x6)
      (Shape.Idx.first (numel1_S1.symm ▸ Nat.one_pos)) = x6 (wordIdx i) := congrFun hf6 (wordIdx i)
  have steps : (((i 2).val = 0) = True ∧ ((i 2).val = 15) = False) ∨ (((i 2).val = 0) = False ∧ ((i 2).val = 15) = True)
      ∨ (((i 2).val = 0) = False ∧ ((i 2).val = 15) = False) := by
    by_cases h0 : (i 2).val = 0
    · exact .inl ⟨eq_true h0, eq_false (by omega)⟩
    · by_cases h15 : (i 2).val = 15
      · exact .inr (.inl ⟨eq_false h0, eq_true h15⟩)
      · exact .inr (.inr ⟨eq_false h0, eq_false h15⟩)
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; rotate_left
    · iexact H15
    · ipureintro
      repeat (first | unfold body_step.sl.r | unfold body_step.sl.r_1 | unfold body_step.sl.r_2 | unfold body_step.sl.v35_1 | unfold body_step.sl.v35 | unfold body_step.sl.v31 | unfold body_step.sl.v28 | unfold body_step.sl.v30 | unfold body_step.sl.v27 | unfold body_step.sl.v26 | unfold body_step.sl.v29)
      unfold outNext accNext
      by_cases hl : k0_cond1 (x5 (wordIdx i)) (x6 (wordIdx i)) = 1#1
      · rcases steps with ⟨e0, e15⟩ | ⟨e0, e15⟩ | ⟨e0, e15⟩ <;>
          simp -proj only [h3, h5, h6, first_step, later_step, last_step, hl, e0, e15, not_true_eq_false, not_false_eq_true, dite_true, dite_false, ite_true, ite_false, eq_self, View.readAt_full, View.read_writes_full, hf7, hf8, hf9, hf10, hf11, hf12, hf13, hf14, hf15, hf16]
      · simp -proj only [h5, h6, hl, dite_false, ite_false, hf15, hf16]
  iexists _; isplitr; rotate_left
  · iexact H16
  · ipureintro
    repeat (first | unfold body_step.sl.r | unfold body_step.sl.r_1 | unfold body_step.sl.v35 | unfold body_step.sl.v31 | unfold body_step.sl.v28 | unfold body_step.sl.v30 | unfold body_step.sl.v27 | unfold body_step.sl.v26 | unfold body_step.sl.v29)
    unfold accNext
    by_cases hl : k0_cond1 (x5 (wordIdx i)) (x6 (wordIdx i)) = 1#1
    · rcases steps with ⟨e0, e15⟩ | ⟨e0, e15⟩ | ⟨e0, e15⟩ <;>
        simp -proj only [h3, h5, h6, first_step, later_step, last_step, hl, e0, e15, not_true_eq_false, not_false_eq_true, dite_true, dite_false, ite_true, ite_false, eq_self, View.readAt_full, View.read_writes_full, hf7, hf8, hf9, hf10, hf11, hf12, hf13, hf14, hf15, hf16]
    · simp -proj only [h5, h6, hl, dite_false, ite_false, hf15, hf16]

end Cert.Kernel.Gen
-- ==== Proof.Items.lean ====
module

public import Idealize.ShloMosaic.Lib.SortFacts
public import Idealize.ShloMosaic.Lib.StableHlo.ReadAt
public import Idealize.ShloMosaic.Lib.StableHlo.Predicate
public import Idealize.ShloMosaic.Lib.DynamicIndex

/-!
The work items of the kernel, as functions of the six domain offsets. There are 8 tiles of 512 rows and 5 domains;
the pair (tile, domain) is numbered `tile * 5 + domain`. A pair is live where its rows form a non-empty interval.
The live pairs come first, in increasing order, in `order`; slot `x` of the 12 slots holds the pair `pick x`.
-/

@[expose] public section

set_option maxRecDepth 16384

noncomputable section

namespace Cert.Items

open Idealize.ShloMosaic

/-- The first row of pair `p`. -/
@[irreducible] def rowLo (off : Fin 6 → BitVec 32) (p : Fin 40) : BitVec 32 :=
  IntOp.maxsi (off ⟨p.val % 5, by omega⟩) (IntOp.muli (BitVec.ofNat 32 (p.val / 5)) 512#32)

/-- The row after the last one of pair `p`. -/
@[irreducible] def rowHi (off : Fin 6 → BitVec 32) (p : Fin 40) : BitVec 32 :=
  IntOp.minsi (off ⟨1 + p.val % 5, by omega⟩) (IntOp.addi (IntOp.muli (BitVec.ofNat 32 (p.val / 5)) 512#32) 512#32)

/-- Whether pair `p` has rows, as a one-bit word. -/
@[irreducible] def live (off : Fin 6 → BitVec 32) (p : Fin 40) : BitVec 1 := IntOp.cmpi .sgt (rowHi off p) (rowLo off p)

/-- The pairs, the live ones first. -/
@[irreducible] def order (off : Fin 6 → BitVec 32) : Fin 40 → Fin 40 :=
  sortedFrom fun k k' => IntOp.cmpi .ult (~~~ (live off k)) (~~~ (live off k')) == 1#1

/-- The slot's number cut down to the last live one, wrapped as jnp's indexing wraps it, and clamped. -/
@[irreducible] def slot (count : BitVec 32) (x : Nat) : Fin 12 :=
  ⟨min (Scalar.select (IntOp.cmpi .slt (IntOp.minsi (BitVec.ofNat 32 x) (IntOp.subi count 1#32)) 0#32)
      (IntOp.addi (IntOp.minsi (BitVec.ofNat 32 x) (IntOp.subi count 1#32)) 12#32)
      (IntOp.minsi (BitVec.ofNat 32 x) (IntOp.subi count 1#32))).toInt.toNat 11, by omega⟩

/-- The pair slot `x` holds, with `count` live pairs. -/
@[irreducible] def pick (off : Fin 6 → BitVec 32) (count : BitVec 32) (x : Nat) : Fin 40 :=
  order off ⟨(slot count x).val, by have := (slot count x).isLt; omega⟩

/-- The quotient by 5 as jnp computes it on words. -/
theorem div5 (p : Fin 40) :
    (let a := BitVec.ofNat 32 p.val
     Scalar.select (IntOp.andi (IntOp.cmpi .ne (if a = 0 then (0 : BitVec 32) else if a.msb = true then -1 else 1)
        (if 5#32 = 0 then (0 : BitVec 32) else if (5#32).msb = true then -1 else 1))
        (IntOp.cmpi .ne (IntOp.remsi ArithUnit.host a 5#32) 0#32))
      (IntOp.subi (IntOp.divsi ArithUnit.host a 5#32) 1#32) (IntOp.divsi ArithUnit.host a 5#32))
    = BitVec.ofNat 32 (p.val / 5) := by
  revert p; decide +kernel

/-- The remainder by 5 as jnp computes it on words. -/
theorem mod5 (p : Fin 40) :
    (let a := BitVec.ofNat 32 p.val
     Scalar.select (IntOp.andi (IntOp.cmpi .ne (IntOp.cmpi .slt (IntOp.remsi ArithUnit.host a 5#32) 0#32) (IntOp.cmpi .slt 5#32 0#32))
        (IntOp.cmpi .ne (IntOp.remsi ArithUnit.host a 5#32) 0#32))
      (IntOp.addi (IntOp.remsi ArithUnit.host a 5#32) 5#32) (IntOp.remsi ArithUnit.host a 5#32))
    = BitVec.ofNat 32 (p.val % 5) := by
  revert p; decide +kernel

/-- A pair's number is not negative, so jnp's wrap leaves it. -/
theorem wrap40 (p : Fin 40) :
    (Scalar.select (IntOp.cmpi .slt (BitVec.ofNat 32 p.val) 0#32) (IntOp.addi (BitVec.ofNat 32 p.val) 40#32)
      (BitVec.ofNat 32 p.val)) = BitVec.ofNat 32 p.val := by
  revert p; decide +kernel

theorem clamp40 (p : Fin 40) : min (BitVec.ofNat 32 p.val).toInt.toNat (40 - 1) = p.val := by
  revert p; decide +kernel

end Cert.Items
-- ==== Proof.Takes.lean ====
module

public import proofs.«01_k».proof.Proof.Items
public import Idealize.ShloMosaic.Lib.Pipeline.Kit

/-!
Facts that name no printed program, shared by the calls: takes and sorts of vectors, and blocks of whole words.
-/

@[expose] public section

set_option maxRecDepth 16384
set_option backward.proofsInPublic true

noncomputable section

namespace Cert.Shared

open Idealize.ShloMosaic

/-- A take from a vector at a column of positions. -/
theorem take_at {N n : Nat} (d : GatherDims ⟨1, ![N]⟩ ⟨2, ![n, 1]⟩ ⟨1, ![n]⟩) (h1 : d.collapsedSliceDims = [0])
    (h2 : d.operandBatchingDims = []) (h3 : d.startIndexMap = [0]) (h4 : d.indexVectorDim = 1) {α : Type}
    (v : (⟨1, ![N]⟩ : Shape).Idx → α) (ix : (⟨1, ![n]⟩ : Shape).Idx → BitVec 32) (hb) (x : (⟨1, ![n]⟩ : Shape).Idx) (hN : 0 < N) :
    Host.gather d v (broadcastInDim (s := ⟨1, ![n]⟩) ⟨2, ![n, 1]⟩ ![0] hb ix) x
      = v (Shape.Idx.ofFin ⟨min (ix x).toInt.toNat (N - 1), by omega⟩) := by
  obtain ⟨p, rfl⟩ : ∃ p, x = Shape.Idx.ofFin p := ⟨x 0, Shape.Idx.eq_ofFin x⟩
  rw [StableHlo.Predicate.gather_take d h1 h2 h3 h4 v _ p hN]
  have e : broadcastInDim (s := ⟨1, ![n]⟩) ⟨2, ![n, 1]⟩ ![0] hb ix (StableHlo.Predicate.ixP p) = ix (Shape.Idx.ofFin p) := by
    unfold broadcastInDim
    refine congrArg ix (funext fun a => ?_)
    obtain rfl : a = 0 := Subsingleton.elim _ _
    refine Fin.ext ?_
    dsimp only
    split
    · rename_i h
      have hn : n = 1 := h
      have := p.isLt
      show 0 = p.val
      omega
    · rfl
  refine congrArg v (congrArg Shape.Idx.ofFin (Fin.ext ?_))
  show min _ _ = min _ _
  rw [e]

/-- A two-operand sort of vectors reads the second one through one self-map of the positions. -/
theorem sort2_vec {n : Nat} {α β : Type} (cmp : α × β → α × β → BitVec 1) (u : (⟨1, ![n]⟩ : Shape).Idx → α)
    (v : (⟨1, ![n]⟩ : Shape).Idx → β) (j : (⟨1, ![n]⟩ : Shape).Idx) :
    (Host.sort2 ⟨1, ![n]⟩ 0 cmp u v).2 j
      = v (Shape.Idx.ofFin (sortedFrom (fun k k' => cmp (u (Shape.Idx.ofFin k), v (Shape.Idx.ofFin k))
          (u (Shape.Idx.ofFin k'), v (Shape.Idx.ofFin k')) == 1#1) (j 0))) := by
  unfold Host.sort2
  simp

/-- A block of a matrix of narrow elements, `k` to a word, whose rows come in `k`s is made of whole words. -/
theorem whole_words2 {A B p q a b k : Nat} (h) (hp : k ∣ p) :
    (Rect.block (s := ⟨2, ![A, B]⟩) ![p, q] ![a, b] h).WholeWords k :=
  .inl (.inr ⟨Nat.le_refl 2, rfl, .inl ⟨Dvd.dvd.mul_left hp a, hp⟩⟩)

theorem whole_words3 {A B C p q r a b d k : Nat} (h) (hq : k ∣ q) :
    (Rect.block (s := ⟨3, ![A, B, C]⟩) ![p, q, r] ![a, b, d] h).WholeWords k :=
  .inl (.inr ⟨(Nat.le_succ 2 : 2 ≤ 3), rfl, .inl ⟨Dvd.dvd.mul_left hq b, hq⟩⟩)

end Cert.Shared
-- ==== Proof.Tables.lean ====
module

public import proofs.«01_k».proof.Proof.Gen.Kernel.Launch
public import proofs.«01_k».proof.Proof.Items
public import proofs.«01_k».proof.Proof.Takes

/-!
The four prefetched tables, read off the host operations before the launch: slot `x` holds the pair
`Items.pick … x`; the tables are its tile, its domain, and the first and last row of its interval (both 0 for a slot
past the live pairs). Each stretch of host operations is read by itself, over any contents before it.
-/

@[expose] public section

set_option maxRecDepth 16384
set_option backward.proofsInPublic true

noncomputable section

namespace Cert.Kernel.Gen

open Cert.Shared Idealize.ShloMosaic Idealize.ShloMosaic.TcCoe

variable {F : FTy → Type} [FloatOps F] (W : Valuation τ sig (Elt F))

/-- The six offsets in the contents `W`. -/
def offs (W : Valuation τ sig (Elt F)) (k : Fin 6) : BitVec 32 := (W main_arg0 : S6.Idx → BitVec 32) (ix1 k)

/-- The live bits of the pairs, as the array the host holds. -/
def liveArr (W : Valuation τ sig (Elt F)) : S40.Idx → BitVec 1 := fun x => Items.live (offs W) (x 0)

/-- The number of live pairs, as the host sums it. -/
def liveCount (w : S40.Idx → BitVec 1) : BitVec 32 :=
  Host.reduce IntOp.addi (extui 32 w natLt_1_32) (constantI S_ 32 0#32) reducesTo_S40_S_d0 h_S_ Idealize.ShloMosaic.ix0

/-- The stable sort of the pairs by the word `w`, as a self-map of their numbers. -/
@[irreducible] def orderBy (w : S40.Idx → BitVec 1) : Fin 40 → Fin 40 :=
  sortedFrom fun k k' => IntOp.cmpi .ult (w (Shape.Idx.ofFin k)) (w (Shape.Idx.ofFin k')) == 1#1

theorem orderBy_live : orderBy (fun x => ~~~ (liveArr W x)) = Items.order (offs W) := by
  unfold orderBy Items.order
  simp only [liveArr, Shape.Idx.ofFin_zero]

theorem read_v18 (x : S40.Idx) : (StableHlo.after (hostOps0 (F := F)) W main_v18 : S40.Idx → BitVec 1) x = liveArr W x := by
  after_reads_at
  unfold liveArr Items.live Items.rowHi Items.rowLo
  rfl
theorem read_v19 (x : S40.Idx) : (StableHlo.after (hostOps0 (F := F)) W main_v19 : S40.Idx → BitVec 1) x = ~~~ (liveArr W x) := by
  after_reads_at
  unfold liveArr Items.live Items.rowHi Items.rowLo
  rfl
theorem read_v9 (k : Fin 40) : (StableHlo.after (hostOps0 (F := F)) W main_v9 : S40.Idx → BitVec 32) (Shape.Idx.ofFin k) = Items.rowLo (offs W) k := by
  after_reads_at
  unfold Items.rowLo
  rfl
theorem read_v17 (k : Fin 40) : (StableHlo.after (hostOps0 (F := F)) W main_v17 : S40.Idx → BitVec 32) (Shape.Idx.ofFin k) = Items.rowHi (offs W) k := by
  after_reads_at
  unfold Items.rowHi
  rfl

theorem sort40 (u : S40.Idx → BitVec 1) (k : Fin 40) :
    (Host.sort2 S40 0 comparator_i1_i32_d0 u (iotaInDim S40 32 0)).2 (Shape.Idx.ofFin k) = BitVec.ofNat 32 (orderBy u k).val := by
  have e : (Host.sort2 S40 0 comparator_i1_i32_d0 u (iotaInDim S40 32 0)).2 (Shape.Idx.ofFin k) = _ :=
    sort2_vec (n := 40) comparator_i1_i32_d0 u (iotaInDim S40 32 0) (Shape.Idx.ofFin k)
  rw [e]
  unfold orderBy iotaInDim
  simp only [Shape.Idx.ofFin_zero, comparator_i1_i32_d0]

set_option backward.isDefEq.respectTransparency.types false in
theorem read_v20 (w : S40.Idx → BitVec 1) (h : (W main_v19 : S40.Idx → BitVec 1) = w) (k : Fin 40) :
    (StableHlo.after (hostOps0_1 (F := F)) W main_v20 : S40.Idx → BitVec 32) (Shape.Idx.ofFin k)
      = BitVec.ofNat 32 (orderBy w k).val := by
  subst h
  after_reads_simp
  simp only [StableHlo.TRef.toBuf, StableHlo.TRef.ofBuf, cast_cast, cast_eq]
  have e := sort40 (W main_v19) k
  generalize orderBy (W main_v19) k = z at e ⊢
  exact e

theorem read_v34 (x : S12.Idx) (g : Fin 40 → Fin 40) (h : ∀ k, (W main_v20 : S40.Idx → BitVec 32) (Shape.Idx.ofFin k) = BitVec.ofNat 32 (g k).val) :
    (StableHlo.after (hostOps0_2 (F := F)) W main_v34 : S12.Idx → BitVec 32) x
      = BitVec.ofNat 32 (g ⟨(Items.slot (liveCount (W main_v18)) (x 0).val).val, by have := (Items.slot (liveCount (W main_v18)) (x 0).val).isLt; omega⟩).val := by
  after_reads_at
  refine (take_at gather_S12_S12x1_S12_n_0_n_n_0_1_1 rfl rfl rfl rfl _ _ _ x (by decide)).trans ?_
  refine Eq.trans ?_ (h _)
  unfold extractStridedSlice
  refine congrArg (W main_v20 : S40.Idx → BitVec 32) (funext fun a => ?_)
  obtain rfl : a = 0 := Subsingleton.elim _ _
  refine Fin.ext ?_
  refine (Nat.zero_add _).trans ?_
  have e : ∀ a b : S_.Idx, a = b := fun a b => funext fun i => i.elim0
  show min _ _ = _
  unfold Items.slot liveCount
  simp only [select, cmpi, addi, minsi, subi, iotaInDim, constantI]
  rfl
theorem read_v37 (x : S12.Idx) : (StableHlo.after (hostOps0_2 (F := F)) W main_v37 : S12.Idx → BitVec 1) x
    = IntOp.cmpi .sge (BitVec.ofNat 32 (x 0).val) (liveCount (W main_v18)) := by
  after_reads_at
  rfl
theorem read_c5 (x : S_.Idx) : (StableHlo.after (hostOps0_2 (F := F)) W main_c_5 : S_.Idx → BitVec 32) x = 5#32 := by
  after_reads_at
theorem read_c6 (x : S_.Idx) : (StableHlo.after (hostOps0_4 (F := F)) W main_c_6 : S_.Idx → BitVec 32) x = 5#32 := by
  after_reads_at
theorem read_c9 (x : S_.Idx) : (StableHlo.after (hostOps0_6 (F := F)) W main_c_9 : S_.Idx → BitVec 32) x = 0#32 := by
  after_reads_at
theorem read_c12 (x : S_.Idx) : (StableHlo.after (hostOps0_8 (F := F)) W main_c_12 : S_.Idx → BitVec 32) x = 0#32 := by
  after_reads_at
theorem read_v38 (x : S12.Idx) (p : Fin 40) (hp : (W main_v34 : S12.Idx → BitVec 32) x = BitVec.ofNat 32 p.val)
    (hc : (W main_c_5 : S_.Idx → BitVec 32) Idealize.ShloMosaic.ix0 = 5#32) :
    (StableHlo.after (hostOps0_3 (F := F)) W main_v38 : S12.Idx → BitVec 32) x = BitVec.ofNat 32 (p.val / 5) := by
  after_reads_at
  simp only [id, hp, hc]
  exact Items.div5 p
theorem read_v39 (x : S12.Idx) (p : Fin 40) (hp : (W main_v34 : S12.Idx → BitVec 32) x = BitVec.ofNat 32 p.val)
    (hc : (W main_c_6 : S_.Idx → BitVec 32) Idealize.ShloMosaic.ix0 = 5#32) :
    (StableHlo.after (hostOps0_5 (F := F)) W main_v39 : S12.Idx → BitVec 32) x = BitVec.ofNat 32 (p.val % 5) := by
  after_reads_at
  simp only [id, hp, hc]
  exact Items.mod5 p
theorem read_v46 (x : S12.Idx) (p : Fin 40) (hp : (W main_v34 : S12.Idx → BitVec 32) x = BitVec.ofNat 32 p.val) :
    (StableHlo.after (hostOps0_6 (F := F)) W main_v46 : S12.Idx → BitVec 32) x = (W main_v9 : S40.Idx → BitVec 32) (Shape.Idx.ofFin p) := by
  after_reads_at
  refine (take_at gather_S40_S12x1_S12_n_0_n_n_0_1_1 rfl rfl rfl rfl _ _ _ x (by decide)).trans ?_
  refine congrArg _ (congrArg Shape.Idx.ofFin (Fin.ext ?_))
  refine Eq.trans ?_ (Items.clamp40 p)
  refine congrArg (fun b : BitVec 32 => min b.toInt.toNat (40 - 1)) ?_
  refine Eq.trans ?_ (Items.wrap40 p)
  rw [← hp]
  rfl
theorem read_v54 (x : S12.Idx) (p : Fin 40) (hp : (W main_v34 : S12.Idx → BitVec 32) x = BitVec.ofNat 32 p.val) :
    (StableHlo.after (hostOps0_8 (F := F)) W main_v54 : S12.Idx → BitVec 32) x = (W main_v17 : S40.Idx → BitVec 32) (Shape.Idx.ofFin p) := by
  after_reads_at
  refine (take_at gather_S40_S12x1_S12_n_0_n_n_0_1_1 rfl rfl rfl rfl _ _ _ x (by decide)).trans ?_
  refine congrArg _ (congrArg Shape.Idx.ofFin (Fin.ext ?_))
  refine Eq.trans ?_ (Items.clamp40 p)
  refine congrArg (fun b : BitVec 32 => min b.toInt.toNat (40 - 1)) ?_
  refine Eq.trans ?_ (Items.wrap40 p)
  rw [← hp]
  rfl
theorem read_v47 (x : S12.Idx) (hc : (W main_c_9 : S_.Idx → BitVec 32) Idealize.ShloMosaic.ix0 = 0#32) :
    (StableHlo.after (hostOps0_7 (F := F)) W main_v47 : S12.Idx → BitVec 32) x
      = Scalar.select ((W main_v37 : S12.Idx → BitVec 1) x) 0#32 ((W main_v46 : S12.Idx → BitVec 32) x) := by
  after_reads_at
  simp only [id, hc]
theorem read_v55 (x : S12.Idx) (hc : (W main_c_12 : S_.Idx → BitVec 32) Idealize.ShloMosaic.ix0 = 0#32) :
    (StableHlo.after (hostOps0_9 (F := F)) W main_v55 : S12.Idx → BitVec 32) x
      = Scalar.select ((W main_v37 : S12.Idx → BitVec 1) x) 0#32 ((W main_v54 : S12.Idx → BitVec 32) x) := by
  after_reads_at
  simp only [id, hc]
theorem keep_v18_1 : StableHlo.after (hostOps0_1 (F := F)) W main_v18 = W main_v18 := by after_reads_simp
theorem keep_v9_1 : StableHlo.after (hostOps0_1 (F := F)) W main_v9 = W main_v9 := by after_reads_simp
theorem keep_v9_2 : StableHlo.after (hostOps0_2 (F := F)) W main_v9 = W main_v9 := by after_reads_simp
theorem keep_v9_3 : StableHlo.after (hostOps0_3 (F := F)) W main_v9 = W main_v9 := by after_reads_simp
theorem keep_v9_4 : StableHlo.after (hostOps0_4 (F := F)) W main_v9 = W main_v9 := by after_reads_simp
theorem keep_v9_5 : StableHlo.after (hostOps0_5 (F := F)) W main_v9 = W main_v9 := by after_reads_simp
theorem keep_v17_1 : StableHlo.after (hostOps0_1 (F := F)) W main_v17 = W main_v17 := by after_reads_simp
theorem keep_v17_2 : StableHlo.after (hostOps0_2 (F := F)) W main_v17 = W main_v17 := by after_reads_simp
theorem keep_v17_3 : StableHlo.after (hostOps0_3 (F := F)) W main_v17 = W main_v17 := by after_reads_simp
theorem keep_v17_4 : StableHlo.after (hostOps0_4 (F := F)) W main_v17 = W main_v17 := by after_reads_simp
theorem keep_v17_5 : StableHlo.after (hostOps0_5 (F := F)) W main_v17 = W main_v17 := by after_reads_simp
theorem keep_v17_6 : StableHlo.after (hostOps0_6 (F := F)) W main_v17 = W main_v17 := by after_reads_simp
theorem keep_v17_7 : StableHlo.after (hostOps0_7 (F := F)) W main_v17 = W main_v17 := by after_reads_simp
theorem keep_v34_3 : StableHlo.after (hostOps0_3 (F := F)) W main_v34 = W main_v34 := by after_reads_simp
theorem keep_v34_4 : StableHlo.after (hostOps0_4 (F := F)) W main_v34 = W main_v34 := by after_reads_simp
theorem keep_v34_5 : StableHlo.after (hostOps0_5 (F := F)) W main_v34 = W main_v34 := by after_reads_simp
theorem keep_v34_6 : StableHlo.after (hostOps0_6 (F := F)) W main_v34 = W main_v34 := by after_reads_simp
theorem keep_v34_7 : StableHlo.after (hostOps0_7 (F := F)) W main_v34 = W main_v34 := by after_reads_simp
theorem keep_v37_3 : StableHlo.after (hostOps0_3 (F := F)) W main_v37 = W main_v37 := by after_reads_simp
theorem keep_v37_4 : StableHlo.after (hostOps0_4 (F := F)) W main_v37 = W main_v37 := by after_reads_simp
theorem keep_v37_5 : StableHlo.after (hostOps0_5 (F := F)) W main_v37 = W main_v37 := by after_reads_simp
theorem keep_v37_6 : StableHlo.after (hostOps0_6 (F := F)) W main_v37 = W main_v37 := by after_reads_simp
theorem keep_v37_7 : StableHlo.after (hostOps0_7 (F := F)) W main_v37 = W main_v37 := by after_reads_simp
theorem keep_v37_8 : StableHlo.after (hostOps0_8 (F := F)) W main_v37 = W main_v37 := by after_reads_simp
theorem keep_v38_4 : StableHlo.after (hostOps0_4 (F := F)) W main_v38 = W main_v38 := by after_reads_simp
theorem keep_v38_5 : StableHlo.after (hostOps0_5 (F := F)) W main_v38 = W main_v38 := by after_reads_simp
theorem keep_v38_6 : StableHlo.after (hostOps0_6 (F := F)) W main_v38 = W main_v38 := by after_reads_simp
theorem keep_v38_7 : StableHlo.after (hostOps0_7 (F := F)) W main_v38 = W main_v38 := by after_reads_simp
theorem keep_v38_8 : StableHlo.after (hostOps0_8 (F := F)) W main_v38 = W main_v38 := by after_reads_simp
theorem keep_v38_9 : StableHlo.after (hostOps0_9 (F := F)) W main_v38 = W main_v38 := by after_reads_simp
theorem keep_v38_10 : StableHlo.after (hostOps0_10 (F := F)) W main_v38 = W main_v38 := by after_reads_simp
theorem keep_v39_6 : StableHlo.after (hostOps0_6 (F := F)) W main_v39 = W main_v39 := by after_reads_simp
theorem keep_v39_7 : StableHlo.after (hostOps0_7 (F := F)) W main_v39 = W main_v39 := by after_reads_simp
theorem keep_v39_8 : StableHlo.after (hostOps0_8 (F := F)) W main_v39 = W main_v39 := by after_reads_simp
theorem keep_v39_9 : StableHlo.after (hostOps0_9 (F := F)) W main_v39 = W main_v39 := by after_reads_simp
theorem keep_v39_10 : StableHlo.after (hostOps0_10 (F := F)) W main_v39 = W main_v39 := by after_reads_simp
theorem keep_v47_8 : StableHlo.after (hostOps0_8 (F := F)) W main_v47 = W main_v47 := by after_reads_simp
theorem keep_v47_9 : StableHlo.after (hostOps0_9 (F := F)) W main_v47 = W main_v47 := by after_reads_simp
theorem keep_v47_10 : StableHlo.after (hostOps0_10 (F := F)) W main_v47 = W main_v47 := by after_reads_simp
theorem keep_v55_10 : StableHlo.after (hostOps0_10 (F := F)) W main_v55 = W main_v55 := by after_reads_simp

/-- The host operations before the launch, in order. -/
abbrev hostAll : List (List (HloOp τ sig (Elt F))) :=
  [hostOps0, hostOps0_1, hostOps0_2, hostOps0_3, hostOps0_4, hostOps0_5, hostOps0_6, hostOps0_7, hostOps0_8, hostOps0_9, hostOps0_10]

/-- The contents after them, one stretch after the other. -/
def W0 : Valuation τ sig (Elt F) := StableHlo.after (hostOps0 (F := F)) W
def W1 : Valuation τ sig (Elt F) := StableHlo.after (hostOps0_1 (F := F)) (W0 W)
def W2 : Valuation τ sig (Elt F) := StableHlo.after (hostOps0_2 (F := F)) (W1 W)
def W3 : Valuation τ sig (Elt F) := StableHlo.after (hostOps0_3 (F := F)) (W2 W)
def W4 : Valuation τ sig (Elt F) := StableHlo.after (hostOps0_4 (F := F)) (W3 W)
def W5 : Valuation τ sig (Elt F) := StableHlo.after (hostOps0_5 (F := F)) (W4 W)
def W6 : Valuation τ sig (Elt F) := StableHlo.after (hostOps0_6 (F := F)) (W5 W)
def W7 : Valuation τ sig (Elt F) := StableHlo.after (hostOps0_7 (F := F)) (W6 W)
def W8 : Valuation τ sig (Elt F) := StableHlo.after (hostOps0_8 (F := F)) (W7 W)
def W9 : Valuation τ sig (Elt F) := StableHlo.after (hostOps0_9 (F := F)) (W8 W)
def W10 : Valuation τ sig (Elt F) := StableHlo.after (hostOps0_10 (F := F)) (W9 W)
theorem step_v18_1 : W1 W main_v18 = W0 W main_v18 := keep_v18_1 (W0 W)
theorem step_v9_1 : W1 W main_v9 = W0 W main_v9 := keep_v9_1 (W0 W)
theorem step_v9_2 : W2 W main_v9 = W1 W main_v9 := keep_v9_2 (W1 W)
theorem step_v9_3 : W3 W main_v9 = W2 W main_v9 := keep_v9_3 (W2 W)
theorem step_v9_4 : W4 W main_v9 = W3 W main_v9 := keep_v9_4 (W3 W)
theorem step_v9_5 : W5 W main_v9 = W4 W main_v9 := keep_v9_5 (W4 W)
theorem step_v17_1 : W1 W main_v17 = W0 W main_v17 := keep_v17_1 (W0 W)
theorem step_v17_2 : W2 W main_v17 = W1 W main_v17 := keep_v17_2 (W1 W)
theorem step_v17_3 : W3 W main_v17 = W2 W main_v17 := keep_v17_3 (W2 W)
theorem step_v17_4 : W4 W main_v17 = W3 W main_v17 := keep_v17_4 (W3 W)
theorem step_v17_5 : W5 W main_v17 = W4 W main_v17 := keep_v17_5 (W4 W)
theorem step_v17_6 : W6 W main_v17 = W5 W main_v17 := keep_v17_6 (W5 W)
theorem step_v17_7 : W7 W main_v17 = W6 W main_v17 := keep_v17_7 (W6 W)
theorem step_v34_3 : W3 W main_v34 = W2 W main_v34 := keep_v34_3 (W2 W)
theorem step_v34_4 : W4 W main_v34 = W3 W main_v34 := keep_v34_4 (W3 W)
theorem step_v34_5 : W5 W main_v34 = W4 W main_v34 := keep_v34_5 (W4 W)
theorem step_v34_6 : W6 W main_v34 = W5 W main_v34 := keep_v34_6 (W5 W)
theorem step_v34_7 : W7 W main_v34 = W6 W main_v34 := keep_v34_7 (W6 W)
theorem step_v37_3 : W3 W main_v37 = W2 W main_v37 := keep_v37_3 (W2 W)
theorem step_v37_4 : W4 W main_v37 = W3 W main_v37 := keep_v37_4 (W3 W)
theorem step_v37_5 : W5 W main_v37 = W4 W main_v37 := keep_v37_5 (W4 W)
theorem step_v37_6 : W6 W main_v37 = W5 W main_v37 := keep_v37_6 (W5 W)
theorem step_v37_7 : W7 W main_v37 = W6 W main_v37 := keep_v37_7 (W6 W)
theorem step_v37_8 : W8 W main_v37 = W7 W main_v37 := keep_v37_8 (W7 W)
theorem step_v38_4 : W4 W main_v38 = W3 W main_v38 := keep_v38_4 (W3 W)
theorem step_v38_5 : W5 W main_v38 = W4 W main_v38 := keep_v38_5 (W4 W)
theorem step_v38_6 : W6 W main_v38 = W5 W main_v38 := keep_v38_6 (W5 W)
theorem step_v38_7 : W7 W main_v38 = W6 W main_v38 := keep_v38_7 (W6 W)
theorem step_v38_8 : W8 W main_v38 = W7 W main_v38 := keep_v38_8 (W7 W)
theorem step_v38_9 : W9 W main_v38 = W8 W main_v38 := keep_v38_9 (W8 W)
theorem step_v38_10 : W10 W main_v38 = W9 W main_v38 := keep_v38_10 (W9 W)
theorem step_v39_6 : W6 W main_v39 = W5 W main_v39 := keep_v39_6 (W5 W)
theorem step_v39_7 : W7 W main_v39 = W6 W main_v39 := keep_v39_7 (W6 W)
theorem step_v39_8 : W8 W main_v39 = W7 W main_v39 := keep_v39_8 (W7 W)
theorem step_v39_9 : W9 W main_v39 = W8 W main_v39 := keep_v39_9 (W8 W)
theorem step_v39_10 : W10 W main_v39 = W9 W main_v39 := keep_v39_10 (W9 W)
theorem step_v47_8 : W8 W main_v47 = W7 W main_v47 := keep_v47_8 (W7 W)
theorem step_v47_9 : W9 W main_v47 = W8 W main_v47 := keep_v47_9 (W8 W)
theorem step_v47_10 : W10 W main_v47 = W9 W main_v47 := keep_v47_10 (W9 W)
theorem step_v55_10 : W10 W main_v55 = W9 W main_v55 := keep_v55_10 (W9 W)

theorem after_hostAll : StableHlo.after (hostAll (F := F)).flatten W = W10 W := by
  simp only [hostAll, List.flatten_cons, List.flatten_nil, StableHlo.after_append, List.append_nil]
  rfl

/-- The pair in slot `x`. -/
@[irreducible] def pickOf (W : Valuation τ sig (Elt F)) (x : Fin 12) : Fin 40 := Items.pick (offs W) (liveCount (liveArr W)) x.val

theorem W1_v18 : (W1 W main_v18 : S40.Idx → BitVec 1) = liveArr W := by
  rw [step_v18_1]; exact funext fun x => read_v18 W x

theorem W2_v34 (x : S12.Idx) : (W2 W main_v34 : S12.Idx → BitVec 32) x = BitVec.ofNat 32 (pickOf W (x 0)).val := by
  have h : ∀ k, (W1 W main_v20 : S40.Idx → BitVec 32) (Shape.Idx.ofFin k) = BitVec.ofNat 32 (Items.order (offs W) k).val := by
    intro k
    unfold W1
    rw [read_v20 (W0 W) (fun x => ~~~ (liveArr W x)) (funext fun x => read_v19 W x) k, orderBy_live]
  have e := read_v34 (W1 W) x (Items.order (offs W)) h
  refine Eq.trans (b := _) e ?_
  · unfold pickOf Items.pick
    exact congrArg (fun w => BitVec.ofNat 32 (Items.order (offs W)
      ⟨(Items.slot (liveCount w) (x 0).val).val, by have := (Items.slot (liveCount w) (x 0).val).isLt; omega⟩).val) (W1_v18 W)

theorem W2_v37 (x : S12.Idx) : (W2 W main_v37 : S12.Idx → BitVec 1) x
    = IntOp.cmpi .sge (BitVec.ofNat 32 (x 0).val) (liveCount (liveArr W)) := by
  refine (read_v37 (W1 W) x).trans ?_
  rw [W1_v18]

/-- The tile of slot `x`. -/
theorem tab_tile (x : S12.Idx) : (W10 W main_v38 : S12.Idx → BitVec 32) x = BitVec.ofNat 32 ((pickOf W (x 0)).val / 5) := by
  rw [step_v38_10, step_v38_9, step_v38_8, step_v38_7, step_v38_6, step_v38_5, step_v38_4]
  exact read_v38 (W2 W) x (pickOf W (x 0)) (W2_v34 W x) (read_c5 _ _)

/-- The domain of slot `x`. -/
theorem tab_dom (x : S12.Idx) : (W10 W main_v39 : S12.Idx → BitVec 32) x = BitVec.ofNat 32 ((pickOf W (x 0)).val % 5) := by
  rw [step_v39_10, step_v39_9, step_v39_8, step_v39_7, step_v39_6]
  refine read_v39 (W4 W) x (pickOf W (x 0)) ?_ (read_c6 _ _)
  rw [step_v34_4, step_v34_3]
  exact W2_v34 W x

/-- The first row of slot `x`. -/
theorem tab_lo (x : S12.Idx) : (W10 W main_v47 : S12.Idx → BitVec 32) x
    = Scalar.select (IntOp.cmpi .sge (BitVec.ofNat 32 (x 0).val) (liveCount (liveArr W))) 0#32 (Items.rowLo (offs W) (pickOf W (x 0))) := by
  rw [step_v47_10, step_v47_9, step_v47_8]
  refine (read_v47 (W6 W) x (read_c9 _ _)).trans ?_
  have h46 : (W6 W main_v46 : S12.Idx → BitVec 32) x = Items.rowLo (offs W) (pickOf W (x 0)) := by
    refine (read_v46 (W5 W) x (pickOf W (x 0)) ?_).trans ?_
    · rw [step_v34_5, step_v34_4, step_v34_3]; exact W2_v34 W x
    · rw [step_v9_5, step_v9_4, step_v9_3, step_v9_2, step_v9_1]; exact read_v9 W _
  rw [h46, step_v37_6, step_v37_5, step_v37_4, step_v37_3, W2_v37]

/-- The row after the last one of slot `x`. -/
theorem tab_hi (x : S12.Idx) : (W10 W main_v55 : S12.Idx → BitVec 32) x
    = Scalar.select (IntOp.cmpi .sge (BitVec.ofNat 32 (x 0).val) (liveCount (liveArr W))) 0#32 (Items.rowHi (offs W) (pickOf W (x 0))) := by
  rw [step_v55_10]
  refine (read_v55 (W8 W) x (read_c12 _ _)).trans ?_
  have h54 : (W8 W main_v54 : S12.Idx → BitVec 32) x = Items.rowHi (offs W) (pickOf W (x 0)) := by
    refine (read_v54 (W7 W) x (pickOf W (x 0)) ?_).trans ?_
    · rw [step_v34_7, step_v34_6, step_v34_5, step_v34_4, step_v34_3]; exact W2_v34 W x
    · rw [step_v17_7, step_v17_6, step_v17_5, step_v17_4, step_v17_3, step_v17_2, step_v17_1]; exact read_v17 W _
  rw [h54, step_v37_8, step_v37_7, step_v37_6, step_v37_5, step_v37_4, step_v37_3, W2_v37]

end Cert.Kernel.Gen
-- ==== Proof.Entry.lean ====
module

public import proofs.«01_k».proof.Proof.Tables
public import Idealize.ShloMosaic.Lib.Pipeline.Frame
public import Idealize.ShloMosaic.Lib.Tactic

/-!
The memory as the launch finds it: the arguments are as they were, the two biases are reshaped, the four tables hold
what `Proof/Tables.lean` reads. Every table word names a block inside its array (a tile below 8, a domain below 5), so
the launch's condition on the tables holds whatever the offsets are.
-/

@[expose] public section

set_option maxRecDepth 16384

noncomputable section

namespace Cert.Kernel.Gen

open Cert.Shared Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

variable (m : (ℓ : Loc nD τ sig) → Buf (Elt F) ℓ) (ρ : Dev nD → PrngReg)

/-- What the host operations leave, from the launch memory. -/
abbrev V (c : Dev nD) (b : Ref sig .tc) : Buf (Elt F) ((c.tc : Thread nD τ).loc b) :=
  StableHlo.after (hostAll (F := F)).flatten (fun b => m (c, b)) b

theorem V_eq (c : Dev nD) (b : Ref sig .tc) : V m c b = W10 (fun b => m (c, b)) b :=
  congrFun (after_hostAll (fun b => m (c, b))) _

/-- The nine arguments. -/
abbrev argRefs : List (Ref sig .tc) := [main_arg0, main_arg1, main_arg2, main_arg3, main_arg4, main_arg5, main_arg6, main_arg7, main_arg8]

/-- No host operation writes an argument. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostAll, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => absurd (h ▸ hb) (by decide))))

/-- The tables at the launch (one core). -/
def pf : pre0.Contents (Elt F) := fun k => V m (0 : Dev nD) (pre0.ref k)

theorem devUniq (c : Dev nD) : c = 0 := Subsingleton.elim _ _

/-- The tile (table 0) at grid point `i`. -/
abbrev word0 (i : grid0.Coords) : BitVec 32 := (pf m).at 0 (Rect.unit (s := S12) (k0_off1 i) S1.size (k0_off1_inb i)) numel1_S1

/-- The domain (table 1) at grid point `i`. -/
abbrev word1 (i : grid0.Coords) : BitVec 32 := (pf m).at 1 (Rect.unit (s := S12) (k0_off1 i) S1.size (k0_off1_inb i)) numel1_S1

/-- The first row (table 2) at grid point `i`. -/
abbrev word2 (i : grid0.Coords) : BitVec 32 := (pf m).at 2 (Rect.unit (s := S12) (k0_off1 i) S1.size (k0_off1_inb i)) numel1_S1

/-- The last row (table 3) at grid point `i`. -/
abbrev word3 (i : grid0.Coords) : BitVec 32 := (pf m).at 3 (Rect.unit (s := S12) (k0_off1 i) S1.size (k0_off1_inb i)) numel1_S1

/-- The memory the launch starts from, as one valuation. -/
abbrev M0 : Valuation τ sig (Elt F) := fun b => m ((0 : Dev nD), b)

abbrev slotOf (i : grid0.Coords) : Fin 12 := (Rect.unit (s := S12) (k0_off1 i) S1.size (k0_off1_inb i)).emb (Shape.Idx.first (numel1_S1.symm ▸ Nat.one_pos)) 0

theorem word_tile (i : grid0.Coords) : word0 m i = BitVec.ofNat 32 ((pickOf (M0 m) (slotOf i)).val / 5) :=
  (congrFun (V_eq m 0 main_v38) _).trans (tab_tile (M0 m) _)

theorem word_dom (i : grid0.Coords) : word1 m i = BitVec.ofNat 32 ((pickOf (M0 m) (slotOf i)).val % 5) :=
  (congrFun (V_eq m 0 main_v39) _).trans (tab_dom (M0 m) _)

theorem pick_lt (x : Fin 12) : (pickOf (M0 m) x).val < 40 := (pickOf (M0 m) x).isLt

theorem tile_lt (i : grid0.Coords) : (word0 m i).toNat < 8 := by
  rw [word_tile, BitVec.toNat_ofNat]; have := pick_lt m (slotOf i); omega

theorem dom_lt (i : grid0.Coords) : (word1 m i).toNat < 5 := by
  rw [word_dom, BitVec.toNat_ofNat]; have := pick_lt m (slotOf i); omega

/-- The step a window of weights or codes is read at. -/
abbrev kidx (i : grid0.Coords) : BitVec 32 :=
  Scalar.select (Scalar.cmpi .sgt (word3 m i) (word2 m i)) (BitVec.ofNat 32 (i 2).val) 15#32

theorem kidx_lt (i : grid0.Coords) : (kidx m i).toNat < 16 := by
  have h2 : (i 2).val < 16 := (i 2).isLt
  unfold kidx Scalar.select
  split
  · rw [BitVec.toNat_ofNat]; omega
  · decide

theorem tr0 (i : grid0.Coords) : cc0_transform_0 k0_off1_inb numel1_S1 (pf m) i = ![(word0 m i).toNat, (kidx m i).toNat] := rfl
theorem tr1 (i : grid0.Coords) : cc0_transform_1 k0_off1_inb numel1_S1 (pf m) i = ![(word0 m i).toNat, 0] := rfl
theorem tr2 (i : grid0.Coords) : cc0_transform_2 k0_off1_inb numel1_S1 (pf m) i = ![(kidx m i).toNat, (BitVec.ofNat 32 (i 0).val).toNat] := rfl
theorem tr3 (i : grid0.Coords) : cc0_transform_3 k0_off1_inb numel1_S1 (pf m) i = ![(kidx m i).toNat, (BitVec.ofNat 32 (i 0).val).toNat] := rfl
theorem tr4 (i : grid0.Coords) : cc0_transform_4 k0_off1_inb numel1_S1 (pf m) i = ![(word1 m i).toNat, (kidx m i).toNat, (BitVec.ofNat 32 (i 0).val).toNat] := rfl
theorem tr5 (i : grid0.Coords) : cc0_transform_5 k0_off1_inb numel1_S1 (pf m) i = ![(word1 m i).toNat, (kidx m i).toNat, (BitVec.ofNat 32 (i 0).val).toNat] := rfl
theorem tr7 (i : grid0.Coords) : cc0_transform_7 k0_off1_inb numel1_S1 (pf m) i = ![(word1 m i).toNat, 0, (BitVec.ofNat 32 (i 0).val).toNat] := rfl
theorem tr8 (i : grid0.Coords) : cc0_transform_8 k0_off1_inb numel1_S1 (pf m) i = ![(word0 m i).toNat, (BitVec.ofNat 32 (i 0).val).toNat] := rfl

theorem j_lt (i : grid0.Coords) : (BitVec.ofNat 32 (i 0).val).toNat < 2 := by
  have h0 : (i 0).val < 2 := (i 0).isLt
  rw [BitVec.toNat_ofNat]; omega

theorem ok : ok0 (pf m) := by
  unfold ok0
  refine ⟨fun i => ?_, fun i => ?_, fun i => ?_, fun i => ?_, fun i => ?_, fun i => ?_, fun i => ?_, fun i => ?_⟩ <;>
    have ht := tile_lt m i <;> have hd := dom_lt m i <;> have hk := kidx_lt m i <;> have hj := j_lt i
  · rw [tr0]; refine ⟨?_, .inr (whole_words2 _ (by decide))⟩
    intro a; fin_cases a <;> simp <;> omega
  · rw [tr1]; refine ⟨?_, .inl rfl⟩
    intro a; fin_cases a <;> simp <;> omega
  · rw [tr2]; refine ⟨?_, .inr (whole_words2 _ (by decide))⟩
    intro a; fin_cases a <;> simp <;> omega
  · rw [tr3]; refine ⟨?_, .inl rfl⟩
    intro a; fin_cases a <;> simp <;> omega
  · rw [tr4]; refine ⟨?_, .inr (whole_words3 _ (by decide))⟩
    intro a; fin_cases a <;> simp <;> omega
  · rw [tr5]; refine ⟨?_, .inl rfl⟩
    intro a; fin_cases a <;> simp <;> omega
  · rw [tr7]; refine ⟨?_, .inl rfl⟩
    intro a; fin_cases a <;> simp <;> omega
  · rw [tr8]; refine ⟨?_, .inl rfl⟩
    intro a; fin_cases a <;> simp <;> omega

/-- The tables, admissible. -/
def adm : (pcfg0 (F := F)).Adm := ⟨pf m, ok m⟩

end Cert.Kernel.Gen

end
-- ==== Proof.Run.lean ====
module

public import proofs.«01_k».proof.Proof.Body
public import proofs.«01_k».proof.Proof.Entry
public import Idealize.ShloMosaic.Lib.Claim

/-!
The run of the launch. At each grid point the accumulator and the output's staging buffer change as `accNext` and
`outNext` (`Proof/Body.lean`) say, with the point's blocks of the inputs; every input block is left as it was.
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf ΦA ΦT)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline at the tables the host computed. -/
abbrev cfgM : Cfg sig Λ₀ := cfg0 (adm m)

/-- The block of window `w` at point `t`, read off the array. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The block of window 0, at its shape. -/
abbrev blk0 (c : Dev nD) (t : Fin (cfgM m).N) : Vec F S512x1024 .fp8e4m3 := iblk m c 0 t

/-- The block of window 1, at its shape. -/
abbrev blk1 (c : Dev nD) (t : Fin (cfgM m).N) : Vec F S512x1 .f32 := iblk m c 1 t

/-- The block of window 2, at its shape. -/
abbrev blk2 (c : Dev nD) (t : Fin (cfgM m).N) : Vec F S1024x1024 .fp8e4m3 := iblk m c 2 t

/-- The block of window 3, at its shape. -/
abbrev blk3 (c : Dev nD) (t : Fin (cfgM m).N) : Vec F S16x1024 .f32 := iblk m c 3 t

/-- The block of window 4, at its shape. -/
abbrev blk4 (c : Dev nD) (t : Fin (cfgM m).N) : Vec F S1x1024x1024 .fp8e4m3 := iblk m c 4 t

/-- The block of window 5, at its shape. -/
abbrev blk5 (c : Dev nD) (t : Fin (cfgM m).N) : Vec F S1x16x1024 .f32 := iblk m c 5 t

/-- The block of window 6, at its shape. -/
abbrev blk6 (c : Dev nD) (t : Fin (cfgM m).N) : Vec F S1x1024 .f32 := iblk m c 6 t

/-- The block of window 7, at its shape. -/
abbrev blk7 (c : Dev nD) (t : Fin (cfgM m).N) : Vec F S1x1x1024 .f32 := iblk m c 7 t

/-- The accumulator after point `t`, from what it held. -/
def accAfter (c : Dev nD) (t : Fin (cfgM m).N) (g : Vec F S512x1024 .f32) : Vec F S512x1024 .f32 :=
  accNext (word2 m (grid0.coords t)) (word3 m (grid0.coords t)) (grid0.coords t) (blk0 m c t) (blk2 m c t) (blk3 m c t) (blk4 m c t) (blk5 m c t) g

/-- The output's staging buffer after point `t`, from what it (`Y`) and the accumulator (`g`) held. -/
def outAfter (c : Dev nD) (t : Fin (cfgM m).N) (Y g : Vec F S512x1024 .f32) : Vec F S512x1024 .f32 :=
  outNext (word2 m (grid0.coords t)) (word3 m (grid0.coords t)) (grid0.coords t) (word0 m (grid0.coords t)) (blk0 m c t) (blk1 m c t) (blk2 m c t) (blk3 m c t) (blk4 m c t) (blk5 m c t) (blk6 m c t) (blk7 m c t) Y g

/-- What the accumulator may hold before point `n`. -/
def AccP (c : Dev nD) : ℕ → Vec F S512x1024 .f32 → Prop
  | 0, _ => True
  | n + 1, f => ∃ g, AccP c n g ∧ ∀ h : n < (cfgM m).N, f = accAfter m c ⟨n, h⟩ g

theorem AccP_zero (c : Dev nD) (f : Vec F S512x1024 .f32) : AccP m c 0 f := trivial

theorem AccP_succ (c : Dev nD) (t : Fin (cfgM m).N) (g : Vec F S512x1024 .f32) (h : AccP m c t.val g) : AccP m c (t.val + 1) (accAfter m c t g) :=
  ⟨g, h, fun _ => rfl⟩

/-- The tables' share the body reads from, and the accumulator at what it may hold. -/
def Inv (c : Dev nD) (n : ℕ) : sProp 𝕄 :=
  iprop(owns (c : Thread nD τ) (Memref.whole main_v38) fullShare.right (pf m 0) ∗ owns (c : Thread nD τ) (Memref.whole main_v39) fullShare.right (pf m 1)
    ∗ owns (c : Thread nD τ) (Memref.whole main_v47) fullShare.right (pf m 2) ∗ owns (c : Thread nD τ) (Memref.whole main_v55) fullShare.right (pf m 3)
    ∗ (∃ r, prngReg c r) ∗ ∃ g : Vec F S512x1024 .f32, ⌜AccP m c n g⌝ ∗ owns (c : Thread nD τ) (Memref.whole cc0_scratch0) fullShare g)

/-- The proof's data: inputs are left as found; the output's buffer is `outAfter` of what was found. -/
def rdat (c : Dev nD) : RDat τ (Elt F) Unit ℕ (UR sig nD τ) ℕ (cfgM m) c where
  A w := V m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun t Y X => ∃ g, AccP m c t.val g ∧ X = outAfter m c t Y g
    | ⟨_ + 9, h⟩ => absurd h (Nat.not_lt.2 (Nat.le_add_left _ _))
  Φ t := Inv m c t.val
  q _ := fullShare
  owed _ := 0

theorem A_eq (c : Dev nD) (w : Fin (cfgM m).W) : (rdat m c).A w = V m c (Pipeline.arrRef spec0 w) := rfl

theorem Φ_eq (c : Dev nD) (n : Fin ((cfgM m).N + 1)) : (rdat m c).Φ n = Inv m c n.val := rfl

theorem found0 (c : Dev nD) (t : Fin (cfgM m).N) (Y) (h : (rdat m c).Finds 0 t Y) : Y = blk0 m c t := by
  obtain ⟨d, rfl⟩ := (rdat m c).finds_in_eq_fetched 0 rfl (fun _ _ _ => rfl) (fun _ _ _ h => h) t Y h
  unfold RDat.fetched RDat.blockOf blk0 iblk; rw [A_eq]; try rfl

theorem found1 (c : Dev nD) (t : Fin (cfgM m).N) (Y) (h : (rdat m c).Finds 1 t Y) : Y = blk1 m c t := by
  obtain ⟨d, rfl⟩ := (rdat m c).finds_in_eq_fetched 1 rfl (fun _ _ _ => rfl) (fun _ _ _ h => h) t Y h
  unfold RDat.fetched RDat.blockOf blk1 iblk; rw [A_eq]; try rfl

theorem found2 (c : Dev nD) (t : Fin (cfgM m).N) (Y) (h : (rdat m c).Finds 2 t Y) : Y = blk2 m c t := by
  obtain ⟨d, rfl⟩ := (rdat m c).finds_in_eq_fetched 2 rfl (fun _ _ _ => rfl) (fun _ _ _ h => h) t Y h
  unfold RDat.fetched RDat.blockOf blk2 iblk; rw [A_eq]; try rfl

theorem found3 (c : Dev nD) (t : Fin (cfgM m).N) (Y) (h : (rdat m c).Finds 3 t Y) : Y = blk3 m c t := by
  obtain ⟨d, rfl⟩ := (rdat m c).finds_in_eq_fetched 3 rfl (fun _ _ _ => rfl) (fun _ _ _ h => h) t Y h
  unfold RDat.fetched RDat.blockOf blk3 iblk; rw [A_eq]; try rfl

theorem found4 (c : Dev nD) (t : Fin (cfgM m).N) (Y) (h : (rdat m c).Finds 4 t Y) : Y = blk4 m c t := by
  obtain ⟨d, rfl⟩ := (rdat m c).finds_in_eq_fetched 4 rfl (fun _ _ _ => rfl) (fun _ _ _ h => h) t Y h
  unfold RDat.fetched RDat.blockOf blk4 iblk; rw [A_eq]; try rfl

theorem found5 (c : Dev nD) (t : Fin (cfgM m).N) (Y) (h : (rdat m c).Finds 5 t Y) : Y = blk5 m c t := by
  obtain ⟨d, rfl⟩ := (rdat m c).finds_in_eq_fetched 5 rfl (fun _ _ _ => rfl) (fun _ _ _ h => h) t Y h
  unfold RDat.fetched RDat.blockOf blk5 iblk; rw [A_eq]; try rfl

theorem found6 (c : Dev nD) (t : Fin (cfgM m).N) (Y) (h : (rdat m c).Finds 6 t Y) : Y = blk6 m c t := by
  obtain ⟨d, rfl⟩ := (rdat m c).finds_in_eq_fetched 6 rfl (fun _ _ _ => rfl) (fun _ _ _ h => h) t Y h
  unfold RDat.fetched RDat.blockOf blk6 iblk; rw [A_eq]; try rfl

theorem found7 (c : Dev nD) (t : Fin (cfgM m).N) (Y) (h : (rdat m c).Finds 7 t Y) : Y = blk7 m c t := by
  obtain ⟨d, rfl⟩ := (rdat m c).finds_in_eq_fetched 7 rfl (fun _ _ _ => rfl) (fun _ _ _ h => h) t Y h
  unfold RDat.fetched RDat.blockOf blk7 iblk; rw [A_eq]; try rfl

theorem defs₀_row (c : Dev nD) (t : Fin (cfgM m).N) :
    defs₀ (F := F) .tc (cfgM m).body ((cfgM m).bodyArgs t ((cfgM m).slots t))
      = cc0_star1 (grid0.coords t) (Memref.whole main_v38) (Memref.isWhole_whole _) (Memref.whole main_v39) (Memref.isWhole_whole _) (Memref.whole main_v47) (Memref.isWhole_whole _) (Memref.whole main_v55) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (Memref.whole cc0_scratch0) (Memref.isWhole_whole _) := by
  unfold defs₀; rw [Defs.onTc_tc]

set_option maxHeartbeats 2000000 in
theorem sound_body (c : Dev nD) (t : Fin (cfgM m).N) (Y8 : Vec F S512x1024 .f32) :
    iprop(Inv m c t.val ∗ (rdat m c).owesAt () t.castSucc
        ∗ owns (c : Thread nD τ) (spec0_0.stage ((cfgM m).slots t 0)) fullShare (blk0 m c t)
        ∗ owns (c : Thread nD τ) (spec0_1.stage ((cfgM m).slots t 1)) fullShare (blk1 m c t)
        ∗ owns (c : Thread nD τ) (spec0_2.stage ((cfgM m).slots t 2)) fullShare (blk2 m c t)
        ∗ owns (c : Thread nD τ) (spec0_3.stage ((cfgM m).slots t 3)) fullShare (blk3 m c t)
        ∗ owns (c : Thread nD τ) (spec0_4.stage ((cfgM m).slots t 4)) fullShare (blk4 m c t)
        ∗ owns (c : Thread nD τ) (spec0_5.stage ((cfgM m).slots t 5)) fullShare (blk5 m c t)
        ∗ owns (c : Thread nD τ) (spec0_6.stage ((cfgM m).slots t 6)) fullShare (blk6 m c t)
        ∗ owns (c : Thread nD τ) (spec0_7.stage ((cfgM m).slots t 7)) fullShare (blk7 m c t)
        ∗ owns (c : Thread nD τ) (spec0_8.stage ((cfgM m).slots t 8)) fullShare Y8)
      ⊢ wp frame (wpE (defs₀ (F := F)) Variants.none c none) Set.univ (cc0_star1 (grid0.coords t) (Memref.whole main_v38) (Memref.isWhole_whole _) (Memref.whole main_v39) (Memref.isWhole_whole _) (Memref.whole main_v47) (Memref.isWhole_whole _) (Memref.whole main_v55) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (Memref.whole cc0_scratch0) (Memref.isWhole_whole _)) fun _ =>
        iprop(Inv m c (t.val + 1) ∗ (rdat m c).owesAt () t.succ
          ∗ (∃ X, ⌜X = blk0 m c t⌝ ∗ owns (c : Thread nD τ) (spec0_0.stage ((cfgM m).slots t 0)) fullShare X)
          ∗ (∃ X, ⌜X = blk1 m c t⌝ ∗ owns (c : Thread nD τ) (spec0_1.stage ((cfgM m).slots t 1)) fullShare X)
          ∗ (∃ X, ⌜X = blk2 m c t⌝ ∗ owns (c : Thread nD τ) (spec0_2.stage ((cfgM m).slots t 2)) fullShare X)
          ∗ (∃ X, ⌜X = blk3 m c t⌝ ∗ owns (c : Thread nD τ) (spec0_3.stage ((cfgM m).slots t 3)) fullShare X)
          ∗ (∃ X, ⌜X = blk4 m c t⌝ ∗ owns (c : Thread nD τ) (spec0_4.stage ((cfgM m).slots t 4)) fullShare X)
          ∗ (∃ X, ⌜X = blk5 m c t⌝ ∗ owns (c : Thread nD τ) (spec0_5.stage ((cfgM m).slots t 5)) fullShare X)
          ∗ (∃ X, ⌜X = blk6 m c t⌝ ∗ owns (c : Thread nD τ) (spec0_6.stage ((cfgM m).slots t 6)) fullShare X)
          ∗ (∃ X, ⌜X = blk7 m c t⌝ ∗ owns (c : Thread nD τ) (spec0_7.stage ((cfgM m).slots t 7)) fullShare X)
          ∗ ∃ X, ⌜∃ g, AccP m c t.val g ∧ X = outAfter m c t Y8 g⌝ ∗ owns (c : Thread nD τ) (spec0_8.stage ((cfgM m).slots t 8)) fullShare X) := by
  unfold Inv
  iintro ⟨⟨T0, T1, T2, T3, Hp, %g, %hg, Hs⟩, Ho, B0, B1, B2, B3, B4, B5, B6, B7, B8⟩
  iapply (body_step c (grid0.coords t) fullShare.right)
  isplitl [T0]; · iexact T0
  isplitl [T1]; · iexact T1
  isplitl [T2]; · iexact T2
  isplitl [T3]; · iexact T3
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [Hs]; · iexact Hs
  iintro ⟨T0, T1, T2, T3, B0, B1, B2, B3, B4, B5, B6, B7, B8, Hs⟩
  isplitl [T0 T1 T2 T3 Hp Hs]
  · isplitl [T0]; · iexact T0
    isplitl [T1]; · iexact T1
    isplitl [T2]; · iexact T2
    isplitl [T3]; · iexact T3
    isplitl [Hp]; · iexact Hp
    iexists _; isplitr; rotate_left
    · iexact Hs
    · ipureintro; exact AccP_succ m c t g hg
  isplitl [Ho]; · iexact Ho
  isplitl [B0]
  · iexists _; isplitr; rotate_left
    · iexact B0
    · ipureintro; rfl
  isplitl [B1]
  · iexists _; isplitr; rotate_left
    · iexact B1
    · ipureintro; rfl
  isplitl [B2]
  · iexists _; isplitr; rotate_left
    · iexact B2
    · ipureintro; rfl
  isplitl [B3]
  · iexists _; isplitr; rotate_left
    · iexact B3
    · ipureintro; rfl
  isplitl [B4]
  · iexists _; isplitr; rotate_left
    · iexact B4
    · ipureintro; rfl
  isplitl [B5]
  · iexists _; isplitr; rotate_left
    · iexact B5
    · ipureintro; rfl
  isplitl [B6]
  · iexists _; isplitr; rotate_left
    · iexact B6
    · ipureintro; rfl
  isplitl [B7]
  · iexists _; isplitr; rotate_left
    · iexact B7
    · ipureintro; rfl
  iexists _; isplitr; rotate_left
  · iexact B8
  · ipureintro; exact ⟨g, hg, rfl⟩

theorem body_obligation (c : Dev nD) : (rdat m c).BodyObligation (defs₀ (F := F)) Variants.none () Set.univ := fun t Y hY => by
  have h0 := found0 m c t _ (hY 0)
  have h1 := found1 m c t _ (hY 1)
  have h2 := found2 m c t _ (hY 2)
  have h3 := found3 m c t _ (hY 3)
  have h4 := found4 m c t _ (hY 4)
  have h5 := found5 m c t _ (hY 5)
  have h6 := found6 m c t _ (hY 6)
  have h7 := found7 m c t _ (hY 7)
  rw [bigSep_W0, bigSep_W0, defs₀_row m c t, h0, h1, h2, h3, h4, h5, h6, h7]
  have e1 : (rdat m c).Φ t.castSucc = Inv m c t.val := by rw [Φ_eq, Fin.val_castSucc]
  have e2 : (rdat m c).Φ t.succ = Inv m c (t.val + 1) := by rw [Φ_eq, Fin.val_succ]
  rw [e1, e2]
  refine triple_restated (sound_body m c t (Y 8)) rfl ?_ fun _ => ?_
  · iintro ⟨Hi, Ho, B0, B1, B2, B3, B4, B5, B6, B7, B8⟩
    isplitl [Hi]; · iexact Hi
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  · iintro ⟨Hi, Ho, B0, B1, B2, B3, B4, B5, B6, B7, B8⟩
    isplitl [Hi]; · iexact Hi
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8

end Cert.Kernel.Gen

end
-- ==== Proof.Frame.lean ====
module

public import proofs.«01_k».proof.Proof.Run

/-!
The launch: the host operations, then the pipeline; the machine stops with every counter at zero and every argument as
it was.
-/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf ΦA ΦT)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables the launch runs at. -/
abbrev Ad : (p : Fin 1) → (pcfgs (F := F) p).Adm := fun _ => adm m

/-- Owning a whole buffer is holding it at its contents. -/
theorem owns_of_points {sp : Space} {sh : Shape} {e : EltTy} (c : Dev nD) (r : Memref sig .tc sp sh e) (hr : r.view.set = Finset.univ) (q : PosShare TreeShare) (f : Buf (Elt F) (r.view.loc (c : Thread nD τ))) :
    (iprop((r.view.loc (c : Thread nD τ)) ↦{q} f) : sProp 𝕄) ⊢ owns (c : Thread nD τ) r q (r.view.read (Elt F) f) := by
  unfold owns
  iintro H
  iexists f
  isplitr
  · ipureintro; rfl
  · rw [hr]; iexact H

theorem hostAll_sub : (hostAll (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

theorem hostAll_fresh : (hostAll (F := F)).Forall fun ops => ops.Forall fun op => op.fresh = ∅ := by
  simp only [hostAll, List.Forall]
  repeat' constructor

theorem hmain (𝒱₀ : Variants) : Pipeline.HMainP (Ix := Unit) (Name := ℕ) (U := UR sig nD τ) (Lvl := ℕ) (pcfgs (F := F)) 0 defs₀ 𝒱₀ m main (V m) :=
  Pipeline.hmainP_prefixes (pcfgs (F := F)) 0 defs₀ 𝒱₀ m main hostAll hostAll_sub hostAll_fresh (fun c => main_chain c)

/-- The tables the body reads from, one by one. -/
theorem tables_owns (c : Dev nD) (q : PosShare TreeShare) (v : pre0.Contents (Elt F)) :
    (Pipeline.prefHeld pre0 c (fun _ => q) v : sProp 𝕄) ⊢ iprop(owns (c : Thread nD τ) (Memref.whole main_v38) q (v 0)
      ∗ owns (c : Thread nD τ) (Memref.whole main_v39) q (v 1)
      ∗ owns (c : Thread nD τ) (Memref.whole main_v47) q (v 2)
      ∗ owns (c : Thread nD τ) (Memref.whole main_v55) q (v 3)) := by
  unfold Pipeline.prefHeld
  rw [show (Finset.univ : Finset (Fin 4)) = insert 0 (insert 1 (insert 2 {3})) from by decide, bigSep_insert (by decide), bigSep_insert (by decide), bigSep_insert (by decide), bigSep_singleton]
  refine BI.sep_mono (owns_of_points c (Memref.whole main_v38) (View.set_whole _) q (v 0)) (BI.sep_mono (owns_of_points c (Memref.whole main_v39) (View.set_whole _) q (v 1))
    (BI.sep_mono (owns_of_points c (Memref.whole main_v47) (View.set_whole _) q (v 2)) (owns_of_points c (Memref.whole main_v55) (View.set_whole _) q (v 3))))

theorem adm_val : (adm m).1 = pf m := rfl

theorem hin (c : Dev nD) : iprop(ΦA (U := UR sig nD τ) spec0 c ∗ ΦT pre0 (adm m).1 c) ⊢ (rdat m c).Φ 0 := by
  rw [Φ_eq, adm_val]
  unfold Inv ΦA ΦT
  rw [scopedRest0_eq]
  iintro ⟨⟨⟨%f, Hs⟩, Hp⟩, HT⟩
  ihave HT := tables_owns c fullShare.right (pf m) $$ HT
  icases HT with ⟨T0, T1, T2, T3⟩
  isplitl [T0]; · iexact T0
  isplitl [T1]; · iexact T1
  isplitl [T2]; · iexact T2
  isplitl [T3]; · iexact T3
  isplitl [Hp]; · iexact Hp
  iexists f; isplitr
  · ipureintro; exact AccP_zero m c f
  · iapply (owns_of_points c (Memref.whole cc0_scratch0) (View.set_whole _) fullShare f); iexact Hs

theorem hout (c : Dev nD) : (rdat m c).Φ (Fin.last (cfgM m).N) ⊢ ΦA (U := UR sig nD τ) spec0 c := by
  rw [Φ_eq]; unfold Inv ΦA
  rw [scopedRest0_eq]
  unfold owns
  iintro ⟨-, -, -, -, Hp, %g, -, %f, -, Hs⟩
  isplitl [Hs]
  · iexists f; rw [View.set_whole]; iexact Hs
  · iexact Hp

set_option maxHeartbeats 1000000 in
set_option backward.isDefEq.respectTransparency.types false in
/-- The launch: every run ends, with the output's array at what the write-backs can leave and every other buffer as it
    was, every counter at zero. -/
theorem run_main_quiescent : θ_run defs (onTc (τ := τ) (main (F := F))) (s₀ m ρ)
    (fun r => RDat.FramePost (cfgM m) (rdat m) (V m) r ∧ r.2.sem = fun _ => 0) :=
  RDat.θ_run_frameP_track (Q' := _) (pcfgs (F := F)) (Ad m) (0 : Fin 1) launch0 defs₀ Variants.none (rdat m) m ρ main
    (hbody := body_obligation m) (hshare := fun c w => ite_self _) (howed := fun _ _ => rfl) (V := V m)
    (hmain := hmain m Variants.none) (hA := A_eq m) (hpf := fun c k => by rw [devUniq c]; rfl)
    (hin := hin m) (hout := hout m)

/-- The frame: every run ends, with every argument as it was and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ (h : _ ∧ _) => ⟨fun c => ⟨((h.1 c).2 main_arg0 (Pipeline.mem_restRefs_of main_arg0 (by decide) (show ∀ w : Fin 9, (spec0 w).arr.view.ref ≠ main_arg0 by decide))).trans (V_arg m c main_arg0 (by decide)),
      (h.1.arr_in c 0 rfl).trans ((A_eq m c 0).trans (V_arg m c main_arg1 (by decide))),
      (h.1.arr_in c 1 rfl).trans ((A_eq m c 1).trans (V_arg m c main_arg2 (by decide))),
      (h.1.arr_in c 2 rfl).trans ((A_eq m c 2).trans (V_arg m c main_arg3 (by decide))),
      (h.1.arr_in c 3 rfl).trans ((A_eq m c 3).trans (V_arg m c main_arg4 (by decide))),
      (h.1.arr_in c 4 rfl).trans ((A_eq m c 4).trans (V_arg m c main_arg5 (by decide))),
      (h.1.arr_in c 5 rfl).trans ((A_eq m c 5).trans (V_arg m c main_arg6 (by decide))),
      ((h.1 c).2 main_arg7 (Pipeline.mem_restRefs_of main_arg7 (by decide) (show ∀ w : Fin 9, (spec0 w).arr.view.ref ≠ main_arg7 by decide))).trans (V_arg m c main_arg7 (by decide)),
      ((h.1 c).2 main_arg8 (Pipeline.mem_restRefs_of main_arg8 (by decide) (show ∀ w : Fin 9, (spec0 w).arr.view.ref ≠ main_arg8 by decide))).trans (V_arg m c main_arg8 (by decide))⟩, h.2⟩) (run_main_quiescent m ρ)

end Cert.Kernel.Gen

end
-- ==== Proof.IdealBody.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a twelve-word table the body reads at grid point `i`. -/
abbrev wordIdx (i : grid0.Coords) : S12.Idx :=
  (Rect.unit (s := S12) (k0_off1 i) S1.size (k0_off1_inb i)).emb (Shape.Idx.first (numel1_S1.symm ▸ Nat.one_pos))

/-- The body's test for a first step, as a fact about the step's number; -/
theorem first_step (i : grid0.Coords) :
    (Scalar.cmpi .ne (Scalar.extui (Scalar.cmpi .eq (BitVec.ofNat 32 (i 2).val) 0#32) : BitVec 32) 0#32 = 1#1) = ((i 2).val = 0) := by
  have h : ∀ n : Fin 16, (Scalar.cmpi .ne (Scalar.extui (Scalar.cmpi .eq (BitVec.ofNat 32 n.val) 0#32) : BitVec 32) 0#32 = 1#1) = (n.val = 0) := by
    decide
  exact h (i 2)

/-- for a later one; -/
theorem later_step (i : grid0.Coords) :
    (Scalar.cmpi .ne (Scalar.extui (Scalar.cmpi .sgt (BitVec.ofNat 32 (i 2).val) 0#32) : BitVec 32) 0#32 = 1#1) = ¬ ((i 2).val = 0) := by
  have h : ∀ n : Fin 16, (Scalar.cmpi .ne (Scalar.extui (Scalar.cmpi .sgt (BitVec.ofNat 32 n.val) 0#32) : BitVec 32) 0#32 = 1#1) = ¬ (n.val = 0) := by
    decide
  exact h (i 2)

/-- and for the last. -/
theorem last_step (i : grid0.Coords) : (k0_cond4 i = 1#1) = ((i 2).val = 15) := by
  have h : ∀ n : Fin 16, (Scalar.cmpi .ne (Scalar.extui (Scalar.cmpi .eq (BitVec.ofNat 32 n.val) 15#32) : BitVec 32) 0#32 = 1#1) = (n.val = 15) := by
    decide
  exact h (i 2)

/-- What the accumulator holds after the body at point `i`: at an item with no rows what it held; at a live item the
    step's product, alone at the first step and added to what was there at the later ones. -/
def accNext (lo hi : BitVec 32) (i : grid0.Coords) (x7 : Vec F S512x1024 .fp8e4m3) (x9 : Vec F S1024x1024 .fp8e4m3)
    (x10 : Vec F S16x1024 .f32) (x11 : Vec F S1x1024x1024 .fp8e4m3) (x12 : Vec F S1x16x1024 .f32) (acc : Vec F S512x1024 .f32) :
    Vec F S512x1024 .f32 :=
  if k0_cond1 lo hi = 1#1 then
    if (i 2).val = 0 then k0_pay2 x10 x12 x9 x11 x7 else k0_pay3 x10 x12 x9 x11 x7 acc
  else acc

/-- What the output block holds after the body at point `i`: at a live item's last step the item's rows are replaced,
    at every other point it is what it was. -/
def outNext (lo hi : BitVec 32) (i : grid0.Coords) (tile : BitVec 32) (x7 : Vec F S512x1024 .fp8e4m3) (x8 : Vec F S512x1 .f32)
    (x9 : Vec F S1024x1024 .fp8e4m3) (x10 : Vec F S16x1024 .f32) (x11 : Vec F S1x1024x1024 .fp8e4m3) (x12 : Vec F S1x16x1024 .f32)
    (x13 : Vec F S1x1024 .f32) (x14 : Vec F S1x1x1024 .f32) (out acc : Vec F S512x1024 .f32) : Vec F S512x1024 .f32 :=
  if k0_cond1 lo hi = 1#1 then
    if (i 2).val = 15 then k0_pay4 lo hi (accNext lo hi i x7 x9 x10 x11 x12 acc) x8 x13 x14 tile out else out
  else out

set_option maxHeartbeats 8000000 in
/-- The body at grid point `i` on whole memrefs: the tables and the inputs keep their contents, the accumulator and the
    output block step to `accNext` and `outNext`. -/
theorem body_step (c : Dev nD) (i : grid0.Coords) (q : PosShare TreeShare) (arg3 : Memref sig .tc .smem S12 .i32) (harg3 : arg3.IsWhole) (arg4 : Memref sig .tc .smem S12 .i32) (harg4 : arg4.IsWhole) (arg5 : Memref sig .tc .smem S12 .i32) (harg5 : arg5.IsWhole) (arg6 : Memref sig .tc .smem S12 .i32) (harg6 : arg6.IsWhole) (arg7 : Memref sig .tc .vmem S512x1024 .fp8e4m3) (harg7 : arg7.IsWhole) (arg8 : Memref sig .tc .vmem S512x1 .f32) (harg8 : arg8.IsWhole) (arg9 : Memref sig .tc .vmem S1024x1024 .fp8e4m3) (harg9 : arg9.IsWhole) (arg10 : Memref sig .tc .vmem S16x1024 .f32) (harg10 : arg10.IsWhole) (arg11 : Memref sig .tc .vmem S1x1024x1024 .fp8e4m3) (harg11 : arg11.IsWhole) (arg12 : Memref sig .tc .vmem S1x16x1024 .f32) (harg12 : arg12.IsWhole) (arg13 : Memref sig .tc .vmem S1x1024 .f32) (harg13 : arg13.IsWhole) (arg14 : Memref sig .tc .vmem S1x1x1024 .f32) (harg14 : arg14.IsWhole) (arg15 : Memref sig .tc .vmem S512x1024 .f32) (harg15 : arg15.IsWhole) (arg16 : Memref sig .tc .vmem S512x1024 .f32) (harg16 : arg16.IsWhole)
    (x3 : Vec F S12 .i32) (x4 : Vec F S12 .i32) (x5 : Vec F S12 .i32) (x6 : Vec F S12 .i32) (x7 : Vec F S512x1024 .fp8e4m3) (x8 : Vec F S512x1 .f32) (x9 : Vec F S1024x1024 .fp8e4m3) (x10 : Vec F S16x1024 .f32) (x11 : Vec F S1x1024x1024 .fp8e4m3) (x12 : Vec F S1x16x1024 .f32) (x13 : Vec F S1x1024 .f32) (x14 : Vec F S1x1x1024 .f32) (x15 : Vec F S512x1024 .f32) (x16 : Vec F S512x1024 .f32)
    (E : Set ℕ) (K : PUnit → sProp 𝕄) :
    iprop(owns (c : Thread nD τ) arg3 q x3 ∗ owns (c : Thread nD τ) arg4 q x4 ∗ owns (c : Thread nD τ) arg5 q x5 ∗ owns (c : Thread nD τ) arg6 q x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg3 q x3 ∗ owns (c : Thread nD τ) arg4 q x4 ∗ owns (c : Thread nD τ) arg5 q x5 ∗ owns (c : Thread nD τ) arg6 q x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (outNext (x5 (wordIdx i)) (x6 (wordIdx i)) i (x3 (wordIdx i)) x7 x8 x9 x10 x11 x12 x13 x14 x15 x16) ∗ owns (c : Thread nD τ) arg16 fullShare (accNext (x5 (wordIdx i)) (x6 (wordIdx i)) i x7 x9 x10 x11 x12 x16)) -∗ K ⟨⟩))
      ⊢ wp frame (wpE (defs₀ (F := F)) Variants.none c none) E (cc0_star1 i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_star1_eq_skeleton]; unfold cc0_star1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  have h3 : ∀ h : _, View.readAt (Elt F) arg3.view (Rect.unit (s := S12) (k0_off2 i) S1.size h).toLoadRect (harg3.unread x3)
      (Shape.Idx.first (numel1_S1.symm ▸ Nat.one_pos)) = x3 (wordIdx i) := fun _ => congrFun hf3 (wordIdx i)
  have h5 : View.readAt (Elt F) arg5.view (Rect.unit (s := S12) (k0_off1 i) S1.size (k0_off1_inb i)).toLoadRect (harg5.unread x5)
      (Shape.Idx.first (numel1_S1.symm ▸ Nat.one_pos)) = x5 (wordIdx i) := congrFun hf5 (wordIdx i)
  have h6 : View.readAt (Elt F) arg6.view (Rect.unit (s := S12) (k0_off1 i) S1.size (k0_off1_inb i)).toLoadRect (harg6.unread x6)
      (Shape.Idx.first (numel1_S1.symm ▸ Nat.one_pos)) = x6 (wordIdx i) := congrFun hf6 (wordIdx i)
  have steps : (((i 2).val = 0) = True ∧ ((i 2).val = 15) = False) ∨ (((i 2).val = 0) = False ∧ ((i 2).val = 15) = True)
      ∨ (((i 2).val = 0) = False ∧ ((i 2).val = 15) = False) := by
    by_cases h0 : (i 2).val = 0
    · exact .inl ⟨eq_true h0, eq_false (by omega)⟩
    · by_cases h15 : (i 2).val = 15
      · exact .inr (.inl ⟨eq_false h0, eq_true h15⟩)
      · exact .inr (.inr ⟨eq_false h0, eq_false h15⟩)
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; rotate_left
    · iexact H15
    · ipureintro
      repeat (first | unfold body_step.sl.r | unfold body_step.sl.r_1 | unfold body_step.sl.r_2 | unfold body_step.sl.v35_1 | unfold body_step.sl.v35 | unfold body_step.sl.v31 | unfold body_step.sl.v28 | unfold body_step.sl.v30 | unfold body_step.sl.v27 | unfold body_step.sl.v26 | unfold body_step.sl.v29)
      unfold outNext accNext
      by_cases hl : k0_cond1 (x5 (wordIdx i)) (x6 (wordIdx i)) = 1#1
      · rcases steps with ⟨e0, e15⟩ | ⟨e0, e15⟩ | ⟨e0, e15⟩ <;>
          simp -proj only [h3, h5, h6, first_step, later_step, last_step, hl, e0, e15, not_true_eq_false, not_false_eq_true, dite_true, dite_false, ite_true, ite_false, eq_self, View.readAt_full, View.read_writes_full, hf7, hf8, hf9, hf10, hf11, hf12, hf13, hf14, hf15, hf16]
      · simp -proj only [h5, h6, hl, dite_false, ite_false, hf15, hf16]
  iexists _; isplitr; rotate_left
  · iexact H16
  · ipureintro
    repeat (first | unfold body_step.sl.r | unfold body_step.sl.r_1 | unfold body_step.sl.v35 | unfold body_step.sl.v31 | unfold body_step.sl.v28 | unfold body_step.sl.v30 | unfold body_step.sl.v27 | unfold body_step.sl.v26 | unfold body_step.sl.v29)
    unfold accNext
    by_cases hl : k0_cond1 (x5 (wordIdx i)) (x6 (wordIdx i)) = 1#1
    · rcases steps with ⟨e0, e15⟩ | ⟨e0, e15⟩ | ⟨e0, e15⟩ <;>
        simp -proj only [h3, h5, h6, first_step, later_step, last_step, hl, e0, e15, not_true_eq_false, not_false_eq_true, dite_true, dite_false, ite_true, ite_false, eq_self, View.readAt_full, View.read_writes_full, hf7, hf8, hf9, hf10, hf11, hf12, hf13, hf14, hf15, hf16]
    · simp -proj only [h5, h6, hl, dite_false, ite_false, hf15, hf16]

end Cert.KernelIdeal.Gen
-- ==== Proof.IdealTables.lean ====
module

public import proofs.«01_k».proof.Proof.Gen.KernelIdeal.Launch
public import proofs.«01_k».proof.Proof.Items
public import proofs.«01_k».proof.Proof.Takes

/-!
The four prefetched tables, read off the host operations before the launch: slot `x` holds the pair
`Items.pick … x`; the tables are its tile, its domain, and the first and last row of its interval (both 0 for a slot
past the live pairs). Each stretch of host operations is read by itself, over any contents before it.
-/

@[expose] public section

set_option maxRecDepth 16384
set_option backward.proofsInPublic true

noncomputable section

namespace Cert.KernelIdeal.Gen

open Cert.Shared Idealize.ShloMosaic Idealize.ShloMosaic.TcCoe

variable {F : FTy → Type} [FloatOps F] (W : Valuation τ sig (Elt F))

/-- The six offsets in the contents `W`. -/
def offs (W : Valuation τ sig (Elt F)) (k : Fin 6) : BitVec 32 := (W main_arg0 : S6.Idx → BitVec 32) (ix1 k)

/-- The live bits of the pairs, as the array the host holds. -/
def liveArr (W : Valuation τ sig (Elt F)) : S40.Idx → BitVec 1 := fun x => Items.live (offs W) (x 0)

/-- The number of live pairs, as the host sums it. -/
def liveCount (w : S40.Idx → BitVec 1) : BitVec 32 :=
  Host.reduce IntOp.addi (extui 32 w natLt_1_32) (constantI S_ 32 0#32) reducesTo_S40_S_d0 h_S_ Idealize.ShloMosaic.ix0

/-- The stable sort of the pairs by the word `w`, as a self-map of their numbers. -/
@[irreducible] def orderBy (w : S40.Idx → BitVec 1) : Fin 40 → Fin 40 :=
  sortedFrom fun k k' => IntOp.cmpi .ult (w (Shape.Idx.ofFin k)) (w (Shape.Idx.ofFin k')) == 1#1

theorem orderBy_live : orderBy (fun x => ~~~ (liveArr W x)) = Items.order (offs W) := by
  unfold orderBy Items.order
  simp only [liveArr, Shape.Idx.ofFin_zero]

theorem read_v18 (x : S40.Idx) : (StableHlo.after (hostOps0 (F := F)) W main_v18 : S40.Idx → BitVec 1) x = liveArr W x := by
  after_reads_at
  unfold liveArr Items.live Items.rowHi Items.rowLo
  rfl
theorem read_v19 (x : S40.Idx) : (StableHlo.after (hostOps0 (F := F)) W main_v19 : S40.Idx → BitVec 1) x = ~~~ (liveArr W x) := by
  after_reads_at
  unfold liveArr Items.live Items.rowHi Items.rowLo
  rfl
theorem read_v9 (k : Fin 40) : (StableHlo.after (hostOps0 (F := F)) W main_v9 : S40.Idx → BitVec 32) (Shape.Idx.ofFin k) = Items.rowLo (offs W) k := by
  after_reads_at
  unfold Items.rowLo
  rfl
theorem read_v17 (k : Fin 40) : (StableHlo.after (hostOps0 (F := F)) W main_v17 : S40.Idx → BitVec 32) (Shape.Idx.ofFin k) = Items.rowHi (offs W) k := by
  after_reads_at
  unfold Items.rowHi
  rfl

theorem sort40 (u : S40.Idx → BitVec 1) (k : Fin 40) :
    (Host.sort2 S40 0 comparator_i1_i32_d0 u (iotaInDim S40 32 0)).2 (Shape.Idx.ofFin k) = BitVec.ofNat 32 (orderBy u k).val := by
  have e : (Host.sort2 S40 0 comparator_i1_i32_d0 u (iotaInDim S40 32 0)).2 (Shape.Idx.ofFin k) = _ :=
    sort2_vec (n := 40) comparator_i1_i32_d0 u (iotaInDim S40 32 0) (Shape.Idx.ofFin k)
  rw [e]
  unfold orderBy iotaInDim
  simp only [Shape.Idx.ofFin_zero, comparator_i1_i32_d0]

set_option backward.isDefEq.respectTransparency.types false in
theorem read_v20 (w : S40.Idx → BitVec 1) (h : (W main_v19 : S40.Idx → BitVec 1) = w) (k : Fin 40) :
    (StableHlo.after (hostOps0_1 (F := F)) W main_v20 : S40.Idx → BitVec 32) (Shape.Idx.ofFin k)
      = BitVec.ofNat 32 (orderBy w k).val := by
  subst h
  after_reads_simp
  simp only [StableHlo.TRef.toBuf, StableHlo.TRef.ofBuf, cast_cast, cast_eq]
  have e := sort40 (W main_v19) k
  generalize orderBy (W main_v19) k = z at e ⊢
  exact e

theorem read_v34 (x : S12.Idx) (g : Fin 40 → Fin 40) (h : ∀ k, (W main_v20 : S40.Idx → BitVec 32) (Shape.Idx.ofFin k) = BitVec.ofNat 32 (g k).val) :
    (StableHlo.after (hostOps0_2 (F := F)) W main_v34 : S12.Idx → BitVec 32) x
      = BitVec.ofNat 32 (g ⟨(Items.slot (liveCount (W main_v18)) (x 0).val).val, by have := (Items.slot (liveCount (W main_v18)) (x 0).val).isLt; omega⟩).val := by
  after_reads_at
  refine (take_at gather_S12_S12x1_S12_n_0_n_n_0_1_1 rfl rfl rfl rfl _ _ _ x (by decide)).trans ?_
  refine Eq.trans ?_ (h _)
  unfold extractStridedSlice
  refine congrArg (W main_v20 : S40.Idx → BitVec 32) (funext fun a => ?_)
  obtain rfl : a = 0 := Subsingleton.elim _ _
  refine Fin.ext ?_
  refine (Nat.zero_add _).trans ?_
  have e : ∀ a b : S_.Idx, a = b := fun a b => funext fun i => i.elim0
  show min _ _ = _
  unfold Items.slot liveCount
  simp only [select, cmpi, addi, minsi, subi, iotaInDim, constantI]
  rfl
theorem read_v37 (x : S12.Idx) : (StableHlo.after (hostOps0_2 (F := F)) W main_v37 : S12.Idx → BitVec 1) x
    = IntOp.cmpi .sge (BitVec.ofNat 32 (x 0).val) (liveCount (W main_v18)) := by
  after_reads_at
  rfl
theorem read_c5 (x : S_.Idx) : (StableHlo.after (hostOps0_2 (F := F)) W main_c_5 : S_.Idx → BitVec 32) x = 5#32 := by
  after_reads_at
theorem read_c6 (x : S_.Idx) : (StableHlo.after (hostOps0_4 (F := F)) W main_c_6 : S_.Idx → BitVec 32) x = 5#32 := by
  after_reads_at
theorem read_c9 (x : S_.Idx) : (StableHlo.after (hostOps0_6 (F := F)) W main_c_9 : S_.Idx → BitVec 32) x = 0#32 := by
  after_reads_at
theorem read_c12 (x : S_.Idx) : (StableHlo.after (hostOps0_8 (F := F)) W main_c_12 : S_.Idx → BitVec 32) x = 0#32 := by
  after_reads_at
theorem read_v38 (x : S12.Idx) (p : Fin 40) (hp : (W main_v34 : S12.Idx → BitVec 32) x = BitVec.ofNat 32 p.val)
    (hc : (W main_c_5 : S_.Idx → BitVec 32) Idealize.ShloMosaic.ix0 = 5#32) :
    (StableHlo.after (hostOps0_3 (F := F)) W main_v38 : S12.Idx → BitVec 32) x = BitVec.ofNat 32 (p.val / 5) := by
  after_reads_at
  simp only [id, hp, hc]
  exact Items.div5 p
theorem read_v39 (x : S12.Idx) (p : Fin 40) (hp : (W main_v34 : S12.Idx → BitVec 32) x = BitVec.ofNat 32 p.val)
    (hc : (W main_c_6 : S_.Idx → BitVec 32) Idealize.ShloMosaic.ix0 = 5#32) :
    (StableHlo.after (hostOps0_5 (F := F)) W main_v39 : S12.Idx → BitVec 32) x = BitVec.ofNat 32 (p.val % 5) := by
  after_reads_at
  simp only [id, hp, hc]
  exact Items.mod5 p
theorem read_v46 (x : S12.Idx) (p : Fin 40) (hp : (W main_v34 : S12.Idx → BitVec 32) x = BitVec.ofNat 32 p.val) :
    (StableHlo.after (hostOps0_6 (F := F)) W main_v46 : S12.Idx → BitVec 32) x = (W main_v9 : S40.Idx → BitVec 32) (Shape.Idx.ofFin p) := by
  after_reads_at
  refine (take_at gather_S40_S12x1_S12_n_0_n_n_0_1_1 rfl rfl rfl rfl _ _ _ x (by decide)).trans ?_
  refine congrArg _ (congrArg Shape.Idx.ofFin (Fin.ext ?_))
  refine Eq.trans ?_ (Items.clamp40 p)
  refine congrArg (fun b : BitVec 32 => min b.toInt.toNat (40 - 1)) ?_
  refine Eq.trans ?_ (Items.wrap40 p)
  rw [← hp]
  rfl
theorem read_v54 (x : S12.Idx) (p : Fin 40) (hp : (W main_v34 : S12.Idx → BitVec 32) x = BitVec.ofNat 32 p.val) :
    (StableHlo.after (hostOps0_8 (F := F)) W main_v54 : S12.Idx → BitVec 32) x = (W main_v17 : S40.Idx → BitVec 32) (Shape.Idx.ofFin p) := by
  after_reads_at
  refine (take_at gather_S40_S12x1_S12_n_0_n_n_0_1_1 rfl rfl rfl rfl _ _ _ x (by decide)).trans ?_
  refine congrArg _ (congrArg Shape.Idx.ofFin (Fin.ext ?_))
  refine Eq.trans ?_ (Items.clamp40 p)
  refine congrArg (fun b : BitVec 32 => min b.toInt.toNat (40 - 1)) ?_
  refine Eq.trans ?_ (Items.wrap40 p)
  rw [← hp]
  rfl
theorem read_v47 (x : S12.Idx) (hc : (W main_c_9 : S_.Idx → BitVec 32) Idealize.ShloMosaic.ix0 = 0#32) :
    (StableHlo.after (hostOps0_7 (F := F)) W main_v47 : S12.Idx → BitVec 32) x
      = Scalar.select ((W main_v37 : S12.Idx → BitVec 1) x) 0#32 ((W main_v46 : S12.Idx → BitVec 32) x) := by
  after_reads_at
  simp only [id, hc]
theorem read_v55 (x : S12.Idx) (hc : (W main_c_12 : S_.Idx → BitVec 32) Idealize.ShloMosaic.ix0 = 0#32) :
    (StableHlo.after (hostOps0_9 (F := F)) W main_v55 : S12.Idx → BitVec 32) x
      = Scalar.select ((W main_v37 : S12.Idx → BitVec 1) x) 0#32 ((W main_v54 : S12.Idx → BitVec 32) x) := by
  after_reads_at
  simp only [id, hc]
theorem keep_v18_1 : StableHlo.after (hostOps0_1 (F := F)) W main_v18 = W main_v18 := by after_reads_simp
theorem keep_v9_1 : StableHlo.after (hostOps0_1 (F := F)) W main_v9 = W main_v9 := by after_reads_simp
theorem keep_v9_2 : StableHlo.after (hostOps0_2 (F := F)) W main_v9 = W main_v9 := by after_reads_simp
theorem keep_v9_3 : StableHlo.after (hostOps0_3 (F := F)) W main_v9 = W main_v9 := by after_reads_simp
theorem keep_v9_4 : StableHlo.after (hostOps0_4 (F := F)) W main_v9 = W main_v9 := by after_reads_simp
theorem keep_v9_5 : StableHlo.after (hostOps0_5 (F := F)) W main_v9 = W main_v9 := by after_reads_simp
theorem keep_v17_1 : StableHlo.after (hostOps0_1 (F := F)) W main_v17 = W main_v17 := by after_reads_simp
theorem keep_v17_2 : StableHlo.after (hostOps0_2 (F := F)) W main_v17 = W main_v17 := by after_reads_simp
theorem keep_v17_3 : StableHlo.after (hostOps0_3 (F := F)) W main_v17 = W main_v17 := by after_reads_simp
theorem keep_v17_4 : StableHlo.after (hostOps0_4 (F := F)) W main_v17 = W main_v17 := by after_reads_simp
theorem keep_v17_5 : StableHlo.after (hostOps0_5 (F := F)) W main_v17 = W main_v17 := by after_reads_simp
theorem keep_v17_6 : StableHlo.after (hostOps0_6 (F := F)) W main_v17 = W main_v17 := by after_reads_simp
theorem keep_v17_7 : StableHlo.after (hostOps0_7 (F := F)) W main_v17 = W main_v17 := by after_reads_simp
theorem keep_v34_3 : StableHlo.after (hostOps0_3 (F := F)) W main_v34 = W main_v34 := by after_reads_simp
theorem keep_v34_4 : StableHlo.after (hostOps0_4 (F := F)) W main_v34 = W main_v34 := by after_reads_simp
theorem keep_v34_5 : StableHlo.after (hostOps0_5 (F := F)) W main_v34 = W main_v34 := by after_reads_simp
theorem keep_v34_6 : StableHlo.after (hostOps0_6 (F := F)) W main_v34 = W main_v34 := by after_reads_simp
theorem keep_v34_7 : StableHlo.after (hostOps0_7 (F := F)) W main_v34 = W main_v34 := by after_reads_simp
theorem keep_v37_3 : StableHlo.after (hostOps0_3 (F := F)) W main_v37 = W main_v37 := by after_reads_simp
theorem keep_v37_4 : StableHlo.after (hostOps0_4 (F := F)) W main_v37 = W main_v37 := by after_reads_simp
theorem keep_v37_5 : StableHlo.after (hostOps0_5 (F := F)) W main_v37 = W main_v37 := by after_reads_simp
theorem keep_v37_6 : StableHlo.after (hostOps0_6 (F := F)) W main_v37 = W main_v37 := by after_reads_simp
theorem keep_v37_7 : StableHlo.after (hostOps0_7 (F := F)) W main_v37 = W main_v37 := by after_reads_simp
theorem keep_v37_8 : StableHlo.after (hostOps0_8 (F := F)) W main_v37 = W main_v37 := by after_reads_simp
theorem keep_v38_4 : StableHlo.after (hostOps0_4 (F := F)) W main_v38 = W main_v38 := by after_reads_simp
theorem keep_v38_5 : StableHlo.after (hostOps0_5 (F := F)) W main_v38 = W main_v38 := by after_reads_simp
theorem keep_v38_6 : StableHlo.after (hostOps0_6 (F := F)) W main_v38 = W main_v38 := by after_reads_simp
theorem keep_v38_7 : StableHlo.after (hostOps0_7 (F := F)) W main_v38 = W main_v38 := by after_reads_simp
theorem keep_v38_8 : StableHlo.after (hostOps0_8 (F := F)) W main_v38 = W main_v38 := by after_reads_simp
theorem keep_v38_9 : StableHlo.after (hostOps0_9 (F := F)) W main_v38 = W main_v38 := by after_reads_simp
theorem keep_v38_10 : StableHlo.after (hostOps0_10 (F := F)) W main_v38 = W main_v38 := by after_reads_simp
theorem keep_v39_6 : StableHlo.after (hostOps0_6 (F := F)) W main_v39 = W main_v39 := by after_reads_simp
theorem keep_v39_7 : StableHlo.after (hostOps0_7 (F := F)) W main_v39 = W main_v39 := by after_reads_simp
theorem keep_v39_8 : StableHlo.after (hostOps0_8 (F := F)) W main_v39 = W main_v39 := by after_reads_simp
theorem keep_v39_9 : StableHlo.after (hostOps0_9 (F := F)) W main_v39 = W main_v39 := by after_reads_simp
theorem keep_v39_10 : StableHlo.after (hostOps0_10 (F := F)) W main_v39 = W main_v39 := by after_reads_simp
theorem keep_v47_8 : StableHlo.after (hostOps0_8 (F := F)) W main_v47 = W main_v47 := by after_reads_simp
theorem keep_v47_9 : StableHlo.after (hostOps0_9 (F := F)) W main_v47 = W main_v47 := by after_reads_simp
theorem keep_v47_10 : StableHlo.after (hostOps0_10 (F := F)) W main_v47 = W main_v47 := by after_reads_simp
theorem keep_v55_10 : StableHlo.after (hostOps0_10 (F := F)) W main_v55 = W main_v55 := by after_reads_simp

/-- The host operations before the launch, in order. -/
abbrev hostAll : List (List (HloOp τ sig (Elt F))) :=
  [hostOps0, hostOps0_1, hostOps0_2, hostOps0_3, hostOps0_4, hostOps0_5, hostOps0_6, hostOps0_7, hostOps0_8, hostOps0_9, hostOps0_10]

/-- The contents after them, one stretch after the other. -/
def W0 : Valuation τ sig (Elt F) := StableHlo.after (hostOps0 (F := F)) W
def W1 : Valuation τ sig (Elt F) := StableHlo.after (hostOps0_1 (F := F)) (W0 W)
def W2 : Valuation τ sig (Elt F) := StableHlo.after (hostOps0_2 (F := F)) (W1 W)
def W3 : Valuation τ sig (Elt F) := StableHlo.after (hostOps0_3 (F := F)) (W2 W)
def W4 : Valuation τ sig (Elt F) := StableHlo.after (hostOps0_4 (F := F)) (W3 W)
def W5 : Valuation τ sig (Elt F) := StableHlo.after (hostOps0_5 (F := F)) (W4 W)
def W6 : Valuation τ sig (Elt F) := StableHlo.after (hostOps0_6 (F := F)) (W5 W)
def W7 : Valuation τ sig (Elt F) := StableHlo.after (hostOps0_7 (F := F)) (W6 W)
def W8 : Valuation τ sig (Elt F) := StableHlo.after (hostOps0_8 (F := F)) (W7 W)
def W9 : Valuation τ sig (Elt F) := StableHlo.after (hostOps0_9 (F := F)) (W8 W)
def W10 : Valuation τ sig (Elt F) := StableHlo.after (hostOps0_10 (F := F)) (W9 W)
theorem step_v18_1 : W1 W main_v18 = W0 W main_v18 := keep_v18_1 (W0 W)
theorem step_v9_1 : W1 W main_v9 = W0 W main_v9 := keep_v9_1 (W0 W)
theorem step_v9_2 : W2 W main_v9 = W1 W main_v9 := keep_v9_2 (W1 W)
theorem step_v9_3 : W3 W main_v9 = W2 W main_v9 := keep_v9_3 (W2 W)
theorem step_v9_4 : W4 W main_v9 = W3 W main_v9 := keep_v9_4 (W3 W)
theorem step_v9_5 : W5 W main_v9 = W4 W main_v9 := keep_v9_5 (W4 W)
theorem step_v17_1 : W1 W main_v17 = W0 W main_v17 := keep_v17_1 (W0 W)
theorem step_v17_2 : W2 W main_v17 = W1 W main_v17 := keep_v17_2 (W1 W)
theorem step_v17_3 : W3 W main_v17 = W2 W main_v17 := keep_v17_3 (W2 W)
theorem step_v17_4 : W4 W main_v17 = W3 W main_v17 := keep_v17_4 (W3 W)
theorem step_v17_5 : W5 W main_v17 = W4 W main_v17 := keep_v17_5 (W4 W)
theorem step_v17_6 : W6 W main_v17 = W5 W main_v17 := keep_v17_6 (W5 W)
theorem step_v17_7 : W7 W main_v17 = W6 W main_v17 := keep_v17_7 (W6 W)
theorem step_v34_3 : W3 W main_v34 = W2 W main_v34 := keep_v34_3 (W2 W)
theorem step_v34_4 : W4 W main_v34 = W3 W main_v34 := keep_v34_4 (W3 W)
theorem step_v34_5 : W5 W main_v34 = W4 W main_v34 := keep_v34_5 (W4 W)
theorem step_v34_6 : W6 W main_v34 = W5 W main_v34 := keep_v34_6 (W5 W)
theorem step_v34_7 : W7 W main_v34 = W6 W main_v34 := keep_v34_7 (W6 W)
theorem step_v37_3 : W3 W main_v37 = W2 W main_v37 := keep_v37_3 (W2 W)
theorem step_v37_4 : W4 W main_v37 = W3 W main_v37 := keep_v37_4 (W3 W)
theorem step_v37_5 : W5 W main_v37 = W4 W main_v37 := keep_v37_5 (W4 W)
theorem step_v37_6 : W6 W main_v37 = W5 W main_v37 := keep_v37_6 (W5 W)
theorem step_v37_7 : W7 W main_v37 = W6 W main_v37 := keep_v37_7 (W6 W)
theorem step_v37_8 : W8 W main_v37 = W7 W main_v37 := keep_v37_8 (W7 W)
theorem step_v38_4 : W4 W main_v38 = W3 W main_v38 := keep_v38_4 (W3 W)
theorem step_v38_5 : W5 W main_v38 = W4 W main_v38 := keep_v38_5 (W4 W)
theorem step_v38_6 : W6 W main_v38 = W5 W main_v38 := keep_v38_6 (W5 W)
theorem step_v38_7 : W7 W main_v38 = W6 W main_v38 := keep_v38_7 (W6 W)
theorem step_v38_8 : W8 W main_v38 = W7 W main_v38 := keep_v38_8 (W7 W)
theorem step_v38_9 : W9 W main_v38 = W8 W main_v38 := keep_v38_9 (W8 W)
theorem step_v38_10 : W10 W main_v38 = W9 W main_v38 := keep_v38_10 (W9 W)
theorem step_v39_6 : W6 W main_v39 = W5 W main_v39 := keep_v39_6 (W5 W)
theorem step_v39_7 : W7 W main_v39 = W6 W main_v39 := keep_v39_7 (W6 W)
theorem step_v39_8 : W8 W main_v39 = W7 W main_v39 := keep_v39_8 (W7 W)
theorem step_v39_9 : W9 W main_v39 = W8 W main_v39 := keep_v39_9 (W8 W)
theorem step_v39_10 : W10 W main_v39 = W9 W main_v39 := keep_v39_10 (W9 W)
theorem step_v47_8 : W8 W main_v47 = W7 W main_v47 := keep_v47_8 (W7 W)
theorem step_v47_9 : W9 W main_v47 = W8 W main_v47 := keep_v47_9 (W8 W)
theorem step_v47_10 : W10 W main_v47 = W9 W main_v47 := keep_v47_10 (W9 W)
theorem step_v55_10 : W10 W main_v55 = W9 W main_v55 := keep_v55_10 (W9 W)

theorem after_hostAll : StableHlo.after (hostAll (F := F)).flatten W = W10 W := by
  simp only [hostAll, List.flatten_cons, List.flatten_nil, StableHlo.after_append, List.append_nil]
  rfl

/-- The pair in slot `x`. -/
@[irreducible] def pickOf (W : Valuation τ sig (Elt F)) (x : Fin 12) : Fin 40 := Items.pick (offs W) (liveCount (liveArr W)) x.val

theorem W1_v18 : (W1 W main_v18 : S40.Idx → BitVec 1) = liveArr W := by
  rw [step_v18_1]; exact funext fun x => read_v18 W x

theorem W2_v34 (x : S12.Idx) : (W2 W main_v34 : S12.Idx → BitVec 32) x = BitVec.ofNat 32 (pickOf W (x 0)).val := by
  have h : ∀ k, (W1 W main_v20 : S40.Idx → BitVec 32) (Shape.Idx.ofFin k) = BitVec.ofNat 32 (Items.order (offs W) k).val := by
    intro k
    unfold W1
    rw [read_v20 (W0 W) (fun x => ~~~ (liveArr W x)) (funext fun x => read_v19 W x) k, orderBy_live]
  have e := read_v34 (W1 W) x (Items.order (offs W)) h
  refine Eq.trans (b := _) e ?_
  · unfold pickOf Items.pick
    exact congrArg (fun w => BitVec.ofNat 32 (Items.order (offs W)
      ⟨(Items.slot (liveCount w) (x 0).val).val, by have := (Items.slot (liveCount w) (x 0).val).isLt; omega⟩).val) (W1_v18 W)

theorem W2_v37 (x : S12.Idx) : (W2 W main_v37 : S12.Idx → BitVec 1) x
    = IntOp.cmpi .sge (BitVec.ofNat 32 (x 0).val) (liveCount (liveArr W)) := by
  refine (read_v37 (W1 W) x).trans ?_
  rw [W1_v18]

/-- The tile of slot `x`. -/
theorem tab_tile (x : S12.Idx) : (W10 W main_v38 : S12.Idx → BitVec 32) x = BitVec.ofNat 32 ((pickOf W (x 0)).val / 5) := by
  rw [step_v38_10, step_v38_9, step_v38_8, step_v38_7, step_v38_6, step_v38_5, step_v38_4]
  exact read_v38 (W2 W) x (pickOf W (x 0)) (W2_v34 W x) (read_c5 _ _)

/-- The domain of slot `x`. -/
theorem tab_dom (x : S12.Idx) : (W10 W main_v39 : S12.Idx → BitVec 32) x = BitVec.ofNat 32 ((pickOf W (x 0)).val % 5) := by
  rw [step_v39_10, step_v39_9, step_v39_8, step_v39_7, step_v39_6]
  refine read_v39 (W4 W) x (pickOf W (x 0)) ?_ (read_c6 _ _)
  rw [step_v34_4, step_v34_3]
  exact W2_v34 W x

/-- The first row of slot `x`. -/
theorem tab_lo (x : S12.Idx) : (W10 W main_v47 : S12.Idx → BitVec 32) x
    = Scalar.select (IntOp.cmpi .sge (BitVec.ofNat 32 (x 0).val) (liveCount (liveArr W))) 0#32 (Items.rowLo (offs W) (pickOf W (x 0))) := by
  rw [step_v47_10, step_v47_9, step_v47_8]
  refine (read_v47 (W6 W) x (read_c9 _ _)).trans ?_
  have h46 : (W6 W main_v46 : S12.Idx → BitVec 32) x = Items.rowLo (offs W) (pickOf W (x 0)) := by
    refine (read_v46 (W5 W) x (pickOf W (x 0)) ?_).trans ?_
    · rw [step_v34_5, step_v34_4, step_v34_3]; exact W2_v34 W x
    · rw [step_v9_5, step_v9_4, step_v9_3, step_v9_2, step_v9_1]; exact read_v9 W _
  rw [h46, step_v37_6, step_v37_5, step_v37_4, step_v37_3, W2_v37]

/-- The row after the last one of slot `x`. -/
theorem tab_hi (x : S12.Idx) : (W10 W main_v55 : S12.Idx → BitVec 32) x
    = Scalar.select (IntOp.cmpi .sge (BitVec.ofNat 32 (x 0).val) (liveCount (liveArr W))) 0#32 (Items.rowHi (offs W) (pickOf W (x 0))) := by
  rw [step_v55_10]
  refine (read_v55 (W8 W) x (read_c12 _ _)).trans ?_
  have h54 : (W8 W main_v54 : S12.Idx → BitVec 32) x = Items.rowHi (offs W) (pickOf W (x 0)) := by
    refine (read_v54 (W7 W) x (pickOf W (x 0)) ?_).trans ?_
    · rw [step_v34_7, step_v34_6, step_v34_5, step_v34_4, step_v34_3]; exact W2_v34 W x
    · rw [step_v17_7, step_v17_6, step_v17_5, step_v17_4, step_v17_3, step_v17_2, step_v17_1]; exact read_v17 W _
  rw [h54, step_v37_8, step_v37_7, step_v37_6, step_v37_5, step_v37_4, step_v37_3, W2_v37]

end Cert.KernelIdeal.Gen
-- ==== Proof.IdealEntry.lean ====
module

public import proofs.«01_k».proof.Proof.IdealTables
public import Idealize.ShloMosaic.Lib.Pipeline.Frame
public import Idealize.ShloMosaic.Lib.Tactic

/-!
The memory as the launch finds it: the arguments are as they were, the two biases are reshaped, the four tables hold
what `Proof/IdealTables.lean` reads. Every table word names a block inside its array (a tile below 8, a domain below 5), so
the launch's condition on the tables holds whatever the offsets are.
-/

@[expose] public section

set_option maxRecDepth 16384

noncomputable section

namespace Cert.KernelIdeal.Gen

open Cert.Shared Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

variable (m : (ℓ : Loc nD τ sig) → Buf (Elt F) ℓ) (ρ : Dev nD → PrngReg)

/-- What the host operations leave, from the launch memory. -/
abbrev V (c : Dev nD) (b : Ref sig .tc) : Buf (Elt F) ((c.tc : Thread nD τ).loc b) :=
  StableHlo.after (hostAll (F := F)).flatten (fun b => m (c, b)) b

theorem V_eq (c : Dev nD) (b : Ref sig .tc) : V m c b = W10 (fun b => m (c, b)) b :=
  congrFun (after_hostAll (fun b => m (c, b))) _

/-- The nine arguments. -/
abbrev argRefs : List (Ref sig .tc) := [main_arg0, main_arg1, main_arg2, main_arg3, main_arg4, main_arg5, main_arg6, main_arg7, main_arg8]

/-- No host operation writes an argument. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostAll, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => absurd (h ▸ hb) (by decide))))

/-- The tables at the launch (one core). -/
def pf : pre0.Contents (Elt F) := fun k => V m (0 : Dev nD) (pre0.ref k)

theorem devUniq (c : Dev nD) : c = 0 := Subsingleton.elim _ _

/-- The tile (table 0) at grid point `i`. -/
abbrev word0 (i : grid0.Coords) : BitVec 32 := (pf m).at 0 (Rect.unit (s := S12) (k0_off1 i) S1.size (k0_off1_inb i)) numel1_S1

/-- The domain (table 1) at grid point `i`. -/
abbrev word1 (i : grid0.Coords) : BitVec 32 := (pf m).at 1 (Rect.unit (s := S12) (k0_off1 i) S1.size (k0_off1_inb i)) numel1_S1

/-- The first row (table 2) at grid point `i`. -/
abbrev word2 (i : grid0.Coords) : BitVec 32 := (pf m).at 2 (Rect.unit (s := S12) (k0_off1 i) S1.size (k0_off1_inb i)) numel1_S1

/-- The last row (table 3) at grid point `i`. -/
abbrev word3 (i : grid0.Coords) : BitVec 32 := (pf m).at 3 (Rect.unit (s := S12) (k0_off1 i) S1.size (k0_off1_inb i)) numel1_S1

/-- The memory the launch starts from, as one valuation. -/
abbrev M0 : Valuation τ sig (Elt F) := fun b => m ((0 : Dev nD), b)

abbrev slotOf (i : grid0.Coords) : Fin 12 := (Rect.unit (s := S12) (k0_off1 i) S1.size (k0_off1_inb i)).emb (Shape.Idx.first (numel1_S1.symm ▸ Nat.one_pos)) 0

theorem word_tile (i : grid0.Coords) : word0 m i = BitVec.ofNat 32 ((pickOf (M0 m) (slotOf i)).val / 5) :=
  (congrFun (V_eq m 0 main_v38) _).trans (tab_tile (M0 m) _)

theorem word_dom (i : grid0.Coords) : word1 m i = BitVec.ofNat 32 ((pickOf (M0 m) (slotOf i)).val % 5) :=
  (congrFun (V_eq m 0 main_v39) _).trans (tab_dom (M0 m) _)

theorem pick_lt (x : Fin 12) : (pickOf (M0 m) x).val < 40 := (pickOf (M0 m) x).isLt

theorem tile_lt (i : grid0.Coords) : (word0 m i).toNat < 8 := by
  rw [word_tile, BitVec.toNat_ofNat]; have := pick_lt m (slotOf i); omega

theorem dom_lt (i : grid0.Coords) : (word1 m i).toNat < 5 := by
  rw [word_dom, BitVec.toNat_ofNat]; have := pick_lt m (slotOf i); omega

/-- The step a window of weights or codes is read at. -/
abbrev kidx (i : grid0.Coords) : BitVec 32 :=
  Scalar.select (Scalar.cmpi .sgt (word3 m i) (word2 m i)) (BitVec.ofNat 32 (i 2).val) 15#32

theorem kidx_lt (i : grid0.Coords) : (kidx m i).toNat < 16 := by
  have h2 : (i 2).val < 16 := (i 2).isLt
  unfold kidx Scalar.select
  split
  · rw [BitVec.toNat_ofNat]; omega
  · decide

theorem tr0 (i : grid0.Coords) : cc0_transform_0 k0_off1_inb numel1_S1 (pf m) i = ![(word0 m i).toNat, (kidx m i).toNat] := rfl
theorem tr1 (i : grid0.Coords) : cc0_transform_1 k0_off1_inb numel1_S1 (pf m) i = ![(word0 m i).toNat, 0] := rfl
theorem tr2 (i : grid0.Coords) : cc0_transform_2 k0_off1_inb numel1_S1 (pf m) i = ![(kidx m i).toNat, (BitVec.ofNat 32 (i 0).val).toNat] := rfl
theorem tr3 (i : grid0.Coords) : cc0_transform_3 k0_off1_inb numel1_S1 (pf m) i = ![(kidx m i).toNat, (BitVec.ofNat 32 (i 0).val).toNat] := rfl
theorem tr4 (i : grid0.Coords) : cc0_transform_4 k0_off1_inb numel1_S1 (pf m) i = ![(word1 m i).toNat, (kidx m i).toNat, (BitVec.ofNat 32 (i 0).val).toNat] := rfl
theorem tr5 (i : grid0.Coords) : cc0_transform_5 k0_off1_inb numel1_S1 (pf m) i = ![(word1 m i).toNat, (kidx m i).toNat, (BitVec.ofNat 32 (i 0).val).toNat] := rfl
theorem tr7 (i : grid0.Coords) : cc0_transform_7 k0_off1_inb numel1_S1 (pf m) i = ![(word1 m i).toNat, 0, (BitVec.ofNat 32 (i 0).val).toNat] := rfl
theorem tr8 (i : grid0.Coords) : cc0_transform_8 k0_off1_inb numel1_S1 (pf m) i = ![(word0 m i).toNat, (BitVec.ofNat 32 (i 0).val).toNat] := rfl

theorem j_lt (i : grid0.Coords) : (BitVec.ofNat 32 (i 0).val).toNat < 2 := by
  have h0 : (i 0).val < 2 := (i 0).isLt
  rw [BitVec.toNat_ofNat]; omega

theorem ok : ok0 (pf m) := by
  unfold ok0
  refine ⟨fun i => ?_, fun i => ?_, fun i => ?_, fun i => ?_, fun i => ?_, fun i => ?_, fun i => ?_, fun i => ?_⟩ <;>
    have ht := tile_lt m i <;> have hd := dom_lt m i <;> have hk := kidx_lt m i <;> have hj := j_lt i
  · rw [tr0]; refine ⟨?_, .inr (whole_words2 _ (by decide))⟩
    intro a; fin_cases a <;> simp <;> omega
  · rw [tr1]; refine ⟨?_, .inl rfl⟩
    intro a; fin_cases a <;> simp <;> omega
  · rw [tr2]; refine ⟨?_, .inr (whole_words2 _ (by decide))⟩
    intro a; fin_cases a <;> simp <;> omega
  · rw [tr3]; refine ⟨?_, .inl rfl⟩
    intro a; fin_cases a <;> simp <;> omega
  · rw [tr4]; refine ⟨?_, .inr (whole_words3 _ (by decide))⟩
    intro a; fin_cases a <;> simp <;> omega
  · rw [tr5]; refine ⟨?_, .inl rfl⟩
    intro a; fin_cases a <;> simp <;> omega
  · rw [tr7]; refine ⟨?_, .inl rfl⟩
    intro a; fin_cases a <;> simp <;> omega
  · rw [tr8]; refine ⟨?_, .inl rfl⟩
    intro a; fin_cases a <;> simp <;> omega

/-- The tables, admissible. -/
def adm : (pcfg0 (F := F)).Adm := ⟨pf m, ok m⟩

end Cert.KernelIdeal.Gen

end
-- ==== Proof.IdealRun.lean ====
module

public import proofs.«01_k».proof.Proof.IdealBody
public import proofs.«01_k».proof.Proof.IdealEntry
public import Idealize.ShloMosaic.Lib.Claim

/-!
The run of the launch. At each grid point the accumulator and the output's staging buffer change as `accNext` and
`outNext` (`Proof/IdealBody.lean`) say, with the point's blocks of the inputs; every input block is left as it was.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf ΦA ΦT)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline at the tables the host computed. -/
abbrev cfgM : Cfg sig Λ₀ := cfg0 (adm m)

/-- The block of window `w` at point `t`, read off the array. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The block of window 0, at its shape. -/
abbrev blk0 (c : Dev nD) (t : Fin (cfgM m).N) : Vec F S512x1024 .fp8e4m3 := iblk m c 0 t

/-- The block of window 1, at its shape. -/
abbrev blk1 (c : Dev nD) (t : Fin (cfgM m).N) : Vec F S512x1 .f32 := iblk m c 1 t

/-- The block of window 2, at its shape. -/
abbrev blk2 (c : Dev nD) (t : Fin (cfgM m).N) : Vec F S1024x1024 .fp8e4m3 := iblk m c 2 t

/-- The block of window 3, at its shape. -/
abbrev blk3 (c : Dev nD) (t : Fin (cfgM m).N) : Vec F S16x1024 .f32 := iblk m c 3 t

/-- The block of window 4, at its shape. -/
abbrev blk4 (c : Dev nD) (t : Fin (cfgM m).N) : Vec F S1x1024x1024 .fp8e4m3 := iblk m c 4 t

/-- The block of window 5, at its shape. -/
abbrev blk5 (c : Dev nD) (t : Fin (cfgM m).N) : Vec F S1x16x1024 .f32 := iblk m c 5 t

/-- The block of window 6, at its shape. -/
abbrev blk6 (c : Dev nD) (t : Fin (cfgM m).N) : Vec F S1x1024 .f32 := iblk m c 6 t

/-- The block of window 7, at its shape. -/
abbrev blk7 (c : Dev nD) (t : Fin (cfgM m).N) : Vec F S1x1x1024 .f32 := iblk m c 7 t

/-- The accumulator after point `t`, from what it held. -/
def accAfter (c : Dev nD) (t : Fin (cfgM m).N) (g : Vec F S512x1024 .f32) : Vec F S512x1024 .f32 :=
  accNext (word2 m (grid0.coords t)) (word3 m (grid0.coords t)) (grid0.coords t) (blk0 m c t) (blk2 m c t) (blk3 m c t) (blk4 m c t) (blk5 m c t) g

/-- The output's staging buffer after point `t`, from what it (`Y`) and the accumulator (`g`) held. -/
def outAfter (c : Dev nD) (t : Fin (cfgM m).N) (Y g : Vec F S512x1024 .f32) : Vec F S512x1024 .f32 :=
  outNext (word2 m (grid0.coords t)) (word3 m (grid0.coords t)) (grid0.coords t) (word0 m (grid0.coords t)) (blk0 m c t) (blk1 m c t) (blk2 m c t) (blk3 m c t) (blk4 m c t) (blk5 m c t) (blk6 m c t) (blk7 m c t) Y g

/-- What the accumulator may hold before point `n`. -/
def AccP (c : Dev nD) : ℕ → Vec F S512x1024 .f32 → Prop
  | 0, _ => True
  | n + 1, f => ∃ g, AccP c n g ∧ ∀ h : n < (cfgM m).N, f = accAfter m c ⟨n, h⟩ g

theorem AccP_zero (c : Dev nD) (f : Vec F S512x1024 .f32) : AccP m c 0 f := trivial

theorem AccP_succ (c : Dev nD) (t : Fin (cfgM m).N) (g : Vec F S512x1024 .f32) (h : AccP m c t.val g) : AccP m c (t.val + 1) (accAfter m c t g) :=
  ⟨g, h, fun _ => rfl⟩

/-- The tables' share the body reads from, and the accumulator at what it may hold. -/
def Inv (c : Dev nD) (n : ℕ) : sProp 𝕄 :=
  iprop(owns (c : Thread nD τ) (Memref.whole main_v38) fullShare.right (pf m 0) ∗ owns (c : Thread nD τ) (Memref.whole main_v39) fullShare.right (pf m 1)
    ∗ owns (c : Thread nD τ) (Memref.whole main_v47) fullShare.right (pf m 2) ∗ owns (c : Thread nD τ) (Memref.whole main_v55) fullShare.right (pf m 3)
    ∗ (∃ r, prngReg c r) ∗ ∃ g : Vec F S512x1024 .f32, ⌜AccP m c n g⌝ ∗ owns (c : Thread nD τ) (Memref.whole cc0_scratch0) fullShare g)

/-- The proof's data: inputs are left as found; the output's buffer is `outAfter` of what was found. -/
def rdat (c : Dev nD) : RDat τ (Elt F) Unit ℕ (UR sig nD τ) ℕ (cfgM m) c where
  A w := V m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun t Y X => ∃ g, AccP m c t.val g ∧ X = outAfter m c t Y g
    | ⟨_ + 9, h⟩ => absurd h (Nat.not_lt.2 (Nat.le_add_left _ _))
  Φ t := Inv m c t.val
  q _ := fullShare
  owed _ := 0

theorem A_eq (c : Dev nD) (w : Fin (cfgM m).W) : (rdat m c).A w = V m c (Pipeline.arrRef spec0 w) := rfl

theorem Φ_eq (c : Dev nD) (n : Fin ((cfgM m).N + 1)) : (rdat m c).Φ n = Inv m c n.val := rfl

theorem found0 (c : Dev nD) (t : Fin (cfgM m).N) (Y) (h : (rdat m c).Finds 0 t Y) : Y = blk0 m c t := by
  obtain ⟨d, rfl⟩ := (rdat m c).finds_in_eq_fetched 0 rfl (fun _ _ _ => rfl) (fun _ _ _ h => h) t Y h
  unfold RDat.fetched RDat.blockOf blk0 iblk; rw [A_eq]; try rfl

theorem found1 (c : Dev nD) (t : Fin (cfgM m).N) (Y) (h : (rdat m c).Finds 1 t Y) : Y = blk1 m c t := by
  obtain ⟨d, rfl⟩ := (rdat m c).finds_in_eq_fetched 1 rfl (fun _ _ _ => rfl) (fun _ _ _ h => h) t Y h
  unfold RDat.fetched RDat.blockOf blk1 iblk; rw [A_eq]; try rfl

theorem found2 (c : Dev nD) (t : Fin (cfgM m).N) (Y) (h : (rdat m c).Finds 2 t Y) : Y = blk2 m c t := by
  obtain ⟨d, rfl⟩ := (rdat m c).finds_in_eq_fetched 2 rfl (fun _ _ _ => rfl) (fun _ _ _ h => h) t Y h
  unfold RDat.fetched RDat.blockOf blk2 iblk; rw [A_eq]; try rfl

theorem found3 (c : Dev nD) (t : Fin (cfgM m).N) (Y) (h : (rdat m c).Finds 3 t Y) : Y = blk3 m c t := by
  obtain ⟨d, rfl⟩ := (rdat m c).finds_in_eq_fetched 3 rfl (fun _ _ _ => rfl) (fun _ _ _ h => h) t Y h
  unfold RDat.fetched RDat.blockOf blk3 iblk; rw [A_eq]; try rfl

theorem found4 (c : Dev nD) (t : Fin (cfgM m).N) (Y) (h : (rdat m c).Finds 4 t Y) : Y = blk4 m c t := by
  obtain ⟨d, rfl⟩ := (rdat m c).finds_in_eq_fetched 4 rfl (fun _ _ _ => rfl) (fun _ _ _ h => h) t Y h
  unfold RDat.fetched RDat.blockOf blk4 iblk; rw [A_eq]; try rfl

theorem found5 (c : Dev nD) (t : Fin (cfgM m).N) (Y) (h : (rdat m c).Finds 5 t Y) : Y = blk5 m c t := by
  obtain ⟨d, rfl⟩ := (rdat m c).finds_in_eq_fetched 5 rfl (fun _ _ _ => rfl) (fun _ _ _ h => h) t Y h
  unfold RDat.fetched RDat.blockOf blk5 iblk; rw [A_eq]; try rfl

theorem found6 (c : Dev nD) (t : Fin (cfgM m).N) (Y) (h : (rdat m c).Finds 6 t Y) : Y = blk6 m c t := by
  obtain ⟨d, rfl⟩ := (rdat m c).finds_in_eq_fetched 6 rfl (fun _ _ _ => rfl) (fun _ _ _ h => h) t Y h
  unfold RDat.fetched RDat.blockOf blk6 iblk; rw [A_eq]; try rfl

theorem found7 (c : Dev nD) (t : Fin (cfgM m).N) (Y) (h : (rdat m c).Finds 7 t Y) : Y = blk7 m c t := by
  obtain ⟨d, rfl⟩ := (rdat m c).finds_in_eq_fetched 7 rfl (fun _ _ _ => rfl) (fun _ _ _ h => h) t Y h
  unfold RDat.fetched RDat.blockOf blk7 iblk; rw [A_eq]; try rfl

theorem defs₀_row (c : Dev nD) (t : Fin (cfgM m).N) :
    defs₀ (F := F) .tc (cfgM m).body ((cfgM m).bodyArgs t ((cfgM m).slots t))
      = cc0_star1 (grid0.coords t) (Memref.whole main_v38) (Memref.isWhole_whole _) (Memref.whole main_v39) (Memref.isWhole_whole _) (Memref.whole main_v47) (Memref.isWhole_whole _) (Memref.whole main_v55) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (Memref.whole cc0_scratch0) (Memref.isWhole_whole _) := by
  unfold defs₀; rw [Defs.onTc_tc]

set_option maxHeartbeats 2000000 in
theorem sound_body (c : Dev nD) (t : Fin (cfgM m).N) (Y8 : Vec F S512x1024 .f32) :
    iprop(Inv m c t.val ∗ (rdat m c).owesAt () t.castSucc
        ∗ owns (c : Thread nD τ) (spec0_0.stage ((cfgM m).slots t 0)) fullShare (blk0 m c t)
        ∗ owns (c : Thread nD τ) (spec0_1.stage ((cfgM m).slots t 1)) fullShare (blk1 m c t)
        ∗ owns (c : Thread nD τ) (spec0_2.stage ((cfgM m).slots t 2)) fullShare (blk2 m c t)
        ∗ owns (c : Thread nD τ) (spec0_3.stage ((cfgM m).slots t 3)) fullShare (blk3 m c t)
        ∗ owns (c : Thread nD τ) (spec0_4.stage ((cfgM m).slots t 4)) fullShare (blk4 m c t)
        ∗ owns (c : Thread nD τ) (spec0_5.stage ((cfgM m).slots t 5)) fullShare (blk5 m c t)
        ∗ owns (c : Thread nD τ) (spec0_6.stage ((cfgM m).slots t 6)) fullShare (blk6 m c t)
        ∗ owns (c : Thread nD τ) (spec0_7.stage ((cfgM m).slots t 7)) fullShare (blk7 m c t)
        ∗ owns (c : Thread nD τ) (spec0_8.stage ((cfgM m).slots t 8)) fullShare Y8)
      ⊢ wp frame (wpE (defs₀ (F := F)) Variants.none c none) Set.univ (cc0_star1 (grid0.coords t) (Memref.whole main_v38) (Memref.isWhole_whole _) (Memref.whole main_v39) (Memref.isWhole_whole _) (Memref.whole main_v47) (Memref.isWhole_whole _) (Memref.whole main_v55) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (Memref.whole cc0_scratch0) (Memref.isWhole_whole _)) fun _ =>
        iprop(Inv m c (t.val + 1) ∗ (rdat m c).owesAt () t.succ
          ∗ (∃ X, ⌜X = blk0 m c t⌝ ∗ owns (c : Thread nD τ) (spec0_0.stage ((cfgM m).slots t 0)) fullShare X)
          ∗ (∃ X, ⌜X = blk1 m c t⌝ ∗ owns (c : Thread nD τ) (spec0_1.stage ((cfgM m).slots t 1)) fullShare X)
          ∗ (∃ X, ⌜X = blk2 m c t⌝ ∗ owns (c : Thread nD τ) (spec0_2.stage ((cfgM m).slots t 2)) fullShare X)
          ∗ (∃ X, ⌜X = blk3 m c t⌝ ∗ owns (c : Thread nD τ) (spec0_3.stage ((cfgM m).slots t 3)) fullShare X)
          ∗ (∃ X, ⌜X = blk4 m c t⌝ ∗ owns (c : Thread nD τ) (spec0_4.stage ((cfgM m).slots t 4)) fullShare X)
          ∗ (∃ X, ⌜X = blk5 m c t⌝ ∗ owns (c : Thread nD τ) (spec0_5.stage ((cfgM m).slots t 5)) fullShare X)
          ∗ (∃ X, ⌜X = blk6 m c t⌝ ∗ owns (c : Thread nD τ) (spec0_6.stage ((cfgM m).slots t 6)) fullShare X)
          ∗ (∃ X, ⌜X = blk7 m c t⌝ ∗ owns (c : Thread nD τ) (spec0_7.stage ((cfgM m).slots t 7)) fullShare X)
          ∗ ∃ X, ⌜∃ g, AccP m c t.val g ∧ X = outAfter m c t Y8 g⌝ ∗ owns (c : Thread nD τ) (spec0_8.stage ((cfgM m).slots t 8)) fullShare X) := by
  unfold Inv
  iintro ⟨⟨T0, T1, T2, T3, Hp, %g, %hg, Hs⟩, Ho, B0, B1, B2, B3, B4, B5, B6, B7, B8⟩
  iapply (body_step c (grid0.coords t) fullShare.right)
  isplitl [T0]; · iexact T0
  isplitl [T1]; · iexact T1
  isplitl [T2]; · iexact T2
  isplitl [T3]; · iexact T3
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [Hs]; · iexact Hs
  iintro ⟨T0, T1, T2, T3, B0, B1, B2, B3, B4, B5, B6, B7, B8, Hs⟩
  isplitl [T0 T1 T2 T3 Hp Hs]
  · isplitl [T0]; · iexact T0
    isplitl [T1]; · iexact T1
    isplitl [T2]; · iexact T2
    isplitl [T3]; · iexact T3
    isplitl [Hp]; · iexact Hp
    iexists _; isplitr; rotate_left
    · iexact Hs
    · ipureintro; exact AccP_succ m c t g hg
  isplitl [Ho]; · iexact Ho
  isplitl [B0]
  · iexists _; isplitr; rotate_left
    · iexact B0
    · ipureintro; rfl
  isplitl [B1]
  · iexists _; isplitr; rotate_left
    · iexact B1
    · ipureintro; rfl
  isplitl [B2]
  · iexists _; isplitr; rotate_left
    · iexact B2
    · ipureintro; rfl
  isplitl [B3]
  · iexists _; isplitr; rotate_left
    · iexact B3
    · ipureintro; rfl
  isplitl [B4]
  · iexists _; isplitr; rotate_left
    · iexact B4
    · ipureintro; rfl
  isplitl [B5]
  · iexists _; isplitr; rotate_left
    · iexact B5
    · ipureintro; rfl
  isplitl [B6]
  · iexists _; isplitr; rotate_left
    · iexact B6
    · ipureintro; rfl
  isplitl [B7]
  · iexists _; isplitr; rotate_left
    · iexact B7
    · ipureintro; rfl
  iexists _; isplitr; rotate_left
  · iexact B8
  · ipureintro; exact ⟨g, hg, rfl⟩

theorem body_obligation (c : Dev nD) : (rdat m c).BodyObligation (defs₀ (F := F)) Variants.none () Set.univ := fun t Y hY => by
  have h0 := found0 m c t _ (hY 0)
  have h1 := found1 m c t _ (hY 1)
  have h2 := found2 m c t _ (hY 2)
  have h3 := found3 m c t _ (hY 3)
  have h4 := found4 m c t _ (hY 4)
  have h5 := found5 m c t _ (hY 5)
  have h6 := found6 m c t _ (hY 6)
  have h7 := found7 m c t _ (hY 7)
  rw [bigSep_W0, bigSep_W0, defs₀_row m c t, h0, h1, h2, h3, h4, h5, h6, h7]
  have e1 : (rdat m c).Φ t.castSucc = Inv m c t.val := by rw [Φ_eq, Fin.val_castSucc]
  have e2 : (rdat m c).Φ t.succ = Inv m c (t.val + 1) := by rw [Φ_eq, Fin.val_succ]
  rw [e1, e2]
  refine triple_restated (sound_body m c t (Y 8)) rfl ?_ fun _ => ?_
  · iintro ⟨Hi, Ho, B0, B1, B2, B3, B4, B5, B6, B7, B8⟩
    isplitl [Hi]; · iexact Hi
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  · iintro ⟨Hi, Ho, B0, B1, B2, B3, B4, B5, B6, B7, B8⟩
    isplitl [Hi]; · iexact Hi
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8

end Cert.KernelIdeal.Gen

end
-- ==== Proof.IdealFrame.lean ====
module

public import proofs.«01_k».proof.Proof.IdealRun

/-!
The launch: the host operations, then the pipeline; the machine stops with every counter at zero and every argument as
it was.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf ΦA ΦT)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables the launch runs at. -/
abbrev Ad : (p : Fin 1) → (pcfgs (F := F) p).Adm := fun _ => adm m

/-- Owning a whole buffer is holding it at its contents. -/
theorem owns_of_points {sp : Space} {sh : Shape} {e : EltTy} (c : Dev nD) (r : Memref sig .tc sp sh e) (hr : r.view.set = Finset.univ) (q : PosShare TreeShare) (f : Buf (Elt F) (r.view.loc (c : Thread nD τ))) :
    (iprop((r.view.loc (c : Thread nD τ)) ↦{q} f) : sProp 𝕄) ⊢ owns (c : Thread nD τ) r q (r.view.read (Elt F) f) := by
  unfold owns
  iintro H
  iexists f
  isplitr
  · ipureintro; rfl
  · rw [hr]; iexact H

theorem hostAll_sub : (hostAll (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

theorem hostAll_fresh : (hostAll (F := F)).Forall fun ops => ops.Forall fun op => op.fresh = ∅ := by
  simp only [hostAll, List.Forall]
  repeat' constructor

theorem hmain (𝒱₀ : Variants) : Pipeline.HMainP (Ix := Unit) (Name := ℕ) (U := UR sig nD τ) (Lvl := ℕ) (pcfgs (F := F)) 0 defs₀ 𝒱₀ m main (V m) :=
  Pipeline.hmainP_prefixes (pcfgs (F := F)) 0 defs₀ 𝒱₀ m main hostAll hostAll_sub hostAll_fresh (fun c => main_chain c)

/-- The tables the body reads from, one by one. -/
theorem tables_owns (c : Dev nD) (q : PosShare TreeShare) (v : pre0.Contents (Elt F)) :
    (Pipeline.prefHeld pre0 c (fun _ => q) v : sProp 𝕄) ⊢ iprop(owns (c : Thread nD τ) (Memref.whole main_v38) q (v 0)
      ∗ owns (c : Thread nD τ) (Memref.whole main_v39) q (v 1)
      ∗ owns (c : Thread nD τ) (Memref.whole main_v47) q (v 2)
      ∗ owns (c : Thread nD τ) (Memref.whole main_v55) q (v 3)) := by
  unfold Pipeline.prefHeld
  rw [show (Finset.univ : Finset (Fin 4)) = insert 0 (insert 1 (insert 2 {3})) from by decide, bigSep_insert (by decide), bigSep_insert (by decide), bigSep_insert (by decide), bigSep_singleton]
  refine BI.sep_mono (owns_of_points c (Memref.whole main_v38) (View.set_whole _) q (v 0)) (BI.sep_mono (owns_of_points c (Memref.whole main_v39) (View.set_whole _) q (v 1))
    (BI.sep_mono (owns_of_points c (Memref.whole main_v47) (View.set_whole _) q (v 2)) (owns_of_points c (Memref.whole main_v55) (View.set_whole _) q (v 3))))

theorem adm_val : (adm m).1 = pf m := rfl

theorem hin (c : Dev nD) : iprop(ΦA (U := UR sig nD τ) spec0 c ∗ ΦT pre0 (adm m).1 c) ⊢ (rdat m c).Φ 0 := by
  rw [Φ_eq, adm_val]
  unfold Inv ΦA ΦT
  rw [scopedRest0_eq]
  iintro ⟨⟨⟨%f, Hs⟩, Hp⟩, HT⟩
  ihave HT := tables_owns c fullShare.right (pf m) $$ HT
  icases HT with ⟨T0, T1, T2, T3⟩
  isplitl [T0]; · iexact T0
  isplitl [T1]; · iexact T1
  isplitl [T2]; · iexact T2
  isplitl [T3]; · iexact T3
  isplitl [Hp]; · iexact Hp
  iexists f; isplitr
  · ipureintro; exact AccP_zero m c f
  · iapply (owns_of_points c (Memref.whole cc0_scratch0) (View.set_whole _) fullShare f); iexact Hs

theorem hout (c : Dev nD) : (rdat m c).Φ (Fin.last (cfgM m).N) ⊢ ΦA (U := UR sig nD τ) spec0 c := by
  rw [Φ_eq]; unfold Inv ΦA
  rw [scopedRest0_eq]
  unfold owns
  iintro ⟨-, -, -, -, Hp, %g, -, %f, -, Hs⟩
  isplitl [Hs]
  · iexists f; rw [View.set_whole]; iexact Hs
  · iexact Hp

set_option maxHeartbeats 1000000 in
set_option backward.isDefEq.respectTransparency.types false in
/-- The launch: every run ends, with the output's array at what the write-backs can leave and every other buffer as it
    was, every counter at zero. -/
theorem run_main_quiescent : θ_run defs (onTc (τ := τ) (main (F := F))) (s₀ m ρ)
    (fun r => RDat.FramePost (cfgM m) (rdat m) (V m) r ∧ r.2.sem = fun _ => 0) :=
  RDat.θ_run_frameP_track (Q' := _) (pcfgs (F := F)) (Ad m) (0 : Fin 1) launch0 defs₀ Variants.none (rdat m) m ρ main
    (hbody := body_obligation m) (hshare := fun c w => ite_self _) (howed := fun _ _ => rfl) (V := V m)
    (hmain := hmain m Variants.none) (hA := A_eq m) (hpf := fun c k => by rw [devUniq c]; rfl)
    (hin := hin m) (hout := hout m)

/-- The frame: every run ends, with every argument as it was and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ (h : _ ∧ _) => ⟨fun c => ⟨((h.1 c).2 main_arg0 (Pipeline.mem_restRefs_of main_arg0 (by decide) (show ∀ w : Fin 9, (spec0 w).arr.view.ref ≠ main_arg0 by decide))).trans (V_arg m c main_arg0 (by decide)),
      (h.1.arr_in c 0 rfl).trans ((A_eq m c 0).trans (V_arg m c main_arg1 (by decide))),
      (h.1.arr_in c 1 rfl).trans ((A_eq m c 1).trans (V_arg m c main_arg2 (by decide))),
      (h.1.arr_in c 2 rfl).trans ((A_eq m c 2).trans (V_arg m c main_arg3 (by decide))),
      (h.1.arr_in c 3 rfl).trans ((A_eq m c 3).trans (V_arg m c main_arg4 (by decide))),
      (h.1.arr_in c 4 rfl).trans ((A_eq m c 4).trans (V_arg m c main_arg5 (by decide))),
      (h.1.arr_in c 5 rfl).trans ((A_eq m c 5).trans (V_arg m c main_arg6 (by decide))),
      ((h.1 c).2 main_arg7 (Pipeline.mem_restRefs_of main_arg7 (by decide) (show ∀ w : Fin 9, (spec0 w).arr.view.ref ≠ main_arg7 by decide))).trans (V_arg m c main_arg7 (by decide)),
      ((h.1 c).2 main_arg8 (Pipeline.mem_restRefs_of main_arg8 (by decide) (show ∀ w : Fin 9, (spec0 w).arr.view.ref ≠ main_arg8 by decide))).trans (V_arg m c main_arg8 (by decide))⟩, h.2⟩) (run_main_quiescent m ρ)

end Cert.KernelIdeal.Gen

end
-- ==== Proof.Spec.lean ====
module

public import Idealize.ShloMosaic.Lib.Pointwise

/-!
The value of the call, as a formula over plain numbers: arrays read at natural-number positions (zero outside), the
product over all positions, and the row's result for a given domain.
-/

@[expose] public section

noncomputable section

namespace Cert.Spec

open Idealize.ShloMosaic

variable {α : Type} [Zero α]

/-- A vector at a position. -/
def at1 {a : ℕ} (A : (⟨1, ![a]⟩ : Shape).Idx → α) (i : ℕ) : α := if h : i < a then A (ix1 ⟨i, h⟩) else 0

/-- A matrix at a position. -/
def at2 {a b : ℕ} (A : (⟨2, ![a, b]⟩ : Shape).Idx → α) (i j : ℕ) : α :=
  if h : i < a ∧ j < b then A (ix2 ⟨i, h.1⟩ ⟨j, h.2⟩) else 0

/-- A stack of matrices at a position. -/
def at3 {a b c : ℕ} (A : (⟨3, ![a, b, c]⟩ : Shape).Idx → α) (i j k : ℕ) : α :=
  if h : i < a ∧ j < b ∧ k < c then A (ix3 ⟨i, h.1⟩ ⟨j, h.2.1⟩ ⟨k, h.2.2⟩) else 0

theorem at1_of {a : ℕ} (A : (⟨1, ![a]⟩ : Shape).Idx → α) (x : (⟨1, ![a]⟩ : Shape).Idx) (i : ℕ) (h0 : (x 0).val = i) :
    A x = at1 A i := by
  have hi : i < a := h0 ▸ (x 0).isLt
  unfold at1; rw [dif_pos hi]; congr 1; funext k; fin_cases k; exact Fin.ext h0

theorem at2_of {a b : ℕ} (A : (⟨2, ![a, b]⟩ : Shape).Idx → α) (x : (⟨2, ![a, b]⟩ : Shape).Idx) (i j : ℕ)
    (h0 : (x 0).val = i) (h1 : (x 1).val = j) : A x = at2 A i j := by
  have hi : i < a := h0 ▸ (x 0).isLt
  have hj : j < b := h1 ▸ (x 1).isLt
  unfold at2; rw [dif_pos ⟨hi, hj⟩]; congr 1; funext k; fin_cases k
  · exact Fin.ext h0
  · exact Fin.ext h1

theorem at3_of {a b c : ℕ} (A : (⟨3, ![a, b, c]⟩ : Shape).Idx → α) (x : (⟨3, ![a, b, c]⟩ : Shape).Idx) (i j k : ℕ)
    (h0 : (x 0).val = i) (h1 : (x 1).val = j) (h2 : (x 2).val = k) : A x = at3 A i j k := by
  have hi : i < a := h0 ▸ (x 0).isLt
  have hj : j < b := h1 ▸ (x 1).isLt
  have hk : k < c := h2 ▸ (x 2).isLt
  unfold at3; rw [dif_pos ⟨hi, hj, hk⟩]; congr 1; funext l; fin_cases l
  · exact Fin.ext h0
  · exact Fin.ext h1
  · exact Fin.ext h2

/-- The float arguments of a call with products of length `K`, `G` scale groups and `N` columns: the rows' codes and scales, the shared weights and scales, each domain's own, the biases. -/
structure Args (K G N : ℕ) where
  codes : (⟨2, ![4096, K]⟩ : Shape).Idx → EReal
  sx : (⟨2, ![4096, 1]⟩ : Shape).Idx → EReal
  ws : (⟨2, ![K, N]⟩ : Shape).Idx → EReal
  ss : (⟨2, ![G, N]⟩ : Shape).Idx → EReal
  wp : (⟨3, ![5, K, N]⟩ : Shape).Idx → EReal
  sp : (⟨3, ![5, G, N]⟩ : Shape).Idx → EReal
  bs : (⟨1, ![N]⟩ : Shape).Idx → EReal
  bp : (⟨2, ![5, N]⟩ : Shape).Idx → EReal

variable {K G N : ℕ} (A : Args K G N)

/-- One product of the row `row` with domain `d`'s weight column `col`. -/
def term (d row col κ : ℕ) : EReal :=
  at2 A.codes row κ * (at2 A.ws κ col * at3 A.wp d κ col * (at2 A.ss (κ / 64) col * at3 A.sp d (κ / 64) col))

/-- The sum of the first `n` products. -/
def dot (d row col n : ℕ) : EReal := ∑ κ ∈ Finset.range n, term A d row col κ

/-- The result at `row`, `col` when the row is in domain `d`. -/
def result (d row col : ℕ) : EReal := dot A d row col K * at2 A.sx row 0 + (at1 A.bs col + at2 A.bp d col)

theorem dot_zero (d row col : ℕ) : dot A d row col 0 = 0 := rfl

/-- The sum grows by one block of `b` products. -/
theorem dot_block (b d row col k : ℕ) :
    dot A d row col ((k + 1) * b) = dot A d row col (k * b) + ∑ x : Fin b, term A d row col (k * b + x.val) := by
  unfold dot
  rw [Nat.succ_mul, Finset.sum_range_add, Finset.sum_range (fun x => term A d row col (k * b + x))]

theorem dot_all (d row col : ℕ) : dot A d row col K = ∑ x : Fin K, term A d row col x.val := by
  unfold dot
  rw [Finset.sum_range]

end Cert.Spec
-- ==== Proof.ItemFacts.lean ====
module

public import proofs.«01_k».proof.Proof.Items
public import Idealize.ShloMosaic.Lib.WordCmp
public import Idealize.ShloMosaic.Lib.IndicatorCount
public import Mathlib.Data.List.Sort

/-!
The work items under offsets that start at 0, do not decrease and end at 4096: the live pairs are in increasing order
in the slots, there are between 1 and 12 of them, and every row of every tile lies in the interval of one of them.
-/

@[expose] public section

set_option maxRecDepth 16384

noncomputable section

namespace Cert.Items

open Idealize.ShloMosaic

variable (off : Fin 6 → BitVec 32)

/-- The offsets partition the 4096 rows. -/
structure Good : Prop where
  first : (off 0).toInt = 0
  last : (off 5).toInt = 4096
  mono : ∀ k : Fin 5, (off k.castSucc).toInt ≤ (off k.succ).toInt

/-- Offset number `d`, as an integer. -/
def at' (d : ℕ) : ℤ := if h : d < 6 then (off ⟨d, h⟩).toInt else 4096

theorem at'_mono (g : Good off) {d e : ℕ} (h : d ≤ e) : at' off d ≤ at' off e := by
  have step : ∀ d, at' off d ≤ at' off (d + 1) := by
    intro d
    unfold at'
    by_cases h1 : d + 1 < 6
    · rw [dif_pos (by omega), dif_pos h1]; exact g.mono ⟨d, by omega⟩
    · by_cases h2 : d < 6
      · rw [dif_pos h2, dif_neg h1]
        obtain rfl : d = 5 := by omega
        exact le_of_eq g.last
      · rw [dif_neg h2, dif_neg h1]
  exact monotone_nat_of_le_succ step h

theorem at'_zero (g : Good off) : at' off 0 = 0 := g.first
theorem at'_five (g : Good off) : at' off 5 = 4096 := g.last

theorem maxsi_toInt (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

theorem minsi_toInt (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

theorem start_toInt (p : Fin 40) : (IntOp.muli (BitVec.ofNat 32 (p.val / 5)) 512#32).toInt = 512 * ((p.val / 5 : ℕ) : ℤ) := by
  revert p; decide +kernel
theorem stop_toInt (p : Fin 40) : (IntOp.addi (IntOp.muli (BitVec.ofNat 32 (p.val / 5)) 512#32) 512#32).toInt
    = 512 * ((p.val / 5 : ℕ) : ℤ) + 512 := by
  revert p; decide +kernel

theorem rowLo_toInt (p : Fin 40) : (rowLo off p).toInt = max (at' off (p.val % 5)) (512 * ((p.val / 5 : ℕ) : ℤ)) := by
  unfold rowLo at'
  rw [maxsi_toInt, start_toInt, dif_pos (by omega)]
theorem rowHi_toInt (p : Fin 40) : (rowHi off p).toInt = min (at' off (p.val % 5 + 1)) (512 * ((p.val / 5 : ℕ) : ℤ) + 512) := by
  unfold rowHi at'
  rw [minsi_toInt, stop_toInt, dif_pos (by omega)]
  simp only [Nat.add_comm]

theorem live_iff (p : Fin 40) : live off p = 1#1 ↔ (rowLo off p).toInt < (rowHi off p).toInt := by
  unfold live
  rw [WordCmp.cmpi_sgt_eq]
  by_cases h : (rowLo off p).toInt < (rowHi off p).toInt <;> simp [h]

/-- A stable sort by a one-bit key puts the elements without the key first and keeps the order otherwise. -/
theorem stableSort_bit {ι : Type} (k : ι → Bool) (R : ι → ι → Bool) (hR : ∀ a b, R a b = (!k a && k b)) (l : List ι) :
    stableSort R l = l.filter (fun a => !k a) ++ l.filter k := by
  have ins1 : ∀ (a : ι) (l : List ι), k a = false → insertBefore R a l = a :: l := by
    intro a l h
    cases l with
    | nil => rfl
    | cons b l => simp [insertBefore, hR, h]
  have ins2 : ∀ (a : ι) (l m : List ι), k a = true → (∀ b ∈ l, k b = false) → (∀ b ∈ m, k b = true) →
      insertBefore R a (l ++ m) = l ++ a :: m := by
    intro a l m ha hl hm
    induction l with
    | nil =>
      cases m with
      | nil => rfl
      | cons b m => simp [insertBefore, hR, hm b (by simp)]
    | cons b l ih =>
      have := ih (fun c hc => hl c (by simp [hc]))
      simp [insertBefore, hR, ha, hl b (by simp), this]
  induction l with
  | nil => rfl
  | cons a l ih =>
    unfold stableSort
    rw [ih]
    cases h : k a
    · rw [ins1 a _ h]; simp [h]
    · rw [ins2 a _ _ h (by simp) (by simp)]; simp [h]

/-- The live pairs in increasing order. -/
def livePairs : List (Fin 40) := (List.finRange 40).filter fun p => live off p = 1#1

theorem mem_livePairs (p : Fin 40) : p ∈ livePairs off ↔ live off p = 1#1 := by
  simp [livePairs]

theorem livePairs_sorted : (livePairs off).Pairwise (· < ·) :=
  List.Pairwise.filter _ (List.pairwise_lt_finRange 40)

theorem bit_cases (b : BitVec 1) : b = 0#1 ∨ b = 1#1 := by
  revert b; decide

theorem order_eq : ∀ (i : Fin 40) (h : i.val < (livePairs off).length), order off i = (livePairs off)[i.val] := by
  intro i h
  have e : sortPositions 40 (fun k k' => IntOp.cmpi .ult (~~~ (live off k)) (~~~ (live off k')) == 1#1)
      = livePairs off ++ (List.finRange 40).filter (fun p => decide (live off p = 0#1)) := by
    unfold sortPositions
    rw [stableSort_bit (fun p => decide (live off p = 0#1))]
    · congr 1
      unfold livePairs
      refine List.filter_congr fun p _ => ?_
      rcases bit_cases (live off p) with h | h <;> rw [h] <;> decide
    · intro a b
      rcases bit_cases (live off a) with h | h <;> rcases bit_cases (live off b) with h' | h' <;> rw [h, h'] <;> decide
  unfold order sortedFrom
  simp only [List.get_eq_getElem, Fin.val_cast]
  rw [List.getElem_of_eq e, List.getElem_append_left h]

/-- A row of a tile is in the interval of the pair of its tile and its domain. -/
theorem exists_pair (g : Good off) (r : ℕ) (hr : r < 4096) :
    ∃ p : Fin 40, p.val / 5 = r / 512 ∧ (rowLo off p).toInt ≤ r ∧ (r : ℤ) < (rowHi off p).toInt := by
  have key : ∃ d : ℕ, d < 5 ∧ at' off d ≤ r ∧ (r : ℤ) < at' off (d + 1) := by
    have h0 := at'_zero off g
    have h5 := at'_five off g
    by_cases h1 : (r : ℤ) < at' off 1
    · exact ⟨0, by omega, by omega, h1⟩
    by_cases h2 : (r : ℤ) < at' off 2
    · exact ⟨1, by omega, by omega, h2⟩
    by_cases h3 : (r : ℤ) < at' off 3
    · exact ⟨2, by omega, by omega, h3⟩
    by_cases h4 : (r : ℤ) < at' off 4
    · exact ⟨3, by omega, by omega, h4⟩
    · exact ⟨4, by omega, by omega, by rw [h5]; exact_mod_cast hr⟩
  obtain ⟨d, hd, h1, h2⟩ := key
  have q : (r / 512 * 5 + d) / 5 = r / 512 := by omega
  have q' : (r / 512 * 5 + d) % 5 = d := by omega
  refine ⟨⟨r / 512 * 5 + d, by omega⟩, q, ?_, ?_⟩
  · rw [rowLo_toInt]; simp only [q, q']; omega
  · rw [rowHi_toInt]; simp only [q, q']; omega

theorem length_le (g : Good off) : (livePairs off).length ≤ 12 := by
  have hn : (livePairs off).Nodup := (livePairs_sorted off).imp fun h => ne_of_lt h
  rw [← List.toFinset_card_of_nodup hn]
  have : (livePairs off).toFinset.card ≤ (Finset.range 12).card := by
    refine Finset.card_le_card_of_injOn (fun p => p.val / 5 + p.val % 5) ?_ ?_
    · intro p _
      have := p.isLt
      simp only [Finset.coe_range, Set.mem_Iio]
      omega
    · have main : ∀ p q : Fin 40, live off p = 1#1 → live off q = 1#1 → p.val < q.val →
          p.val / 5 + p.val % 5 < q.val / 5 + q.val % 5 := by
        intro p q hp hq h
        rw [live_iff, rowLo_toInt, rowHi_toInt] at hp hq
        by_contra hc
        have hd : q.val % 5 + 1 ≤ p.val % 5 := by omega
        have hT : p.val / 5 + 1 ≤ q.val / 5 := by omega
        have := at'_mono off g hd
        omega
      intro p hp q hq h
      simp only [Finset.mem_coe, List.mem_toFinset, mem_livePairs] at hp hq
      rcases Nat.lt_trichotomy p.val q.val with h' | h' | h'
      · exact absurd h (ne_of_lt (main p q hp hq h'))
      · exact Fin.ext h'
      · exact absurd h (ne_of_gt (main q p hq hp h'))
  simpa using this

theorem one_le_length (g : Good off) : 1 ≤ (livePairs off).length := by
  obtain ⟨p, _, h1, h2⟩ := exists_pair off g 0 (by omega)
  have : p ∈ livePairs off := by rw [mem_livePairs, live_iff]; omega
  exact List.length_pos_of_mem this

theorem slot_val (n : Fin 13) (hn : 1 ≤ n.val) (x : Fin 12) : (slot (BitVec.ofNat 32 n.val) x.val).val = min x.val (n.val - 1) := by
  unfold slot
  revert n x; decide +kernel

theorem pick_eq (g : Good off) (x : Fin 12) :
    ∃ h, pick off (BitVec.ofNat 32 (livePairs off).length) x.val = (livePairs off)[min x.val ((livePairs off).length - 1)]'h := by
  have h1 := one_le_length off g
  have h12 := length_le off g
  refine ⟨by omega, ?_⟩
  have hs := slot_val ⟨(livePairs off).length, by omega⟩ h1 x
  unfold pick
  rw [order_eq off _ (by show (slot _ _).val < _; rw [hs]; show min x.val ((livePairs off).length - 1) < _; omega)]
  exact getElem_congr_idx hs

/-- The tiles of the slots do not decrease. -/
theorem pick_mono (g : Good off) (x y : Fin 12) (h : x ≤ y) :
    (pick off (BitVec.ofNat 32 (livePairs off).length) x.val).val / 5
      ≤ (pick off (BitVec.ofNat 32 (livePairs off).length) y.val).val / 5 := by
  obtain ⟨hx, ex⟩ := pick_eq off g x
  obtain ⟨hy, ey⟩ := pick_eq off g y
  rw [ex, ey]
  refine Nat.div_le_div_right ?_
  have hxy : min x.val ((livePairs off).length - 1) ≤ min y.val ((livePairs off).length - 1) := by
    have : x.val ≤ y.val := h
    omega
  rcases Nat.lt_or_eq_of_le hxy with h' | h'
  · exact le_of_lt ((List.pairwise_iff_getElem.1 (livePairs_sorted off)) _ _ hx hy h')
  · exact le_of_eq (congrArg Fin.val (getElem_congr_idx h'))

/-- Every row is in the interval of a live slot of its tile. -/
theorem exists_slot (g : Good off) (r : ℕ) (hr : r < 4096) :
    ∃ x : Fin 12, x.val < (livePairs off).length ∧
      (pick off (BitVec.ofNat 32 (livePairs off).length) x.val).val / 5 = r / 512 ∧
      (rowLo off (pick off (BitVec.ofNat 32 (livePairs off).length) x.val)).toInt ≤ r ∧
      (r : ℤ) < (rowHi off (pick off (BitVec.ofNat 32 (livePairs off).length) x.val)).toInt := by
  obtain ⟨p, h0, h1, h2⟩ := exists_pair off g r hr
  have hp : p ∈ livePairs off := by rw [mem_livePairs, live_iff]; omega
  obtain ⟨i, hi, e⟩ := List.getElem_of_mem hp
  have h12 := length_le off g
  obtain ⟨hx, ex⟩ := pick_eq off g ⟨i, by omega⟩
  have e' : pick off (BitVec.ofNat 32 (livePairs off).length) i = p := by
    refine ex.trans (Eq.trans (getElem_congr_idx ?_) e)
    show min i _ = i
    omega
  refine ⟨⟨i, by omega⟩, hi, ?_⟩
  show (pick off (BitVec.ofNat 32 (livePairs off).length) i).val / 5 = _ ∧ _
  rw [e']
  exact ⟨h0, h1, h2⟩

/-- Slots of one tile whose intervals share a row have one domain. -/
theorem same_domain (g : Good off) (p q : Fin 40) (r : ℤ) (h1 : (rowLo off p).toInt ≤ r) (h2 : r < (rowHi off p).toInt)
    (h3 : (rowLo off q).toInt ≤ r) (h4 : r < (rowHi off q).toInt) : p.val % 5 = q.val % 5 := by
  rw [rowLo_toInt] at h1 h3
  rw [rowHi_toInt] at h2 h4
  by_contra hc
  rcases Nat.lt_or_gt_of_ne hc with h | h
  · have := at'_mono off g (show p.val % 5 + 1 ≤ q.val % 5 from h)
    omega
  · have := at'_mono off g (show q.val % 5 + 1 ≤ p.val % 5 from h)
    omega

/-- A row lies in one domain's share only. -/
theorem dom_of_row (off : Fin 6 → BitVec 32) (g : Good off) (d e : ℕ) (r : ℤ) (h1 : at' off d ≤ r) (h2 : r < at' off (d + 1))
    (h3 : at' off e ≤ r) (h4 : r < at' off (e + 1)) : d = e := by
  by_contra hne
  rcases Nat.lt_or_gt_of_ne hne with h | h
  · have := at'_mono off g (show d + 1 ≤ e from h); omega
  · have := at'_mono off g (show e + 1 ≤ d from h); omega

/-- Every row lies in some domain's share. -/
theorem exists_dom (off : Fin 6 → BitVec 32) (g : Good off) (r : ℕ) (hr : r < 4096) : ∃ d, d < 5 ∧ at' off d ≤ r ∧ (r : ℤ) < at' off (d + 1) := by
  by_contra hc
  have step : ∀ d, d ≤ 5 → at' off d ≤ r := by
    intro d
    induction d with
    | zero => intro _; rw [at'_zero off g]; omega
    | succ d ih =>
      intro hd
      by_contra hn
      exact hc ⟨d, by omega, ih (by omega), by omega⟩
  have := step 5 le_rfl
  rw [at'_five off g] at this
  omega

/-- Adding up the bits of a vector of 40 counts its ones. -/
theorem foldl_count (w : Fin 40 → BitVec 1) (l : List (Fin 40)) (n : ℕ) :
    l.foldl (fun r k => IntOp.addi r ((w k).setWidth 32)) (BitVec.ofNat 32 n)
      = BitVec.ofNat 32 (n + (l.filter fun k => w k = 1#1).length) := by
  induction l generalizing n with
  | nil => rfl
  | cons a l ih =>
    rw [List.foldl_cons]
    rcases bit_cases (w a) with h | h
    · rw [h]
      have e : IntOp.addi (BitVec.ofNat 32 n) ((0#1 : BitVec 1).setWidth 32) = BitVec.ofNat 32 n := by
        unfold IntOp.addi; simp
      rw [e, ih]
      simp [h]
    · rw [h]
      have e : IntOp.addi (BitVec.ofNat 32 n) ((1#1 : BitVec 1).setWidth 32) = BitVec.ofNat 32 (n + 1) := by
        unfold IntOp.addi; rw [BitVec.ofNat_add]; rfl
      rw [e, ih]
      simp [h, Nat.add_assoc, Nat.add_comm]

end Cert.Items
-- ==== Proof.Shared.lean ====
module

public import proofs.«01_k».proof.Proof.Spec
public import proofs.«01_k».proof.Proof.ItemFacts
public import Idealize.ShloMosaic.Lib.WordCmp
public import Idealize.ShloMosaic.Lib.Pipeline.Frame

/-!
Facts that name no printed program, shared by the calls: arrays read at the elements of a block, small numbers as words,
and the reference's value at an element.
-/

@[expose] public section

set_option maxRecDepth 16384

noncomputable section

namespace Cert.Shared

open Idealize.ShloMosaic
open Cert.Spec (at1 at2 at3 at1_of at2_of at3_of)

/-- An array at an element of a block: block number times block size plus the element's own position, on each axis. -/
theorem at2_block {a b : ℕ} (A : (⟨2, ![a, b]⟩ : Shape).Idx → EReal) (x : (⟨2, ![a, b]⟩ : Shape).Idx) (f : Fin 2 → ℕ)
    (i k s0 y0 s1 y1 : ℕ) (hf : f = ![i, k]) (h0 : (x 0).val = f 0 * s0 + y0) (h1 : (x 1).val = f 1 * s1 + y1) :
    A x = at2 A (i * s0 + y0) (k * s1 + y1) := by
  subst hf; exact at2_of A x _ _ h0 h1

theorem at3_block {a b c : ℕ} (A : (⟨3, ![a, b, c]⟩ : Shape).Idx → EReal) (x : (⟨3, ![a, b, c]⟩ : Shape).Idx) (f : Fin 3 → ℕ)
    (d i k s0 y0 s1 y1 s2 y2 : ℕ) (hf : f = ![d, i, k]) (h0 : (x 0).val = f 0 * s0 + y0) (h1 : (x 1).val = f 1 * s1 + y1)
    (h2 : (x 2).val = f 2 * s2 + y2) : A x = at3 A (d * s0 + y0) (i * s1 + y1) (k * s2 + y2) := by
  subst hf; exact at3_of A x _ _ _ h0 h1 h2

/-- A vector as a matrix of one row; -/
theorem at2_row {N : ℕ} (A : (⟨2, ![1, N]⟩ : Shape).Idx → EReal) (B : (⟨1, ![N]⟩ : Shape).Idx → EReal) (h : ∀ c : Fin N, A (ix2 0 c) = B (ix1 c)) (j : ℕ) :
    at2 A 0 j = at1 B j := by
  unfold at2 at1
  by_cases hj : j < N
  · rw [dif_pos ⟨Nat.one_pos, hj⟩, dif_pos hj]; exact h _
  · rw [dif_neg (fun e => hj e.2), dif_neg hj]

/-- a matrix as a stack of matrices of one row. -/
theorem at3_row {N : ℕ} (A : (⟨3, ![5, 1, N]⟩ : Shape).Idx → EReal) (B : (⟨2, ![5, N]⟩ : Shape).Idx → EReal)
    (h : ∀ (d : Fin 5) (c : Fin N), A (ix3 d 0 c) = B (ix2 d c)) (d j : ℕ) :
    at3 A d 0 j = at2 B d j := by
  unfold at3 at2
  by_cases hj : d < 5 ∧ j < N
  · rw [dif_pos ⟨hj.1, Nat.one_pos, hj.2⟩, dif_pos hj]; exact h _ _
  · rw [dif_neg (fun e => hj ⟨e.1, e.2.2⟩), dif_neg hj]

/-- A small number as a signed word. -/
theorem toInt_small (n : ℕ) (h : n ≤ 4096) : (BitVec.ofNat 32 n).toInt = n := by
  rw [BitVec.toInt_eq_toNat_of_lt (by rw [BitVec.toNat_ofNat]; omega), BitVec.toNat_ofNat, Nat.mod_eq_of_lt (by omega)]

/-- A row of a tile, as the body computes it. -/
theorem row_word (tile : BitVec 32) (r : Fin 512) (ht : tile.toNat < 8) :
    (IntOp.addi (Scalar.muli tile 512#32) (BitVec.ofNat 32 r.val)).toInt = ((tile.toNat * 512 + r.val : ℕ) : ℤ) := by
  have hr := r.isLt
  have : (IntOp.addi (Scalar.muli tile 512#32) (BitVec.ofNat 32 r.val)).toNat = tile.toNat * 512 + r.val := by
    show (tile * 512#32 + BitVec.ofNat 32 r.val).toNat = _
    rw [BitVec.toNat_add, BitVec.toNat_mul, BitVec.toNat_ofNat, BitVec.toNat_ofNat]
    omega
  rw [BitVec.toInt_eq_toNat_of_lt (by rw [this]; omega), this]

/-- The body's test that an item has a row. -/
theorem gt_bit (lo hi : BitVec 32) :
    Scalar.cmpi .ne (Scalar.extui (Scalar.cmpi .sgt hi lo) : BitVec 32) 0#32 = 1#1 ↔ lo.toInt < hi.toInt := by
  have h : ∀ b : BitVec 1, Scalar.cmpi .ne (Scalar.extui b : BitVec 32) 0#32 = b := by decide
  rw [h]
  show BitVec.ofBool (decide (lo.toInt < hi.toInt)) = 1#1 ↔ _
  by_cases h1 : lo.toInt < hi.toInt <;> simp [h1]

theorem vec2_eq {a b c d : ℕ} (h : ![a, b] = ![c, d]) : a = c ∧ b = d := ⟨congrFun h 0, congrFun h 1⟩

/-- An offset is at most a row of domain `d` when its number is at most `d`. -/
theorem offset_le_row (off : Fin 6 → BitVec 32) (g : Items.Good off) (d : ℕ) (r : Fin 4096)
    (h1 : Items.at' off d ≤ r.val) (h2 : (r.val : ℤ) < Items.at' off (d + 1)) (k : ℕ) (w : BitVec 32) (hw : w.toInt = Items.at' off k) :
    IntOp.cmpi .sle w (BitVec.ofNat 32 r.val) = if k ≤ d then 1#1 else 0#1 := by
  have e : IntOp.cmpi .sle w (BitVec.ofNat 32 r.val) = BitVec.ofBool (decide (w.toInt ≤ (BitVec.ofNat 32 r.val).toInt)) := WordCmp.cmpi_sle_eq _ _
  rw [e, toInt_small _ (by omega), hw]
  by_cases hk : k ≤ d
  · have := Items.at'_mono off g hk
    rw [if_pos hk, decide_eq_true (by omega)]; rfl
  · have := Items.at'_mono off g (show d + 1 ≤ k by omega)
    rw [if_neg hk, decide_eq_false (by omega)]; rfl

/-- A row is in one of the five domains. -/
theorem dom_lt (off : Fin 6 → BitVec 32) (g : Items.Good off) (d : ℕ) (r : Fin 4096) (h1 : Items.at' off d ≤ r.val) : d < 5 := by
  by_contra hd
  have := Items.at'_mono off g (show 5 ≤ d by omega)
  have := Items.at'_five off g
  have := r.isLt
  omega

/-- One domain's value at an element, from the elements of its operands. -/
theorem val_at {K G N : ℕ} (A : Spec.Args K G N) (d : ℕ) (r : Fin 4096) (j : Fin N)
    (codes : (⟨2, ![4096, K]⟩ : Shape).Idx → EReal) (sx : (⟨2, ![4096, 1]⟩ : Shape).Idx → EReal) (ws : (⟨2, ![K, N]⟩ : Shape).Idx → EReal)
    (ss : (⟨2, ![G, N]⟩ : Shape).Idx → EReal) (bs : (⟨2, ![1, N]⟩ : Shape).Idx → EReal) (wp : (⟨3, ![1, K, N]⟩ : Shape).Idx → EReal)
    (sp : (⟨3, ![1, G, N]⟩ : Shape).Idx → EReal) (bp : (⟨3, ![1, 1, N]⟩ : Shape).Idx → EReal)
    (hc : ∀ r x, codes (ix2 r x) = at2 A.codes r.val x.val) (hx : ∀ r, sx (ix2 r 0) = at2 A.sx r.val 0)
    (hws : ∀ x j, ws (ix2 x j) = at2 A.ws x.val j.val) (hss : ∀ x j, ss (ix2 x j) = at2 A.ss x.val j.val)
    (hbs : ∀ j, bs (ix2 0 j) = at1 A.bs j.val)
    (hwp : ∀ x j, wp (ix3 0 x j) = at3 A.wp d x.val j.val) (hsp : ∀ x j, sp (ix3 0 x j) = at3 A.sp d x.val j.val)
    (hbp : ∀ j, bp (ix3 0 0 j) = at2 A.bp d j.val) (hg : ∀ x : Fin K, x.val / 64 < G) :
    (∑ x : Fin K, codes (ix2 r x) * (ws (ix2 x j) * wp (ix3 0 x j) * (ss (ix2 ⟨x.val / 64, hg x⟩ j) * sp (ix3 0 ⟨x.val / 64, hg x⟩ j)))) * sx (ix2 r 0)
      + (bs (ix2 0 j) + bp (ix3 0 0 j)) = Spec.result A d r.val j.val := by
  have key : (∑ x : Fin K, codes (ix2 r x) * (ws (ix2 x j) * wp (ix3 0 x j) * (ss (ix2 ⟨x.val / 64, hg x⟩ j) * sp (ix3 0 ⟨x.val / 64, hg x⟩ j))))
      = ∑ x : Fin K, Spec.term A d r.val j.val x.val :=
    Finset.sum_congr rfl fun x _ => by
      unfold Spec.term
      rw [hc, hws, hwp, hss, hsp]
  unfold Spec.result
  rw [Spec.dot_all, hx, hbs, hbp, key]

end Cert.Shared
-- ==== Proof.Blocks.lean ====
module

public import proofs.«01_k».proof.Proof.IdealRun
public import proofs.«01_k».proof.Proof.Shared

/-!
The blocks of the inputs at a grid point, as parts of the argument arrays.
-/

@[expose] public section

set_option maxRecDepth 16384

noncomputable section

namespace Cert.KernelIdeal.Gen

open Cert.Shared Idealize.ShloMosaic Idealize.ShloMosaic.TcCoe Idealize.ShloMosaic.Tactic
open Cert.Spec (at1 at2 at3 at1_of at2_of at3_of)

variable (m : (ℓ : Loc nD τ sig) → Buf (Elt Ideal) ℓ)

/-- The grid point's block numbers: of the rows, of the domain, of the step, of the columns. -/
abbrev tileN (t : Fin (cfgM m).N) : ℕ := (word0 m (grid0.coords t)).toNat
abbrev domN (t : Fin (cfgM m).N) : ℕ := (word1 m (grid0.coords t)).toNat
abbrev stepN (t : Fin (cfgM m).N) : ℕ := (kidx m (grid0.coords t)).toNat
abbrev colN (t : Fin (cfgM m).N) : ℕ := (BitVec.ofNat 32 (grid0.coords t 0).val).toNat

/-- The float arguments. -/
def argsK : Spec.Args 16384 256 2048 where
  codes := m (((0 : Dev nD).tc : Thread nD τ).loc main_arg1)
  sx := m (((0 : Dev nD).tc : Thread nD τ).loc main_arg2)
  ws := m (((0 : Dev nD).tc : Thread nD τ).loc main_arg3)
  ss := m (((0 : Dev nD).tc : Thread nD τ).loc main_arg4)
  wp := m (((0 : Dev nD).tc : Thread nD τ).loc main_arg5)
  sp := m (((0 : Dev nD).tc : Thread nD τ).loc main_arg6)
  bs := m (((0 : Dev nD).tc : Thread nD τ).loc main_arg7)
  bp := m (((0 : Dev nD).tc : Thread nD τ).loc main_arg8)

theorem rd0 (a : (pcfg0 (F := Ideal)).Adm) (t : Fin (cfg0 a).N) (A : S4096x16384.Idx → EReal) (r : Fin 512) (x : Fin 1024) (i k : ℕ)
    (hf : cc0_transform_0 k0_off1_inb numel1_S1 a.1 (grid0.coords t) = ![i, k]) :
    (((((cfg0 a).win 0).blk t).view.read (Elt Ideal) A : S512x1024.Idx → EReal) (ix2 r x) : EReal) = at2 A (i * 512 + r.val) (k * 1024 + x.val) :=
  at2_block A ((((cfg0 a).win 0).blk t).view.emb (ix2 r x : S512x1024.Idx)) _ i k 512 (r.val) 1024 (x.val) hf
    (Pipeline.Window.rect_emb_val ((cfg0 a).win 0) t (ix2 r x : S512x1024.Idx) (0 : Fin 2) rfl) (Pipeline.Window.rect_emb_val ((cfg0 a).win 0) t (ix2 r x : S512x1024.Idx) (1 : Fin 2) rfl)

theorem rd1 (a : (pcfg0 (F := Ideal)).Adm) (t : Fin (cfg0 a).N) (A : S4096x1.Idx → EReal) (r : Fin 512) (i k : ℕ)
    (hf : cc0_transform_1 k0_off1_inb numel1_S1 a.1 (grid0.coords t) = ![i, k]) :
    (((((cfg0 a).win 1).blk t).view.read (Elt Ideal) A : S512x1.Idx → EReal) (ix2 r 0) : EReal) = at2 A (i * 512 + r.val) (k * 1 + 0) :=
  at2_block A ((((cfg0 a).win 1).blk t).view.emb (ix2 r 0 : S512x1.Idx)) _ i k 512 (r.val) 1 (0) hf
    (Pipeline.Window.rect_emb_val ((cfg0 a).win 1) t (ix2 r 0 : S512x1.Idx) (0 : Fin 2) rfl) (Pipeline.Window.rect_emb_val ((cfg0 a).win 1) t (ix2 r 0 : S512x1.Idx) (1 : Fin 2) rfl)

theorem rd2 (a : (pcfg0 (F := Ideal)).Adm) (t : Fin (cfg0 a).N) (A : S16384x2048.Idx → EReal) (x : Fin 1024) (c : Fin 1024) (i k : ℕ)
    (hf : cc0_transform_2 k0_off1_inb numel1_S1 a.1 (grid0.coords t) = ![i, k]) :
    (((((cfg0 a).win 2).blk t).view.read (Elt Ideal) A : S1024x1024.Idx → EReal) (ix2 x c) : EReal) = at2 A (i * 1024 + x.val) (k * 1024 + c.val) :=
  at2_block A ((((cfg0 a).win 2).blk t).view.emb (ix2 x c : S1024x1024.Idx)) _ i k 1024 (x.val) 1024 (c.val) hf
    (Pipeline.Window.rect_emb_val ((cfg0 a).win 2) t (ix2 x c : S1024x1024.Idx) (0 : Fin 2) rfl) (Pipeline.Window.rect_emb_val ((cfg0 a).win 2) t (ix2 x c : S1024x1024.Idx) (1 : Fin 2) rfl)

theorem rd3 (a : (pcfg0 (F := Ideal)).Adm) (t : Fin (cfg0 a).N) (A : S256x2048.Idx → EReal) (x : Fin 16) (c : Fin 1024) (i k : ℕ)
    (hf : cc0_transform_3 k0_off1_inb numel1_S1 a.1 (grid0.coords t) = ![i, k]) :
    (((((cfg0 a).win 3).blk t).view.read (Elt Ideal) A : S16x1024.Idx → EReal) (ix2 x c) : EReal) = at2 A (i * 16 + x.val) (k * 1024 + c.val) :=
  at2_block A ((((cfg0 a).win 3).blk t).view.emb (ix2 x c : S16x1024.Idx)) _ i k 16 (x.val) 1024 (c.val) hf
    (Pipeline.Window.rect_emb_val ((cfg0 a).win 3) t (ix2 x c : S16x1024.Idx) (0 : Fin 2) rfl) (Pipeline.Window.rect_emb_val ((cfg0 a).win 3) t (ix2 x c : S16x1024.Idx) (1 : Fin 2) rfl)

theorem rd4 (a : (pcfg0 (F := Ideal)).Adm) (t : Fin (cfg0 a).N) (A : S5x16384x2048.Idx → EReal) (x : Fin 1024) (c : Fin 1024) (d i k : ℕ)
    (hf : cc0_transform_4 k0_off1_inb numel1_S1 a.1 (grid0.coords t) = ![d, i, k]) :
    (((((cfg0 a).win 4).blk t).view.read (Elt Ideal) A : S1x1024x1024.Idx → EReal) (ix3 0 x c) : EReal) = at3 A (d * 1 + 0) (i * 1024 + x.val) (k * 1024 + c.val) :=
  at3_block A ((((cfg0 a).win 4).blk t).view.emb (ix3 0 x c : S1x1024x1024.Idx)) _ d i k 1 (0) 1024 (x.val) 1024 (c.val) hf
    (Pipeline.Window.rect_emb_val ((cfg0 a).win 4) t (ix3 0 x c : S1x1024x1024.Idx) (0 : Fin 3) rfl) (Pipeline.Window.rect_emb_val ((cfg0 a).win 4) t (ix3 0 x c : S1x1024x1024.Idx) (1 : Fin 3) rfl) (Pipeline.Window.rect_emb_val ((cfg0 a).win 4) t (ix3 0 x c : S1x1024x1024.Idx) (2 : Fin 3) rfl)

theorem rd5 (a : (pcfg0 (F := Ideal)).Adm) (t : Fin (cfg0 a).N) (A : S5x256x2048.Idx → EReal) (x : Fin 16) (c : Fin 1024) (d i k : ℕ)
    (hf : cc0_transform_5 k0_off1_inb numel1_S1 a.1 (grid0.coords t) = ![d, i, k]) :
    (((((cfg0 a).win 5).blk t).view.read (Elt Ideal) A : S1x16x1024.Idx → EReal) (ix3 0 x c) : EReal) = at3 A (d * 1 + 0) (i * 16 + x.val) (k * 1024 + c.val) :=
  at3_block A ((((cfg0 a).win 5).blk t).view.emb (ix3 0 x c : S1x16x1024.Idx)) _ d i k 1 (0) 16 (x.val) 1024 (c.val) hf
    (Pipeline.Window.rect_emb_val ((cfg0 a).win 5) t (ix3 0 x c : S1x16x1024.Idx) (0 : Fin 3) rfl) (Pipeline.Window.rect_emb_val ((cfg0 a).win 5) t (ix3 0 x c : S1x16x1024.Idx) (1 : Fin 3) rfl) (Pipeline.Window.rect_emb_val ((cfg0 a).win 5) t (ix3 0 x c : S1x16x1024.Idx) (2 : Fin 3) rfl)

theorem rd6 (a : (pcfg0 (F := Ideal)).Adm) (t : Fin (cfg0 a).N) (A : S1x2048.Idx → EReal) (c : Fin 1024) (i k : ℕ)
    (hf : cc0_transform_6 (grid0.coords t) = ![i, k]) :
    (((((cfg0 a).win 6).blk t).view.read (Elt Ideal) A : S1x1024.Idx → EReal) (ix2 0 c) : EReal) = at2 A (i * 1 + 0) (k * 1024 + c.val) :=
  at2_block A ((((cfg0 a).win 6).blk t).view.emb (ix2 0 c : S1x1024.Idx)) _ i k 1 (0) 1024 (c.val) hf
    (Pipeline.Window.rect_emb_val ((cfg0 a).win 6) t (ix2 0 c : S1x1024.Idx) (0 : Fin 2) rfl) (Pipeline.Window.rect_emb_val ((cfg0 a).win 6) t (ix2 0 c : S1x1024.Idx) (1 : Fin 2) rfl)

theorem rd7 (a : (pcfg0 (F := Ideal)).Adm) (t : Fin (cfg0 a).N) (A : S5x1x2048.Idx → EReal) (c : Fin 1024) (d i k : ℕ)
    (hf : cc0_transform_7 k0_off1_inb numel1_S1 a.1 (grid0.coords t) = ![d, i, k]) :
    (((((cfg0 a).win 7).blk t).view.read (Elt Ideal) A : S1x1x1024.Idx → EReal) (ix3 0 0 c) : EReal) = at3 A (d * 1 + 0) (i * 1 + 0) (k * 1024 + c.val) :=
  at3_block A ((((cfg0 a).win 7).blk t).view.emb (ix3 0 0 c : S1x1x1024.Idx)) _ d i k 1 (0) 1 (0) 1024 (c.val) hf
    (Pipeline.Window.rect_emb_val ((cfg0 a).win 7) t (ix3 0 0 c : S1x1x1024.Idx) (0 : Fin 3) rfl) (Pipeline.Window.rect_emb_val ((cfg0 a).win 7) t (ix3 0 0 c : S1x1x1024.Idx) (1 : Fin 3) rfl) (Pipeline.Window.rect_emb_val ((cfg0 a).win 7) t (ix3 0 0 c : S1x1x1024.Idx) (2 : Fin 3) rfl)

theorem blk0_at (t : Fin (cfgM m).N) (r : Fin 512) (x : Fin 1024) :
    (blk0 m 0 t (ix2 r x) : EReal) = at2 (argsK m).codes (tileN m t * 512 + r.val) (stepN m t * 1024 + x.val) :=
  (rd0 (adm m) t (V m 0 main_arg1) r x _ _ (tr0 m _)).trans
    (congrArg (fun A : S4096x16384.Idx → EReal => at2 A (tileN m t * 512 + r.val) (stepN m t * 1024 + x.val)) (V_arg m 0 main_arg1 (by decide)))

theorem blk1_at (t : Fin (cfgM m).N) (r : Fin 512) :
    (blk1 m 0 t (ix2 r 0) : EReal) = at2 (argsK m).sx (tileN m t * 512 + r.val) (0 * 1 + 0) :=
  (rd1 (adm m) t (V m 0 main_arg2) r _ _ (tr1 m _)).trans
    (congrArg (fun A : S4096x1.Idx → EReal => at2 A (tileN m t * 512 + r.val) (0 * 1 + 0)) (V_arg m 0 main_arg2 (by decide)))

theorem blk2_at (t : Fin (cfgM m).N) (x : Fin 1024) (c : Fin 1024) :
    (blk2 m 0 t (ix2 x c) : EReal) = at2 (argsK m).ws (stepN m t * 1024 + x.val) (colN m t * 1024 + c.val) :=
  (rd2 (adm m) t (V m 0 main_arg3) x c _ _ (tr2 m _)).trans
    (congrArg (fun A : S16384x2048.Idx → EReal => at2 A (stepN m t * 1024 + x.val) (colN m t * 1024 + c.val)) (V_arg m 0 main_arg3 (by decide)))

theorem blk3_at (t : Fin (cfgM m).N) (x : Fin 16) (c : Fin 1024) :
    (blk3 m 0 t (ix2 x c) : EReal) = at2 (argsK m).ss (stepN m t * 16 + x.val) (colN m t * 1024 + c.val) :=
  (rd3 (adm m) t (V m 0 main_arg4) x c _ _ (tr3 m _)).trans
    (congrArg (fun A : S256x2048.Idx → EReal => at2 A (stepN m t * 16 + x.val) (colN m t * 1024 + c.val)) (V_arg m 0 main_arg4 (by decide)))

theorem blk4_at (t : Fin (cfgM m).N) (x : Fin 1024) (c : Fin 1024) :
    (blk4 m 0 t (ix3 0 x c) : EReal) = at3 (argsK m).wp (domN m t * 1 + 0) (stepN m t * 1024 + x.val) (colN m t * 1024 + c.val) :=
  (rd4 (adm m) t (V m 0 main_arg5) x c _ _ _ (tr4 m _)).trans
    (congrArg (fun A : S5x16384x2048.Idx → EReal => at3 A (domN m t * 1 + 0) (stepN m t * 1024 + x.val) (colN m t * 1024 + c.val)) (V_arg m 0 main_arg5 (by decide)))

theorem blk5_at (t : Fin (cfgM m).N) (x : Fin 16) (c : Fin 1024) :
    (blk5 m 0 t (ix3 0 x c) : EReal) = at3 (argsK m).sp (domN m t * 1 + 0) (stepN m t * 16 + x.val) (colN m t * 1024 + c.val) :=
  (rd5 (adm m) t (V m 0 main_arg6) x c _ _ _ (tr5 m _)).trans
    (congrArg (fun A : S5x256x2048.Idx → EReal => at3 A (domN m t * 1 + 0) (stepN m t * 16 + x.val) (colN m t * 1024 + c.val)) (V_arg m 0 main_arg6 (by decide)))

section Host
variable (W : Valuation τ sig (Elt Ideal))

theorem read_v56 (c : Fin 2048) : (StableHlo.after (hostOps0_10 (F := Ideal)) W main_v56 : S1x2048.Idx → EReal) (ix2 0 c)
    = (StableHlo.after (hostOps0_10 (F := Ideal)) W main_arg7 : S2048.Idx → EReal) (ix1 c) := by
  after_reads_at

theorem read_v57 (d : Fin 5) (c : Fin 2048) : (StableHlo.after (hostOps0_10 (F := Ideal)) W main_v57 : S5x1x2048.Idx → EReal) (ix3 d 0 c)
    = (StableHlo.after (hostOps0_10 (F := Ideal)) W main_arg8 : S5x2048.Idx → EReal) (ix2 d c) := by
  after_reads_at

end Host

end Cert.KernelIdeal.Gen
-- ==== Proof.Step.lean ====
module

public import proofs.«01_k».proof.Proof.Blocks

/-!
What one grid point does, as formulas: the accumulator gains one block of the sum, and the last step of an item writes
the item's rows.
-/

@[expose] public section

set_option maxRecDepth 16384

noncomputable section

namespace Cert.KernelIdeal.Gen

open Cert.Shared Idealize.ShloMosaic Idealize.ShloMosaic.TcCoe Idealize.ShloMosaic.Tactic
open Cert.Spec (at1 at2 at3 at1_of at2_of at3_of)

variable (m : (ℓ : Loc nD τ sig) → Buf (Elt Ideal) ℓ)

theorem V_v56 (c : Fin 2048) : (V m 0 main_v56 : S1x2048.Idx → EReal) (ix2 0 c) = (argsK m).bs (ix1 c) :=
  (congrFun (V_eq m 0 main_v56) _).trans ((read_v56 (W9 (M0 m)) c).trans
    ((congrFun (V_eq m 0 main_arg7) _).symm.trans (congrFun (V_arg m 0 main_arg7 (by decide)) _)))

theorem V_v57 (d : Fin 5) (c : Fin 2048) : (V m 0 main_v57 : S5x1x2048.Idx → EReal) (ix3 d 0 c) = (argsK m).bp (ix2 d c) :=
  (congrFun (V_eq m 0 main_v57) _).trans ((read_v57 (W9 (M0 m)) d c).trans
    ((congrFun (V_eq m 0 main_arg8) _).symm.trans (congrFun (V_arg m 0 main_arg8 (by decide)) _)))

theorem blk6_at (t : Fin (cfgM m).N) (c : Fin 1024) :
    (blk6 m 0 t (ix2 0 c) : EReal) = at1 (argsK m).bs (colN m t * 1024 + c.val) :=
  (rd6 (adm m) t (V m 0 main_v56) c 0 (colN m t) rfl).trans (at2_row _ _ (V_v56 m) _)

theorem blk7_at (t : Fin (cfgM m).N) (c : Fin 1024) :
    (blk7 m 0 t (ix3 0 0 c) : EReal) = at2 (argsK m).bp (domN m t) (colN m t * 1024 + c.val) :=
  (rd7 (adm m) t (V m 0 main_v57) c (domN m t) 0 (colN m t) (tr7 m _)).trans
    ((at3_row _ _ (V_v57 m) _ _).trans (by rw [Nat.mul_one, Nat.add_zero]))

/-- The sum the body takes at point `t`, for row `r` and column `c` of the block. -/
abbrev stepSum (t : Fin (cfgM m).N) (r : Fin 512) (c : Fin 1024) : EReal :=
  ∑ x : Fin 1024, Spec.term (argsK m) (domN m t) (tileN m t * 512 + r.val) (colN m t * 1024 + c.val) (stepN m t * 1024 + x.val)

theorem step_term (t : Fin (cfgM m).N) (r : Fin 512) (c x : Fin 1024) :
    (blk0 m 0 t (ix2 r x) : EReal) * ((blk2 m 0 t (ix2 x c) : EReal) * (blk4 m 0 t (ix3 0 x c) : EReal)
      * ((blk3 m 0 t (ix2 ⟨x.val / 64, by omega⟩ c) : EReal) * (blk5 m 0 t (ix3 0 ⟨x.val / 64, by omega⟩ c) : EReal)))
    = Spec.term (argsK m) (domN m t) (tileN m t * 512 + r.val) (colN m t * 1024 + c.val) (stepN m t * 1024 + x.val) := by
  rw [blk0_at, blk2_at, blk3_at, blk4_at, blk5_at]
  have e : (stepN m t * 1024 + x.val) / 64 = stepN m t * 16 + x.val / 64 := by omega
  unfold Spec.term
  rw [e, Nat.mul_one, Nat.add_zero]

theorem pay2_at (v7 : Vec Ideal S16x1024 .f32) (v8 : Vec Ideal S1x16x1024 .f32) (v12 : Vec Ideal S1024x1024 .fp8e4m3) (v14 : Vec Ideal S1x1024x1024 .fp8e4m3)
    (v23 : Vec Ideal S512x1024 .fp8e4m3) (r : Fin 512) (c : Fin 1024) :
    (k0_pay2 v7 v8 v12 v14 v23 (ix2 r c) : EReal) = ∑ x : Fin 1024, (v23 (ix2 r x) : EReal) * ((v12 (ix2 x c) : EReal) * (v14 (ix3 0 x c) : EReal)
      * ((v7 (ix2 ⟨x.val / 64, by omega⟩ c) : EReal) * (v8 (ix3 0 ⟨x.val / 64, by omega⟩ c) : EReal))) := by
  unfold k0_pay2 k0_pay1
  pointwise
  try rfl

theorem pay3_at (v7 : Vec Ideal S16x1024 .f32) (v8 : Vec Ideal S1x16x1024 .f32) (v12 : Vec Ideal S1024x1024 .fp8e4m3) (v14 : Vec Ideal S1x1024x1024 .fp8e4m3)
    (v23 : Vec Ideal S512x1024 .fp8e4m3) (g : Vec Ideal S512x1024 .f32) (r : Fin 512) (c : Fin 1024) :
    (k0_pay3 v7 v8 v12 v14 v23 g (ix2 r c) : EReal) = (g (ix2 r c) : EReal) + ∑ x : Fin 1024, (v23 (ix2 r x) : EReal) * ((v12 (ix2 x c) : EReal) * (v14 (ix3 0 x c) : EReal)
      * ((v7 (ix2 ⟨x.val / 64, by omega⟩ c) : EReal) * (v8 (ix3 0 ⟨x.val / 64, by omega⟩ c) : EReal))) := by
  unfold k0_pay3 k0_pay1
  pointwise
  try rfl

theorem pay4_at (lo hi tile : BitVec 32) (a : Vec Ideal S512x1024 .f32) (x8 : Vec Ideal S512x1 .f32) (x13 : Vec Ideal S1x1024 .f32) (x14 : Vec Ideal S1x1x1024 .f32)
    (out : Vec Ideal S512x1024 .f32) (r : Fin 512) (c : Fin 1024) (ht : tile.toNat < 8) :
    (k0_pay4 (F := Ideal) lo hi a x8 x13 x14 tile out (ix2 r c) : EReal)
      = if lo.toInt ≤ ((tile.toNat * 512 + r.val : ℕ) : ℤ) ∧ ((tile.toNat * 512 + r.val : ℕ) : ℤ) < hi.toInt then
          (a (ix2 r c) : EReal) * (x8 (ix2 r 0) : EReal) + ((x13 (ix2 0 c) : EReal) + (x14 (ix3 0 0 c) : EReal)) else (out (ix2 r c) : EReal) := by
  unfold k0_pay4
  pointwise
  rw [WordCmp.cmpi_sge_eq, WordCmp.cmpi_slt_eq, row_word tile r ht]
  unfold Scalar.select
  generalize ((tile.toNat * 512 + r.val : ℕ) : ℤ) = R
  by_cases h1 : lo.toInt ≤ R <;> by_cases h2 : R < hi.toInt <;> simp [h1, h2, IntOp.andi]

theorem cond1_iff (lo hi : BitVec 32) : k0_cond1 lo hi = 1#1 ↔ lo.toInt < hi.toInt := gt_bit lo hi

/-- The rows of the item at point `t`. -/
abbrev loZ (t : Fin (cfgM m).N) : ℤ := (word2 m (grid0.coords t)).toInt
abbrev hiZ (t : Fin (cfgM m).N) : ℤ := (word3 m (grid0.coords t)).toInt

/-- At a live item's first step the accumulator is the step's sum; -/
theorem acc_first (t : Fin (cfgM m).N) (g : Vec Ideal S512x1024 .f32) (hl : loZ m t < hiZ m t) (h0 : (grid0.coords t 2).val = 0)
    (r : Fin 512) (c : Fin 1024) : (accAfter m 0 t g (ix2 r c) : EReal) = stepSum m t r c := by
  unfold accAfter accNext
  rw [if_pos ((cond1_iff _ _).mpr hl), if_pos h0, pay2_at]
  exact Finset.sum_congr rfl fun x _ => step_term m t r c x

/-- at a later one it gains the step's sum. -/
theorem acc_later (t : Fin (cfgM m).N) (g : Vec Ideal S512x1024 .f32) (hl : loZ m t < hiZ m t) (h0 : ¬ (grid0.coords t 2).val = 0)
    (r : Fin 512) (c : Fin 1024) : (accAfter m 0 t g (ix2 r c) : EReal) = (g (ix2 r c) : EReal) + stepSum m t r c := by
  unfold accAfter accNext
  rw [if_pos ((cond1_iff _ _).mpr hl), if_neg h0, pay3_at]
  exact congrArg _ (Finset.sum_congr rfl fun x _ => step_term m t r c x)

/-- At a live item's last step the item's rows are written from the accumulator; -/
theorem out_last (t : Fin (cfgM m).N) (Y g : Vec Ideal S512x1024 .f32) (hl : loZ m t < hiZ m t) (h15 : (grid0.coords t 2).val = 15)
    (r : Fin 512) (c : Fin 1024) :
    (outAfter m 0 t Y g (ix2 r c) : EReal)
      = if loZ m t ≤ ((tileN m t * 512 + r.val : ℕ) : ℤ) ∧ ((tileN m t * 512 + r.val : ℕ) : ℤ) < hiZ m t then
          (accAfter m 0 t g (ix2 r c) : EReal) * at2 (argsK m).sx (tileN m t * 512 + r.val) 0
            + (at1 (argsK m).bs (colN m t * 1024 + c.val) + at2 (argsK m).bp (domN m t) (colN m t * 1024 + c.val))
        else (Y (ix2 r c) : EReal) := by
  unfold outAfter outNext
  rw [if_pos ((cond1_iff _ _).mpr hl), if_pos h15, pay4_at _ _ _ _ _ _ _ _ _ _ (tile_lt m _), blk1_at, blk6_at, blk7_at]
  rfl

/-- at any other point the output block stays. -/
theorem out_other (t : Fin (cfgM m).N) (Y g : Vec Ideal S512x1024 .f32) (h : ¬ (loZ m t < hiZ m t ∧ (grid0.coords t 2).val = 15)) :
    outAfter m 0 t Y g = Y := by
  unfold outAfter outNext
  by_cases hl : loZ m t < hiZ m t
  · rw [if_pos ((cond1_iff _ _).mpr hl), if_neg (fun e => h ⟨hl, e⟩)]
  · rw [if_neg (fun e => hl ((cond1_iff _ _).mp e))]

/-- The step a live item reads its weights at. -/
theorem stepN_live (t : Fin (cfgM m).N) (hl : loZ m t < hiZ m t) : stepN m t = (grid0.coords t 2).val := by
  have h2 : (grid0.coords t 2).val < 16 := (grid0.coords t 2).isLt
  have hc : Scalar.cmpi .sgt (word3 m (grid0.coords t)) (word2 m (grid0.coords t)) = (1 : BitVec 1) := by
    show BitVec.ofBool (decide (loZ m t < hiZ m t)) = 1#1
    simp [hl]
  show (Scalar.select (Scalar.cmpi .sgt (word3 m (grid0.coords t)) (word2 m (grid0.coords t))) (BitVec.ofNat 32 (grid0.coords t 2).val) 15#32).toNat = _
  unfold Scalar.select
  rw [if_pos hc, BitVec.toNat_ofNat]
  omega

end Cert.KernelIdeal.Gen
-- ==== Proof.Words.lean ====
module

public import proofs.«01_k».proof.Proof.IdealEntry
public import proofs.«01_k».proof.Proof.Shared

/-!
What the four tables say at a grid point when the offsets are in order: the tiles of the slots do not decrease, the rows
between a slot's first and last are rows of its pair, and every row of the output is in some slot of its tile.
-/

@[expose] public section

set_option maxRecDepth 16384

noncomputable section

namespace Cert.KernelIdeal.Gen

open Cert.Shared Idealize.ShloMosaic Idealize.ShloMosaic.TcCoe
open Cert.Items (Good livePairs)

variable {F : FTy → Type} [FloatOps F]
variable (m : (ℓ : Loc nD τ sig) → Buf (Elt F) ℓ)

theorem word_lo (i : grid0.Coords) : word2 m i = Scalar.select (IntOp.cmpi .sge (BitVec.ofNat 32 (slotOf i).val) (liveCount (liveArr (M0 m)))) 0#32
    (Items.rowLo (offs (M0 m)) (pickOf (M0 m) (slotOf i))) :=
  (congrFun (V_eq m 0 main_v47) _).trans (tab_lo (M0 m) _)

theorem word_hi (i : grid0.Coords) : word3 m i = Scalar.select (IntOp.cmpi .sge (BitVec.ofNat 32 (slotOf i).val) (liveCount (liveArr (M0 m)))) 0#32
    (Items.rowHi (offs (M0 m)) (pickOf (M0 m) (slotOf i))) :=
  (congrFun (V_eq m 0 main_v55) _).trans (tab_hi (M0 m) _)

/-- The slot a grid point works on is its second coordinate. -/
theorem slotOf_val (i : grid0.Coords) : (slotOf i).val = (i 1).val := by
  have h1 : (i 1).val < 12 := (i 1).isLt
  show (BitVec.ofNat 32 (i 1).val).toNat + 1 * 0 = _
  rw [BitVec.toNat_ofNat]; omega

/-- The host's sum of the live bits is the number of live pairs. -/
theorem count_eq (off : Fin 6 → BitVec 32) : liveCount (fun x => Items.live off (x 0)) = BitVec.ofNat 32 (livePairs off).length := by
  have h := Items.foldl_count (Items.live off) (List.finRange 40) 0
  rw [Nat.zero_add] at h
  refine Eq.trans ?_ h
  unfold liveCount Host.reduce
  rw [List.filter_eq_self.mpr (fun n _ => by rw [decide_eq_true_eq]; exact funext fun a => a.elim0)]
  show List.foldl (fun r (n : Fin 40) => IntOp.addi r ((Items.live off (S40.rowMajor.symm n 0)).setWidth 32)) (BitVec.ofNat 32 0) (List.finRange 40) = _
  refine congrArg (fun f => List.foldl f _ _) (funext fun r => funext fun n => ?_)
  have h : ∀ n : Fin 40, (S40.rowMajor.symm n 0).val = n.val := by decide +kernel
  have e : S40.rowMajor.symm n 0 = n := Fin.ext (h n)
  rw [e]

variable (g : Good (offs (M0 m)))

theorem pickOf_eq (x : Fin 12) : pickOf (M0 m) x = Items.pick (offs (M0 m)) (BitVec.ofNat 32 (livePairs (offs (M0 m))).length) x.val := by
  unfold pickOf liveArr; rw [count_eq]

include g

theorem count_lt : (livePairs (offs (M0 m))).length ≤ 12 := Items.length_le _ g

/-- The tile of a later slot is no smaller. -/
theorem tile_mono (i i' : grid0.Coords) (h : (i 1).val ≤ (i' 1).val) : (word0 m i).toNat ≤ (word0 m i').toNat := by
  have hx := Items.pick_mono _ g (slotOf i) (slotOf i') (by rw [Fin.le_def, slotOf_val, slotOf_val]; exact h)
  rw [word_tile, word_tile, BitVec.toNat_ofNat, BitVec.toNat_ofNat, pickOf_eq, pickOf_eq]
  omega

/-- A row between the slot's first and last is a row of its pair. -/
theorem row_of_slot (i : grid0.Coords) (r : ℤ) (h0 : 0 ≤ r) (h1 : (word2 m i).toInt ≤ r) (h2 : r < (word3 m i).toInt) :
    (Items.rowLo (offs (M0 m)) (pickOf (M0 m) (slotOf i))).toInt ≤ r ∧ r < (Items.rowHi (offs (M0 m)) (pickOf (M0 m) (slotOf i))).toInt := by
  rw [word_lo] at h1; rw [word_hi] at h2
  unfold Scalar.select at h1 h2
  split at h1
  · rename_i hc; rw [if_pos hc] at h2
    exact absurd h2 (by simpa using h0)
  · rename_i hc; rw [if_neg hc] at h2
    exact ⟨h1, h2⟩

/-- Two slots with a row in common have the same domain. -/
theorem dom_unique (i i' : grid0.Coords) (r : ℤ) (h0 : 0 ≤ r) (h1 : (word2 m i).toInt ≤ r) (h2 : r < (word3 m i).toInt)
    (h3 : (word2 m i').toInt ≤ r) (h4 : r < (word3 m i').toInt) : (word1 m i).toNat = (word1 m i').toNat := by
  obtain ⟨a1, a2⟩ := row_of_slot m g i r h0 h1 h2
  obtain ⟨b1, b2⟩ := row_of_slot m g i' r h0 h3 h4
  have h := Items.same_domain _ g _ _ r a1 a2 b1 b2
  rw [word_dom, word_dom, h]

/-- A slot's rows lie in its domain's share. -/
theorem row_in_dom (i : grid0.Coords) (r : ℤ) (h0 : 0 ≤ r) (h1 : (word2 m i).toInt ≤ r) (h2 : r < (word3 m i).toInt) :
    Items.at' (offs (M0 m)) (word1 m i).toNat ≤ r ∧ r < Items.at' (offs (M0 m)) ((word1 m i).toNat + 1) := by
  obtain ⟨a1, a2⟩ := row_of_slot m g i r h0 h1 h2
  rw [Items.rowLo_toInt] at a1; rw [Items.rowHi_toInt] at a2
  have : (word1 m i).toNat = (pickOf (M0 m) (slotOf i)).val % 5 := by rw [word_dom, BitVec.toNat_ofNat]; omega
  rw [this]; omega

/-- Every row is in some slot of its tile. -/
theorem exists_point (r : ℕ) (hr : r < 4096) : ∃ x : Fin 12, ∀ i : grid0.Coords, (i 1).val = x.val →
    (word0 m i).toNat = r / 512 ∧ (word2 m i).toInt ≤ r ∧ (r : ℤ) < (word3 m i).toInt := by
  obtain ⟨x, hl, ht, h1, h2⟩ := Items.exists_slot _ g r hr
  have hle := count_lt m g
  refine ⟨x, fun i hi => ?_⟩
  have hs : slotOf i = x := Fin.ext (by rw [slotOf_val]; exact hi)
  have hc : IntOp.cmpi .sge (BitVec.ofNat 32 x.val) (liveCount (liveArr (M0 m))) ≠ 1#1 := by
    unfold liveArr; rw [count_eq, WordCmp.cmpi_sge_eq]
    have hx := x.isLt
    have e1 : (BitVec.ofNat 32 x.val).toInt = x.val := toInt_small _ (by omega)
    have e2 : (BitVec.ofNat 32 (livePairs (offs (M0 m))).length).toInt = (livePairs (offs (M0 m))).length := toInt_small _ (by omega)
    rw [e1, e2]
    have : ¬ ((livePairs (offs (M0 m))).length : ℤ) ≤ x.val := by omega
    simp [this]
  rw [word_tile, word_lo, word_hi, hs]
  unfold Scalar.select
  rw [if_neg (show ¬ _ = (1 : BitVec 1) from hc), if_neg (show ¬ _ = (1 : BitVec 1) from hc), pickOf_eq]
  refine ⟨?_, h1, h2⟩
  rw [BitVec.toNat_ofNat, ht]; omega

end Cert.KernelIdeal.Gen
-- ==== Proof.Value.lean ====
module

public import proofs.«01_k».proof.Proof.Step
public import proofs.«01_k».proof.Proof.Words

/-!
What the accumulator and the output's block hold at each grid point: the accumulator is the sum over the steps of the item
so far, and the output's block has the right value in every row an item of its tile has finished.
-/

@[expose] public section

set_option maxRecDepth 16384

noncomputable section

namespace Cert.KernelIdeal.Gen

open Idealize.ShloMosaic Idealize.ShloMosaic.TcCoe Idealize.ShloMosaic.Tactic
open Idealize.ShloMosaic.Pipeline (RDat Cfg Window)
open Cert.Items (Good)

variable (m : (ℓ : Loc nD τ sig) → Buf (Elt Ideal) ℓ)

theorem points : grid0.N = 384 := by decide +kernel

theorem coord_vals : ∀ t : Fin grid0.N, (grid0.coords t 0).val = t.val / 192 ∧ (grid0.coords t 1).val = t.val / 16 % 12 ∧ (grid0.coords t 2).val = t.val % 16 := by
  decide +kernel

/-- Points of the same slot read the same words. -/
theorem words_same (i i' : grid0.Coords) (h : (i 1).val = (i' 1).val) :
    word0 m i = word0 m i' ∧ word1 m i = word1 m i' ∧ word2 m i = word2 m i' ∧ word3 m i = word3 m i' := by
  have hs : slotOf i = slotOf i' := Fin.ext (by rw [slotOf_val, slotOf_val, h])
  refine ⟨?_, ?_, ?_, ?_⟩
  · rw [word_tile, word_tile, hs]
  · rw [word_dom, word_dom, hs]
  · rw [word_lo, word_lo, hs]
  · rw [word_hi, word_hi, hs]

theorem colN_eq (t : Fin (cfgM m).N) : colN m t = t.val / 192 := by
  have h := (coord_vals t).1
  have hlt : (grid0.coords t 0).val < 2 := (grid0.coords t 0).isLt
  show (BitVec.ofNat 32 (grid0.coords t 0).val).toNat = _
  rw [BitVec.toNat_ofNat, ← h]; omega

/-- The accumulator after a point of a live item: the sum over the item's steps so far. -/
theorem acc_dot : ∀ (n : ℕ) (hn : n < (cfgM m).N) (f : Vec Ideal S512x1024 .f32), AccP m 0 (n + 1) f → loZ m ⟨n, hn⟩ < hiZ m ⟨n, hn⟩ →
    ∀ (r : Fin 512) (c : Fin 1024), (f (ix2 r c) : EReal)
      = Spec.dot (argsK m) (domN m ⟨n, hn⟩) (tileN m ⟨n, hn⟩ * 512 + r.val) (colN m ⟨n, hn⟩ * 1024 + c.val) ((n % 16 + 1) * 1024) := by
  intro n
  induction n with
  | zero =>
    intro hn f hf hl r c
    obtain ⟨g, -, hg⟩ := hf
    have h2 := (coord_vals ⟨0, hn⟩).2.2
    rw [hg hn, acc_first m ⟨0, hn⟩ g hl h2, Spec.dot_block, Nat.zero_mod, Nat.zero_mul, Spec.dot_zero, zero_add]
    unfold stepSum
    rw [stepN_live m _ hl, h2]
    rfl
  | succ n ih =>
    intro hn f hf hl r c
    obtain ⟨g, hp, hg⟩ := hf
    have h2 := (coord_vals ⟨n + 1, hn⟩).2.2
    have h1 := (coord_vals ⟨n + 1, hn⟩).2.1
    dsimp only at h1 h2
    rw [hg hn, Spec.dot_block]
    have hs : stepN m ⟨n + 1, hn⟩ = (n + 1) % 16 := (stepN_live m _ hl).trans h2
    by_cases h0 : (n + 1) % 16 = 0
    · rw [acc_first m ⟨n + 1, hn⟩ g hl (h2.trans h0), h0, Nat.zero_mul, Spec.dot_zero, zero_add]
      unfold stepSum
      rw [hs, h0]
    · have hn' : n < (cfgM m).N := Nat.lt_of_succ_lt hn
      have h1' := (coord_vals ⟨n, hn'⟩).2.1
      dsimp only at h1'
      have hsame : (grid0.coords ⟨n, hn'⟩ 1).val = (grid0.coords ⟨n + 1, hn⟩ 1).val := by rw [h1, h1']; omega
      obtain ⟨w0, w1, w2, w3⟩ := words_same m _ _ hsame
      have hc : colN m ⟨n, hn'⟩ = colN m ⟨n + 1, hn⟩ := by rw [colN_eq, colN_eq]; dsimp only; omega
      have e := ih hn' g hp (by unfold loZ hiZ; rw [w2, w3]; exact hl) r c
      rw [acc_later m ⟨n + 1, hn⟩ g hl (fun e => h0 (h2.symm.trans e)), e]
      have hd : domN m ⟨n, hn'⟩ = domN m ⟨n + 1, hn⟩ := congrArg BitVec.toNat w1
      have ht : tileN m ⟨n, hn'⟩ = tileN m ⟨n + 1, hn⟩ := congrArg BitVec.toNat w0
      rw [hd, ht, hc]
      unfold stepSum
      rw [hs, show n % 16 + 1 = (n + 1) % 16 by omega]

theorem leaves_exists {C : Cfg sig Λ₀} {d : Dev nD} (rd : RDat τ (Elt Ideal) Unit ℕ (UR sig nD τ) ℕ C d) (w : Fin C.W) (t : Fin C.N)
    (X : (C.win w).block.Idx → Elt Ideal (C.win w).elt) (h : rd.Leaves w t X) : ∃ Y, rd.Finds w t Y ∧ rd.after w t Y X := h

theorem leaves8 (t : Fin (cfgM m).N) (X : Vec Ideal S512x1024 .f32) (h : (rdat m 0).Leaves 8 t X) :
    ∃ Y : Vec Ideal S512x1024 .f32, (rdat m 0).Finds 8 t Y ∧ ∃ g, AccP m 0 t.val g ∧ X = outAfter m 0 t Y g :=
  leaves_exists (rdat m 0) 8 t X h

theorem index8 (t : Fin (cfgM m).N) : ((cfgM m).win 8).index t = ![tileN m t, colN m t] := tr8 m _

theorem flush8_ne (t : Fin (cfgM m).N) (h : t.val + 1 < (cfgM m).N) (hf : ((cfgM m).win 8).flush t = true) :
    ¬ (tileN m ⟨t.val + 1, h⟩ = tileN m t ∧ colN m ⟨t.val + 1, h⟩ = colN m t) := by
  rintro ⟨h0, h1⟩
  unfold Window.flush at hf
  simp only [Bool.and_eq_true, Bool.or_eq_true, decide_eq_true_eq] at hf
  rcases hf.2 with e | ⟨_, e⟩
  · exact absurd e (Nat.ne_of_lt h)
  · exact e (by rw [index8, index8, h0, h1])

variable (g : Good (offs (M0 m)))
include g

/-- A later point of the same columns has a tile no smaller. -/
theorem tileN_mono (t t' : Fin (cfgM m).N) (h : t.val ≤ t'.val) (hc : colN m t = colN m t') : tileN m t ≤ tileN m t' := by
  rw [colN_eq, colN_eq] at hc
  refine tile_mono m g _ _ ?_
  rw [(coord_vals t).2.1, (coord_vals t').2.1]
  omega

theorem between (t u t' : Fin (cfgM m).N) (h : t.val ≤ u.val) (h' : u.val ≤ t'.val) (hc : colN m t = colN m t') (ht : tileN m t = tileN m t') :
    colN m u = colN m t' ∧ tileN m u = tileN m t' := by
  have hcu : colN m u = colN m t' := by rw [colN_eq, colN_eq] at *; have := Nat.div_le_div_right (c := 192) h; have := Nat.div_le_div_right (c := 192) h'; omega
  have h1 := tileN_mono m g t u h (hc.trans hcu.symm)
  have h2 := tileN_mono m g u t' h' hcu
  exact ⟨hcu, by omega⟩

/-- The output's block after point `n` has the right value in every row an item of its tile has finished. -/
theorem out_inv : ∀ (n : ℕ) (hn : n < (cfgM m).N) (X : Vec Ideal S512x1024 .f32), (rdat m 0).Leaves 8 ⟨n, hn⟩ X →
    ∀ t' : Fin (cfgM m).N, t'.val ≤ n → t'.val % 16 = 15 → tileN m t' = tileN m ⟨n, hn⟩ → colN m t' = colN m ⟨n, hn⟩ →
    ∀ (r : Fin 512) (c : Fin 1024), loZ m t' ≤ ((tileN m ⟨n, hn⟩ * 512 + r.val : ℕ) : ℤ) → ((tileN m ⟨n, hn⟩ * 512 + r.val : ℕ) : ℤ) < hiZ m t' →
    (X (ix2 r c) : EReal) = Spec.result (argsK m) (domN m t') (tileN m ⟨n, hn⟩ * 512 + r.val) (colN m ⟨n, hn⟩ * 1024 + c.val) := by
  intro n
  induction n with
  | zero => intro hn X _ t' h1 h2; omega
  | succ n ih =>
    intro hn X hX t' hle h15 ht hc r c h1 h2
    obtain ⟨Y, hY, a, ha, hXe⟩ := leaves8 m ⟨n + 1, hn⟩ X hX
    rw [hXe]
    have hk := (coord_vals ⟨n + 1, hn⟩).2.2
    dsimp only at hk
    have hfetch : ((cfgM m).win 8).fetch ⟨n + 1, hn⟩ = false := ((cfgM m).win 8).fetch_out rfl _
    have carried : t'.val ≤ n → (Y (ix2 r c) : EReal) = Spec.result (argsK m) (domN m t') (tileN m ⟨n + 1, hn⟩ * 512 + r.val) (colN m ⟨n + 1, hn⟩ * 1024 + c.val) := by
      intro hle'
      have hn' : n < (cfgM m).N := Nat.lt_of_succ_lt hn
      obtain ⟨bc, bt⟩ := between m g t' ⟨n, hn'⟩ ⟨n + 1, hn⟩ hle' (Nat.le_succ n) hc ht
      rcases ((rdat m 0).finds_of_pos hfetch (Nat.succ_ne_zero n) Y).mp hY with hf | hL
      · exact absurd ⟨bt.symm, bc.symm⟩ (flush8_ne m ⟨n, hn'⟩ hn hf)
      · have e := ih hn' Y hL t' hle' h15 (ht.trans bt.symm) (hc.trans bc.symm) r c (by rw [bt]; exact h1) (by rw [bt]; exact h2)
        rw [e, bt, bc]
    have carry : ¬ (t'.val = n + 1) → (Y (ix2 r c) : EReal) = Spec.result (argsK m) (domN m t') (tileN m ⟨n + 1, hn⟩ * 512 + r.val) (colN m ⟨n + 1, hn⟩ * 1024 + c.val) :=
      fun h => carried (by omega)
    by_cases hlive : loZ m ⟨n + 1, hn⟩ < hiZ m ⟨n + 1, hn⟩ ∧ (n + 1) % 16 = 15
    · rw [out_last m ⟨n + 1, hn⟩ Y a hlive.1 (hk.trans hlive.2)]
      by_cases hin : loZ m ⟨n + 1, hn⟩ ≤ ((tileN m ⟨n + 1, hn⟩ * 512 + r.val : ℕ) : ℤ) ∧ ((tileN m ⟨n + 1, hn⟩ * 512 + r.val : ℕ) : ℤ) < hiZ m ⟨n + 1, hn⟩
      · rw [if_pos hin, acc_dot m (n + 1) hn _ (AccP_succ m 0 ⟨n + 1, hn⟩ a ha) hlive.1, hlive.2]
        have hd : domN m t' = domN m ⟨n + 1, hn⟩ := dom_unique m g _ _ _ (Int.natCast_nonneg _) h1 h2 hin.1 hin.2
        rw [hd]
        rfl
      · rw [if_neg hin]
        exact carry fun e => hin (by obtain rfl : t' = ⟨n + 1, hn⟩ := Fin.ext e; exact ⟨h1, h2⟩)
    · rw [out_other m ⟨n + 1, hn⟩ Y a (fun e => hlive ⟨e.1, hk.symm.trans e.2⟩)]
      exact carry fun e => hlive (by obtain rfl : t' = ⟨n + 1, hn⟩ := Fin.ext e; exact ⟨lt_of_le_of_lt h1 h2, h15⟩)

end Cert.KernelIdeal.Gen
-- ==== Proof.Array.lean ====
module

public import proofs.«01_k».proof.Proof.Value
public import proofs.«01_k».proof.Proof.IdealFrame
public import Idealize.ShloMosaic.Lib.Pipeline.Covers

/-!
The array the run leaves: every element of the output is the value of its row's domain.
-/

@[expose] public section

set_option maxRecDepth 16384

noncomputable section

namespace Cert.KernelIdeal.Gen

open Cert.Shared Idealize.ShloMosaic Idealize.ShloMosaic.TcCoe Idealize.ShloMosaic.Tactic
open Idealize.ShloMosaic.Pipeline (Dat RDat Cfg Window)
open Cert.Items (Good)

/-- A property of every element written back is a property of the array's element. -/
theorem arr8 (a : (pcfg0 (F := Ideal)).Adm) (D : Dat τ (Elt Ideal) Unit ℕ (UR sig nD τ) ℕ (cfg0 a) (0 : Dev nD)) (P : S4096x2048.Idx → EReal → Prop)
    (T J : Fin (cfg0 a).N → ℕ) (hI : ∀ t : Fin (cfg0 a).N, cc0_transform_8 k0_off1_inb numel1_S1 a.1 (grid0.coords t) = ![T t, J t])
    (hP : ∀ (t : Fin (cfg0 a).N), ((cfg0 a).win 8).flush t = true → ∀ (y : S512x1024.Idx) (i : S4096x2048.Idx),
      (i 0).val = T t * 512 + (y 0).val →
      (i 1).val = J t * 1024 + (y 1).val → P i (D.after 8 t y))
    (t : Fin (cfg0 a).N) (hf : ((cfg0 a).win 8).flush t = true) (i : S4096x2048.Idx) (y : S512x1024.Idx)
    (h0 : (i 0).val = T t * 512 + (y 0).val)
    (h1 : (i 1).val = J t * 1024 + (y 1).val) :
    P i (D.arrAt 8 (cfg0 a).N i) := by
  have c0 : ∀ (t : Fin (cfg0 a).N) (y : S512x1024.Idx), ((((cfg0 a).win 8).blk t).view.emb y (0 : Fin 2)).val = T t * 512 + (y 0).val := fun t y =>
    (Pipeline.Window.rect_emb_val ((cfg0 a).win 8) t y (0 : Fin 2) rfl).trans (congrArg (fun n => n * 512 + (y 0).val) (congrFun (hI t) 0))
  have c1 : ∀ (t : Fin (cfg0 a).N) (y : S512x1024.Idx), ((((cfg0 a).win 8).blk t).view.emb y (1 : Fin 2)).val = J t * 1024 + (y 1).val := fun t y =>
    (Pipeline.Window.rect_emb_val ((cfg0 a).win 8) t y (1 : Fin 2) rfl).trans (congrArg (fun n => n * 1024 + (y 1).val) (congrFun (hI t) 1))
  have e : ((((cfg0 a).win 8).blk t).view.emb y : S4096x2048.Idx) = i := by
    funext k
    apply Fin.ext
    fin_cases k
    · exact (c0 t y).trans h0.symm
    · exact (c1 t y).trans h1.symm
  refine D.arrAt_forall_of_flushed 8 P (fun t hf y => ?_) (cfg0 a).N t i t.isLt hf ?_
  · exact hP t hf y _ (c0 t y) (c1 t y)
  · rw [← e]; exact View.emb_mem_set _ _

variable (m : (ℓ : Loc nD τ sig) → Buf (Elt Ideal) ℓ) (g : Good (offs (M0 m)))

/-- The point of slot `x`'s last step at the columns `j`. -/
def lastPoint (j : Fin 2) (x : Fin 12) : Fin (cfgM m).N :=
  ⟨j.val * 192 + x.val * 16 + 15, by show _ < grid0.N; rw [points]; omega⟩

theorem lastPoint_facts (j : Fin 2) (x : Fin 12) : (lastPoint m j x).val % 16 = 15 ∧ colN m (lastPoint m j x) = j.val ∧ (grid0.coords (lastPoint m j x) 1).val = x.val := by
  have h := (coord_vals (lastPoint m j x)).2.1
  have e : (lastPoint m j x).val = j.val * 192 + x.val * 16 + 15 := rfl
  refine ⟨by rw [e]; omega, by rw [colN_eq, e]; omega, by rw [h, e]; omega⟩

include g

/-- What a point that writes back leaves is right in every row. -/
theorem flushed_right (t : Fin (cfgM m).N) (hf : ((cfgM m).win 8).flush t = true) (X : Vec Ideal S512x1024 .f32) (hX : (rdat m 0).Leaves 8 t X)
    (r : Fin 512) (c : Fin 1024) (d : ℕ) (h1 : Items.at' (offs (M0 m)) d ≤ ((tileN m t * 512 + r.val : ℕ) : ℤ))
    (h2 : ((tileN m t * 512 + r.val : ℕ) : ℤ) < Items.at' (offs (M0 m)) (d + 1)) :
    (X (ix2 r c) : EReal) = Spec.result (argsK m) d (tileN m t * 512 + r.val) (colN m t * 1024 + c.val) := by
  have hT : tileN m t < 8 := tile_lt m _
  have hj : colN m t < 2 := j_lt _
  obtain ⟨x, hx⟩ := exists_point m g (tileN m t * 512 + r.val) (by omega)
  obtain ⟨k15, hc, hs⟩ := lastPoint_facts m ⟨colN m t, hj⟩ x
  obtain ⟨p0, p1, p2⟩ := hx _ hs
  have ht : tileN m (lastPoint m ⟨colN m t, hj⟩ x) = tileN m t := p0.trans (by omega)
  have hle : (lastPoint m ⟨colN m t, hj⟩ x).val ≤ t.val := by
    by_contra hlt
    have hlt : t.val < (lastPoint m ⟨colN m t, hj⟩ x).val := Nat.lt_of_not_le hlt
    have hN : t.val + 1 < (cfgM m).N := lt_of_le_of_lt hlt (lastPoint m ⟨colN m t, hj⟩ x).isLt
    obtain ⟨bc, bt⟩ := between m g t ⟨t.val + 1, hN⟩ _ (Nat.le_succ _) hlt hc.symm ht.symm
    exact flush8_ne m t hN hf ⟨bt.trans ht, bc.trans hc⟩
  have e := out_inv m g t.val t.isLt X hX _ hle k15 ht hc r c p1 p2
  rw [e]
  obtain ⟨q1, q2⟩ := row_in_dom m g _ _ (Int.natCast_nonneg _) p1 p2
  have hd : domN m (lastPoint m ⟨colN m t, hj⟩ x) = d := Items.dom_of_row _ g _ _ _ q1 q2 h1 h2
  rw [hd]

/-- Every element of the array after the run. -/
theorem array_right (D : Dat τ (Elt Ideal) Unit ℕ (UR sig nD τ) ℕ (cfgM m) (0 : Dev nD))
    (hL : ∀ t : Fin (cfgM m).N, ((cfgM m).win 8).flush t = true → (rdat m 0).Leaves 8 t (D.after 8 t))
    (i : S4096x2048.Idx) (d : ℕ) (h1 : Items.at' (offs (M0 m)) d ≤ ((i 0).val : ℤ)) (h2 : ((i 0).val : ℤ) < Items.at' (offs (M0 m)) (d + 1)) :
    (D.arrAt 8 (cfgM m).N i : EReal) = Spec.result (argsK m) d (i 0).val (i 1).val := by
  have hi0 : (i 0).val < 4096 := (i 0).isLt
  have hi1 : (i 1).val < 2048 := (i 1).isLt
  obtain ⟨x, hx⟩ := exists_point m g (i 0).val hi0
  obtain ⟨k15, hc, hs⟩ := lastPoint_facts m ⟨(i 1).val / 1024, by omega⟩ x
  obtain ⟨p0, -, -⟩ := hx _ hs
  obtain ⟨t, -, hf, hix⟩ := ((cfgM m).win 8).exists_flush_same_index rfl (lastPoint m ⟨(i 1).val / 1024, by omega⟩ x)
  rw [index8, index8] at hix
  obtain ⟨ht', hj'⟩ := vec2_eq hix
  have ht : tileN m t = (i 0).val / 512 := ht'.trans p0
  have hj : colN m t = (i 1).val / 1024 := hj'.trans hc
  refine arr8 (adm m) D (fun i v => ∀ d : ℕ, Items.at' (offs (M0 m)) d ≤ ((i 0).val : ℤ) → ((i 0).val : ℤ) < Items.at' (offs (M0 m)) (d + 1) → v = Spec.result (argsK m) d (i 0).val (i 1).val)
    (tileN m) (colN m) (fun t => tr8 m _) (fun t hf y i e0 e1 d h1 h2 => ?_) t hf i (ix2 ⟨(i 0).val % 512, by omega⟩ ⟨(i 1).val % 1024, by omega⟩) ?_ ?_ d h1 h2
  · have hy : y = ix2 (y 0) (y 1) := by funext k; fin_cases k <;> rfl
    rw [e0] at h1 h2 ⊢
    rw [e1, hy]
    exact flushed_right m g t hf _ (hL t hf) (y 0) (y 1) d h1 h2
  · rw [ht]; exact (Nat.div_add_mod' _ _).symm
  · rw [hj]; exact (Nat.div_add_mod' _ _).symm

end Cert.KernelIdeal.Gen
-- ==== Proof.RefMath.lean ====
module

public import proofs.«01_k».proof.Proof.Gen.ReferenceIdeal.Skeleton
public import proofs.«01_k».proof.Proof.Shared
public import Idealize.ShloMosaic.Lib.Pointwise
public import Idealize.ShloMosaic.Lib.WordCmp

/-!
The reference's arithmetic, read at one element of its result, over any operands.
-/

@[expose] public section

set_option maxRecDepth 16384

noncomputable section

namespace Cert.ReferenceIdeal.Gen

open Idealize.ShloMosaic Idealize.ShloMosaic.TcCoe Idealize.ShloMosaic.Tactic
open Cert.Shared
open Cert.Spec (at1 at2 at3)

/-- The number of offsets, the first left out, at or below a row is the row's domain. -/
theorem dom_at (off : Fin 6 → BitVec 32) (g : Items.Good off) (d : ℕ) (r : Fin 4096) (j : Fin 2048)
    (h1 : Items.at' off d ≤ r.val) (h2 : (r.val : ℤ) < Items.at' off (d + 1)) :
    (k0_pay1 (F := Ideal) (off 1) (off 2) (off 3) (off 4) (off 5) (ix2 r j) : BitVec 32) = BitVec.ofNat 32 d := by
  have hd := dom_lt off g d r h1
  have cnt := offset_le_row off g d r h1 h2
  unfold k0_pay1
  pointwise
  rw [cnt 1 (off 1) rfl, cnt 2 (off 2) rfl, cnt 3 (off 3) rfl, cnt 4 (off 4) rfl, cnt 5 (off 5) rfl]
  clear cnt h1 h2
  interval_cases d <;> rfl

variable (off : Fin 6 → BitVec 32)
    (codes : Vec Ideal S4096x16384 .fp8e4m3) (sx : Vec Ideal S4096x1 .f32) (ws : Vec Ideal S16384x2048 .fp8e4m3)
    (ss : Vec Ideal S256x2048 .f32) (bs : Vec Ideal S1x2048 .f32)
    (wp : ℕ → Vec Ideal S1x16384x2048 .fp8e4m3) (sp : ℕ → Vec Ideal S1x256x2048 .f32) (bp : ℕ → Vec Ideal S1x1x2048 .f32)

/-- The whole result of the reference's body. -/
def body : Vec Ideal S4096x2048 .f32 :=
  let D := k0_pay1 (F := Ideal) (off 1) (off 2) (off 3) (off 4) (off 5)
  k0_pay14 D
    (k0_pay10
      (k0_pay6 D (k0_pay4 D k0_pay2 (k0_pay3 ws (wp 0) ss (sp 0)) codes sx bs (bp 0)) (k0_pay5 ws (wp 1) ss (sp 1) codes) sx bs (bp 1))
      (k0_pay7 ws (wp 2) ss (sp 2) codes) (k0_pay8 D) (k0_pay9 sx) bs (bp 2))
    (k0_pay11 D) (k0_pay12 ws (wp 3) ss (sp 3) codes sx) (k0_pay13 bs) (bp 3)
    ws (wp 4) ss (sp 4) codes sx bs (bp 4)

/-- The result at an element: the value of the row's domain. -/
theorem body_at (A : Spec.Args 16384 256 2048) (g : Items.Good off) (d : ℕ) (r : Fin 4096) (j : Fin 2048)
    (h1 : Items.at' off d ≤ r.val) (h2 : (r.val : ℤ) < Items.at' off (d + 1)) (hd : d < 5)
    (hc : ∀ r x, (codes (ix2 r x) : EReal) = at2 A.codes r.val x.val) (hx : ∀ r, (sx (ix2 r 0) : EReal) = at2 A.sx r.val 0)
    (hws : ∀ x j, (ws (ix2 x j) : EReal) = at2 A.ws x.val j.val) (hss : ∀ x j, (ss (ix2 x j) : EReal) = at2 A.ss x.val j.val)
    (hbs : ∀ j, (bs (ix2 0 j) : EReal) = at1 A.bs j.val)
    (hwp : ∀ d, d < 5 → ∀ x j, (wp d (ix3 0 x j) : EReal) = at3 A.wp d x.val j.val)
    (hsp : ∀ d, d < 5 → ∀ x j, (sp d (ix3 0 x j) : EReal) = at3 A.sp d x.val j.val)
    (hbp : ∀ d, d < 5 → ∀ j, (bp d (ix3 0 0 j) : EReal) = at2 A.bp d j.val) :
    (body off codes sx ws ss bs wp sp bp (ix2 r j) : EReal) = Spec.result A d r.val j.val := by
  have hD := dom_at off g d r j h1 h2
  unfold body
  generalize k0_pay1 (F := Ideal) (off 1) (off 2) (off 3) (off 4) (off 5) = D at hD ⊢
  have hv := fun e (he : e < 5) => val_at A e r j codes sx ws ss bs (wp e) (sp e) (bp e) hc hx hws hss hbs (hwp e he) (hsp e he) (hbp e he)
    (fun x => by omega)
  unfold k0_pay14 k0_pay13 k0_pay12 k0_pay11 k0_pay10 k0_pay9 k0_pay8 k0_pay7 k0_pay6 k0_pay5 k0_pay4 k0_pay3 k0_pay2
  pointwise
  rw [hD]
  interval_cases d
  · exact hv 0 (by decide)
  · exact hv 1 (by decide)
  · exact hv 2 (by decide)
  · exact hv 3 (by decide)
  · exact hv 4 (by decide)

end Cert.ReferenceIdeal.Gen
-- ==== Proof.RefValue.lean ====
module

public import proofs.«01_k».proof.Proof.Gen.ReferenceIdeal.Value
public import proofs.«01_k».proof.Proof.RefMath
public import Idealize.ShloMosaic.Lib.Pipeline.ValueKit
public import Idealize.ShloMosaic.Lib.Pipeline.ReadBack

/-!
The reference's result array: at every element, the value of the row's domain (`Spec.result`).
-/

@[expose] public section

set_option maxRecDepth 16384

noncomputable section

namespace Cert.ReferenceIdeal.Gen

open Idealize.ShloMosaic Idealize.ShloMosaic.TcCoe Idealize.ShloMosaic.Tactic
open Cert.Spec (at1 at2 at3 at1_of at2_of at3_of)

variable (m : (ℓ : Loc nD τ sig) → Buf (Elt Ideal) ℓ)

/-- The offsets. -/
def offsR : Fin 6 → BitVec 32 := fun k => (m (((0 : Dev nD).tc : Thread nD τ).loc main_arg0) : S6.Idx → BitVec 32) (ix1 k)

/-- The float arguments. -/
def argsR : Spec.Args 16384 256 2048 where
  codes := m (((0 : Dev nD).tc : Thread nD τ).loc main_arg1)
  sx := m (((0 : Dev nD).tc : Thread nD τ).loc main_arg2)
  ws := m (((0 : Dev nD).tc : Thread nD τ).loc main_arg3)
  ss := m (((0 : Dev nD).tc : Thread nD τ).loc main_arg4)
  wp := m (((0 : Dev nD).tc : Thread nD τ).loc main_arg5)
  sp := m (((0 : Dev nD).tc : Thread nD τ).loc main_arg6)
  bs := m (((0 : Dev nD).tc : Thread nD τ).loc main_arg7)
  bp := m (((0 : Dev nD).tc : Thread nD τ).loc main_arg8)

/-- Every block is its whole array. -/
theorem idx : ∀ t : Fin cfg0.N, win0_0.index t = ![0] ∧ win0_1.index t = ![0, 0] ∧ win0_2.index t = ![0, 0]
    ∧ win0_3.index t = ![0, 0] ∧ win0_4.index t = ![0, 0] ∧ win0_5.index t = ![0, 0, 0] ∧ win0_6.index t = ![0, 0, 0]
    ∧ win0_7.index t = ![0, 0] ∧ win0_8.index t = ![0, 0, 0] ∧ win0_9.index t = ![0, 0] :=
  (by decide +kernel : ∀ t : Fin grid0.N, _)

theorem iblk0 : iblk m 0 0 t0_0 = m (((0 : Dev nD).tc : Thread nD τ).loc main_arg0) := by
  blk_ext! [iblk, V, idx t0_0]
theorem iblk1 : iblk m 0 1 t0_0 = m (((0 : Dev nD).tc : Thread nD τ).loc main_arg1) := by
  blk_ext! [iblk, V, idx t0_0]
theorem iblk2 : iblk m 0 2 t0_0 = m (((0 : Dev nD).tc : Thread nD τ).loc main_arg2) := by
  blk_ext! [iblk, V, idx t0_0]
theorem iblk3 : iblk m 0 3 t0_0 = m (((0 : Dev nD).tc : Thread nD τ).loc main_arg3) := by
  blk_ext! [iblk, V, idx t0_0]
theorem iblk4 : iblk m 0 4 t0_0 = m (((0 : Dev nD).tc : Thread nD τ).loc main_arg4) := by
  blk_ext! [iblk, V, idx t0_0]
theorem iblk5 : iblk m 0 5 t0_0 = m (((0 : Dev nD).tc : Thread nD τ).loc main_arg5) := by
  blk_ext! [iblk, V, idx t0_0]
theorem iblk6 : iblk m 0 6 t0_0 = m (((0 : Dev nD).tc : Thread nD τ).loc main_arg6) := by
  blk_ext! [iblk, V, idx t0_0]
theorem iblk7 (c : Fin 2048) : (iblk m 0 7 t0_0 : S1x2048.Idx → EReal) (ix2 0 c)
    = (m (((0 : Dev nD).tc : Thread nD τ).loc main_arg7) : S2048.Idx → EReal) (ix1 c) := by
  blk_ext! [iblk, V, idx t0_0]
theorem iblk8 (d : Fin 5) (c : Fin 2048) : (iblk m 0 8 t0_0 : S5x1x2048.Idx → EReal) (ix3 d 0 c)
    = (m (((0 : Dev nD).tc : Thread nD τ).loc main_arg8) : S5x2048.Idx → EReal) (ix2 d c) := by
  blk_ext! [iblk, V, idx t0_0]

/-- Domain `d`'s part of a stack of five. -/
def wpOf (x : Vec Ideal S5x16384x2048 .fp8e4m3) : ℕ → Vec Ideal S1x16384x2048 .fp8e4m3
  | 0 => View.ld x (Rect.unit ![0, 0, 0] ![1, 16384, 2048] inb_S5x16384x2048_S1x16384x2048_0_0_0)
  | 1 => View.ld x (Rect.unit ![1, 0, 0] ![1, 16384, 2048] inb_S5x16384x2048_S1x16384x2048_1_0_0)
  | 2 => View.ld x (Rect.unit ![2, 0, 0] ![1, 16384, 2048] inb_S5x16384x2048_S1x16384x2048_2_0_0)
  | 3 => View.ld x (Rect.unit ![3, 0, 0] ![1, 16384, 2048] inb_S5x16384x2048_S1x16384x2048_3_0_0)
  | _ => View.ld x (Rect.unit ![4, 0, 0] ![1, 16384, 2048] inb_S5x16384x2048_S1x16384x2048_4_0_0)

theorem wpOf_at (x : Vec Ideal S5x16384x2048 .fp8e4m3) (d : ℕ) (hd : d < 5) (a : Fin 16384) (c : Fin 2048) :
    (wpOf x d (ix3 0 a c) : EReal) = x (ix3 ⟨d, hd⟩ a c) := by
  interval_cases d <;> (unfold wpOf; pointwise)

/-- Domain `d`'s part of a stack of five. -/
def spOf (x : Vec Ideal S5x256x2048 .f32) : ℕ → Vec Ideal S1x256x2048 .f32
  | 0 => View.ld x (Rect.unit ![0, 0, 0] ![1, 256, 2048] inb_S5x256x2048_S1x256x2048_0_0_0)
  | 1 => View.ld x (Rect.unit ![1, 0, 0] ![1, 256, 2048] inb_S5x256x2048_S1x256x2048_1_0_0)
  | 2 => View.ld x (Rect.unit ![2, 0, 0] ![1, 256, 2048] inb_S5x256x2048_S1x256x2048_2_0_0)
  | 3 => View.ld x (Rect.unit ![3, 0, 0] ![1, 256, 2048] inb_S5x256x2048_S1x256x2048_3_0_0)
  | _ => View.ld x (Rect.unit ![4, 0, 0] ![1, 256, 2048] inb_S5x256x2048_S1x256x2048_4_0_0)

theorem spOf_at (x : Vec Ideal S5x256x2048 .f32) (d : ℕ) (hd : d < 5) (a : Fin 256) (c : Fin 2048) :
    (spOf x d (ix3 0 a c) : EReal) = x (ix3 ⟨d, hd⟩ a c) := by
  interval_cases d <;> (unfold spOf; pointwise)

/-- Domain `d`'s part of a stack of five. -/
def bpOf (x : Vec Ideal S5x1x2048 .f32) : ℕ → Vec Ideal S1x1x2048 .f32
  | 0 => View.ld x (Rect.unit ![0, 0, 0] ![1, 1, 2048] inb_S5x1x2048_S1x1x2048_0_0_0)
  | 1 => View.ld x (Rect.unit ![1, 0, 0] ![1, 1, 2048] inb_S5x1x2048_S1x1x2048_1_0_0)
  | 2 => View.ld x (Rect.unit ![2, 0, 0] ![1, 1, 2048] inb_S5x1x2048_S1x1x2048_2_0_0)
  | 3 => View.ld x (Rect.unit ![3, 0, 0] ![1, 1, 2048] inb_S5x1x2048_S1x1x2048_3_0_0)
  | _ => View.ld x (Rect.unit ![4, 0, 0] ![1, 1, 2048] inb_S5x1x2048_S1x1x2048_4_0_0)

theorem bpOf_at (x : Vec Ideal S5x1x2048 .f32) (d : ℕ) (hd : d < 5) (c : Fin 2048) :
    (bpOf x d (ix3 0 0 c) : EReal) = x (ix3 ⟨d, hd⟩ 0 c) := by
  interval_cases d <;> (unfold bpOf; pointwise)

theorem wpOf_0 (x : Vec Ideal S5x16384x2048 .fp8e4m3) : wpOf x 0 = View.ld x (Rect.unit ![0, 0, 0] ![1, 16384, 2048] inb_S5x16384x2048_S1x16384x2048_0_0_0) := rfl
theorem wpOf_1 (x : Vec Ideal S5x16384x2048 .fp8e4m3) : wpOf x 1 = View.ld x (Rect.unit ![1, 0, 0] ![1, 16384, 2048] inb_S5x16384x2048_S1x16384x2048_1_0_0) := rfl
theorem wpOf_2 (x : Vec Ideal S5x16384x2048 .fp8e4m3) : wpOf x 2 = View.ld x (Rect.unit ![2, 0, 0] ![1, 16384, 2048] inb_S5x16384x2048_S1x16384x2048_2_0_0) := rfl
theorem wpOf_3 (x : Vec Ideal S5x16384x2048 .fp8e4m3) : wpOf x 3 = View.ld x (Rect.unit ![3, 0, 0] ![1, 16384, 2048] inb_S5x16384x2048_S1x16384x2048_3_0_0) := rfl
theorem wpOf_4 (x : Vec Ideal S5x16384x2048 .fp8e4m3) : wpOf x 4 = View.ld x (Rect.unit ![4, 0, 0] ![1, 16384, 2048] inb_S5x16384x2048_S1x16384x2048_4_0_0) := rfl
theorem spOf_0 (x : Vec Ideal S5x256x2048 .f32) : spOf x 0 = View.ld x (Rect.unit ![0, 0, 0] ![1, 256, 2048] inb_S5x256x2048_S1x256x2048_0_0_0) := rfl
theorem spOf_1 (x : Vec Ideal S5x256x2048 .f32) : spOf x 1 = View.ld x (Rect.unit ![1, 0, 0] ![1, 256, 2048] inb_S5x256x2048_S1x256x2048_1_0_0) := rfl
theorem spOf_2 (x : Vec Ideal S5x256x2048 .f32) : spOf x 2 = View.ld x (Rect.unit ![2, 0, 0] ![1, 256, 2048] inb_S5x256x2048_S1x256x2048_2_0_0) := rfl
theorem spOf_3 (x : Vec Ideal S5x256x2048 .f32) : spOf x 3 = View.ld x (Rect.unit ![3, 0, 0] ![1, 256, 2048] inb_S5x256x2048_S1x256x2048_3_0_0) := rfl
theorem spOf_4 (x : Vec Ideal S5x256x2048 .f32) : spOf x 4 = View.ld x (Rect.unit ![4, 0, 0] ![1, 256, 2048] inb_S5x256x2048_S1x256x2048_4_0_0) := rfl
theorem bpOf_0 (x : Vec Ideal S5x1x2048 .f32) : bpOf x 0 = View.ld x (Rect.unit ![0, 0, 0] ![1, 1, 2048] inb_S5x1x2048_S1x1x2048_0_0_0) := rfl
theorem bpOf_1 (x : Vec Ideal S5x1x2048 .f32) : bpOf x 1 = View.ld x (Rect.unit ![1, 0, 0] ![1, 1, 2048] inb_S5x1x2048_S1x1x2048_1_0_0) := rfl
theorem bpOf_2 (x : Vec Ideal S5x1x2048 .f32) : bpOf x 2 = View.ld x (Rect.unit ![2, 0, 0] ![1, 1, 2048] inb_S5x1x2048_S1x1x2048_2_0_0) := rfl
theorem bpOf_3 (x : Vec Ideal S5x1x2048 .f32) : bpOf x 3 = View.ld x (Rect.unit ![3, 0, 0] ![1, 1, 2048] inb_S5x1x2048_S1x1x2048_3_0_0) := rfl
theorem bpOf_4 (x : Vec Ideal S5x1x2048 .f32) : bpOf x 4 = View.ld x (Rect.unit ![4, 0, 0] ![1, 1, 2048] inb_S5x1x2048_S1x1x2048_4_0_0) := rfl

theorem one_idx (q : S1.Idx) : q = ix1 0 := by
  funext a; fin_cases a; exact Subsingleton.elim (α := Fin 1) _ _

theorem word1 (x : Vec Ideal S6 .i32) (q : S1.Idx) : View.ld x (Rect.unit ![1] ![1] inb_S6_S1_1) q = (x : S6.Idx → BitVec 32) (ix1 1) := by
  obtain rfl : q = ix1 0 := one_idx q
  pointwise
theorem word2 (x : Vec Ideal S6 .i32) (q : S1.Idx) : View.ld x (Rect.unit ![2] ![1] inb_S6_S1_2) q = (x : S6.Idx → BitVec 32) (ix1 2) := by
  obtain rfl : q = ix1 0 := one_idx q
  pointwise
theorem word3 (x : Vec Ideal S6 .i32) (q : S1.Idx) : View.ld x (Rect.unit ![3] ![1] inb_S6_S1_3) q = (x : S6.Idx → BitVec 32) (ix1 3) := by
  obtain rfl : q = ix1 0 := one_idx q
  pointwise
theorem word4 (x : Vec Ideal S6 .i32) (q : S1.Idx) : View.ld x (Rect.unit ![4] ![1] inb_S6_S1_4) q = (x : S6.Idx → BitVec 32) (ix1 4) := by
  obtain rfl : q = ix1 0 := one_idx q
  pointwise
theorem word5 (x : Vec Ideal S6 .i32) (q : S1.Idx) : View.ld x (Rect.unit ![5] ![1] inb_S6_S1_5) q = (x : S6.Idx → BitVec 32) (ix1 5) := by
  obtain rfl : q = ix1 0 := one_idx q
  pointwise

/-- What the body leaves in its result. -/
theorem out_eq : (outsAt0 m 0 t0_0 : Vec Ideal S4096x2048 .f32)
    = body (fun k => (iblk m 0 0 t0_0 : S6.Idx → BitVec 32) (ix1 k)) (iblk m 0 1 t0_0) (iblk m 0 2 t0_0) (iblk m 0 3 t0_0) (iblk m 0 4 t0_0) (iblk m 0 7 t0_0)
        (wpOf (iblk m 0 5 t0_0)) (spOf (iblk m 0 6 t0_0)) (bpOf (iblk m 0 8 t0_0)) := by
  unfold outsAt0
  frame_out
  simp only [read_unread_whole]
  unfold body
  generalize iblk m 0 0 t0_0 = x0
  generalize iblk m 0 1 t0_0 = x1
  generalize iblk m 0 2 t0_0 = x2
  generalize iblk m 0 3 t0_0 = x3
  generalize iblk m 0 4 t0_0 = x4
  generalize iblk m 0 5 t0_0 = x5
  generalize iblk m 0 6 t0_0 = x6
  generalize iblk m 0 7 t0_0 = x7
  generalize iblk m 0 8 t0_0 = x8
  simp only [wpOf_0, wpOf_1, wpOf_2, wpOf_3, wpOf_4, spOf_0, spOf_1, spOf_2, spOf_3, spOf_4, bpOf_0, bpOf_1, bpOf_2, bpOf_3, bpOf_4]
  erw [word1 x0 _, word2 x0 _, word3 x0 _, word4 x0 _, word5 x0 _]

/-- The reference's array at an element of domain `d`. -/
theorem ref_right (g : Items.Good (offsR m)) (r : Fin 4096) (j : Fin 2048) (d : ℕ) (hd : d < 5)
    (h1 : Items.at' (offsR m) d ≤ r.val) (h2 : (r.val : ℤ) < Items.at' (offsR m) (d + 1)) :
    (outsAt0 m 0 t0_0 (ix2 r j : S4096x2048.Idx) : EReal) = Spec.result (argsR m) d r.val j.val := by
  have e0 : (fun k : Fin 6 => (iblk m 0 0 t0_0 : S6.Idx → BitVec 32) (ix1 k)) = offsR m := by rw [iblk0]; rfl
  rw [out_eq, e0, iblk1, iblk2, iblk3, iblk4, iblk5, iblk6]
  refine body_at _ _ _ _ _ _ _ _ _ (argsR m) g d r j h1 h2 hd ?_ ?_ ?_ ?_ ?_ ?_ ?_ ?_
  · exact fun r x => at2_of (argsR m).codes _ _ _ rfl rfl
  · exact fun r => at2_of (argsR m).sx _ _ _ rfl rfl
  · exact fun x j => at2_of (argsR m).ws _ _ _ rfl rfl
  · exact fun x j => at2_of (argsR m).ss _ _ _ rfl rfl
  · exact fun j => (iblk7 m j).trans (at1_of (argsR m).bs _ _ rfl)
  · exact fun d hd x j => (wpOf_at _ d hd x j).trans (at3_of (argsR m).wp _ _ _ _ rfl rfl rfl)
  · exact fun d hd x j => (spOf_at _ d hd x j).trans (at3_of (argsR m).sp _ _ _ _ rfl rfl rfl)
  · exact fun d hd j => (bpOf_at _ d hd j).trans ((iblk8 m ⟨d, hd⟩ j).trans (at2_of (argsR m).bp _ _ _ rfl rfl))

/-- The array after the run is what the body left. -/
theorem whole : ((dats m 0 0).arrAt 9 cfg0.N : S4096x2048.Idx → EReal) = outsAt0 m 0 t0_0 := by
  refine (dats m 0 0).arrAt_eq_of_after_last 9 t0_0 (by decide +kernel) _ fun j => ?_
  blk_simp
  rw [after0_9]

end Cert.ReferenceIdeal.Gen
-- ==== Proof.Pre.lean ====
module

public import proofs.«01_k».proof.Defs
public import proofs.«01_k».proof.Proof.ItemFacts
public import Idealize.ShloMosaic.Lib.Pointwise
public import Idealize.ShloMosaic.Lib.WordCmp

/-!
The precondition, as the fact the proof uses: the offsets start at 0, end at 4096 and never fall.
-/

@[expose] public section

set_option maxRecDepth 16384

noncomputable section

namespace Cert.Pre_offsets_partition

open Idealize.ShloMosaic Idealize.ShloMosaic.Tactic

theorem facts : Facts where
  slices_S6_S1_0 := by decide
  shapeCasts_S1_S_ := by decide
  slices_S6_S1_5 := by decide
  slices_S6_S5_0 := by decide
  slices_S6_S5_1 := by decide

theorem good_of_ones (h : Facts) (a0 : IVec S6 32) (a1 : FVec Ideal S4096x16384 .fp8e4m3) (a2 : FVec Ideal S4096x1 .f32)
    (a3 : FVec Ideal S16384x2048 .fp8e4m3) (a4 : FVec Ideal S256x2048 .f32) (a5 : FVec Ideal S5x16384x2048 .fp8e4m3)
    (a6 : FVec Ideal S5x256x2048 .f32) (a7 : FVec Ideal S2048 .f32) (a8 : FVec Ideal S5x2048 .f32)
    (h1 : (fn (F := Ideal) a0 a1 a2 a3 a4 a5 a6 a7 a8).1 = fun _ => 1#1)
    (h2 : (fn (F := Ideal) a0 a1 a2 a3 a4 a5 a6 a7 a8).2 = fun _ => 1#1) :
    Items.Good (fun k => a0 (ix1 k)) := by
  have e1 := congrFun h1 (fun a => a.elim0)
  unfold fn at e1
  pointwise at e1
  rw [WordCmp.cmpi_eq_eq, WordCmp.cmpi_eq_eq, WordCmp.andi_ofBool, WordCmp.ofBool_eq_one_iff, Bool.and_eq_true, decide_eq_true_iff,
    decide_eq_true_iff] at e1
  refine ⟨?_, ?_, fun k => ?_⟩
  · show (a0 (ix1 0)).toInt = 0
    rw [e1.1]; decide
  · show (a0 (ix1 5)).toInt = 4096
    rw [e1.2]; decide
  · have e2 := congrFun h2 (ix1 k)
    unfold fn at e2
    pointwise at e2
    rw [WordCmp.cmpi_sle_eq, WordCmp.ofBool_decide_eq_one_iff] at e2
    show (a0 (ix1 k.castSucc)).toInt ≤ (a0 (ix1 k.succ)).toInt
    have es : k.succ = ⟨1 + k.val, by omega⟩ := Fin.ext (by simp; omega)
    rw [es]
    exact e2

end Cert.Pre_offsets_partition
-- ==== Proof.Agree.lean ====
module

public import proofs.«01_k».proof.Defs
public import proofs.«01_k».proof.Proof.Array
public import proofs.«01_k».proof.Proof.RefValue
public import proofs.«01_k».proof.Proof.Pre
public import Idealize.ShloMosaic.Lib.Pipeline.ArrRel

/-!
The kernel's array and the reference's array are the same, element by element.
-/

@[expose] public section

set_option maxRecDepth 16384

noncomputable section

namespace Cert.Agree

open Idealize.ShloMosaic Idealize.ShloMosaic.TcCoe Idealize.SL.Sem

variable (m : (ℓ : Loc KernelIdeal.nD KernelIdeal.τ KernelIdeal.sig) → Buf (Elt Ideal) ℓ)
  (ρ : Dev KernelIdeal.nD → PrngReg)
  (m' : (ℓ : Loc ReferenceIdeal.nD ReferenceIdeal.τ ReferenceIdeal.sig) → Buf (Elt Ideal) ℓ)

/-- The kernel's array after the run, under the facts about the offsets: at every element of the rows of domain `d`, `Spec.result`. -/
theorem run_kernel (g : Items.Good (KernelIdeal.Gen.offs (KernelIdeal.Gen.M0 m))) :
    θ_run (KernelIdeal.defs (F := Ideal)) (onTc (τ := KernelIdeal.τ) (KernelIdeal.main (F := Ideal))) ⟨m, fun _ => 0, ρ⟩
      (fun r => ∀ (i : KernelIdeal.S4096x2048.Idx) (d : ℕ),
        Items.at' (KernelIdeal.Gen.offs (KernelIdeal.Gen.M0 m)) d ≤ (i 0).val →
        (i 0).val < Items.at' (KernelIdeal.Gen.offs (KernelIdeal.Gen.M0 m)) (d + 1) →
        ((r.2.mem ((((0 : Dev KernelIdeal.nD).tc : Thread KernelIdeal.nD KernelIdeal.τ)).loc KernelIdeal.main_v58) : KernelIdeal.S4096x2048.Idx → EReal) i)
          = Spec.result (KernelIdeal.Gen.argsK m) d (i 0).val (i 1).val) :=
  (θ_run (KernelIdeal.defs (F := Ideal)) _ _).mono (fun r h i d h1 h2 => by
    obtain ⟨after, hL, hA⟩ := h.1.exists_exact (0 : Dev KernelIdeal.nD)
    have e := hA 8
    exact (congrFun e i).trans (KernelIdeal.Gen.array_right m g ((KernelIdeal.Gen.rdat m 0).withAfter after) (fun t hf => hL 8 t hf) i d h1 h2))
    (KernelIdeal.Gen.run_main_quiescent m ρ)

/-- The reference's array, under the same. -/
theorem ref_at (g : Items.Good (ReferenceIdeal.Gen.offsR m')) (i : ReferenceIdeal.S4096x2048.Idx) (d : ℕ) (hd : d < 5)
    (h1 : Items.at' (ReferenceIdeal.Gen.offsR m') d ≤ (i 0).val) (h2 : ((i 0).val : ℤ) < Items.at' (ReferenceIdeal.Gen.offsR m') (d + 1)) :
    (((ReferenceIdeal.Gen.dats m' 0 0).arrAt 9 ReferenceIdeal.cfg0.N : ReferenceIdeal.S4096x2048.Idx → EReal) i)
      = Spec.result (ReferenceIdeal.Gen.argsR m') d (i 0).val (i 1).val := by
  rw [ReferenceIdeal.Gen.whole]
  have hi : i = ix2 (i 0) (i 1) := by funext a; fin_cases a <;> rfl
  rw [hi]
  exact ReferenceIdeal.Gen.ref_right m' g (i 0) (i 1) d hd h1 h2

/-- The precondition, of the offsets the kernel reads. -/
theorem good (h : Pre_KernelIdeal_offsets_partition (hPre_offsets_partition := Pre_offsets_partition.facts) m) :
    Items.Good (KernelIdeal.Gen.offs (KernelIdeal.Gen.M0 m)) :=
  Pre_offsets_partition.good_of_ones Pre_offsets_partition.facts _ _ _ _ _ _ _ _ _ (h 0).1 (h 0).2

/-- Both programs leave the same array, and their arguments as they were. -/
theorem agree : algebraic_KernelIdeal_ReferenceIdeal_pre_offsets_partition (hKernelIdeal := KernelIdeal.Gen.facts)
    (hReferenceIdeal := ReferenceIdeal.Gen.facts) (hPre_offsets_partition := Pre_offsets_partition.facts) := by
  intro m ρ m' ρ' hp hargs
  have g := good m hp
  have hz := hargs 0
  have eo : ReferenceIdeal.Gen.offsR m' = KernelIdeal.Gen.offs (KernelIdeal.Gen.M0 m) :=
    funext fun k => congrFun hz.1 (ix1 k)
  have ea : ReferenceIdeal.Gen.argsR m' = KernelIdeal.Gen.argsK m := by
    obtain ⟨_, e1, e2, e3, e4, e5, e6, e7, e8⟩ := hz
    unfold ReferenceIdeal.Gen.argsR KernelIdeal.Gen.argsK
    rw [Spec.Args.mk.injEq]
    exact ⟨e1, e2, e3, e4, e5, e6, e7, e8⟩
  refine ⟨fun c => (ReferenceIdeal.Gen.dats m' 0 c).arrAt 9 ReferenceIdeal.cfg0.N, ?_, ReferenceIdeal.Value.run_blocks m' ρ'⟩
  refine (θ_run (KernelIdeal.defs (F := Ideal)) _ _).mono (fun r h c => ⟨?_, h.2.1 c⟩) (θ_run_and (run_kernel m ρ g) (KernelIdeal.Gen.frame m ρ))
  obtain hc : c = (0 : Dev KernelIdeal.nD) := Subsingleton.elim _ _
  rw [hc]
  funext i
  obtain ⟨d, hd, h1, h2⟩ := Items.exists_dom _ g (i 0).val (i 0).isLt
  have eK := h.1 i d h1 h2
  have eR := ref_at m' (by rw [eo]; exact g) i d hd (by rw [eo]; exact h1) (by rw [eo]; exact h2)
  rw [ea] at eR
  exact eK.trans eR.symm

end Cert.Agree
-- ==== Proof.CBitsBody.lean ====
module

public import proofs.«01_k».proof.Proof.Gen.KernelC.Launch
public import proofs.«01_k».proof.Proof.Gen.KernelC.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelC.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a twelve-word table the body reads at grid point `i`. -/
abbrev wordIdx (i : grid0.Coords) : S12.Idx :=
  (Rect.unit (s := S12) (k0_off1 i) S1.size (k0_off1_inb i)).emb (Shape.Idx.first (numel1_S1.symm ▸ Nat.one_pos))

/-- The grid's last axis has one step: it is the first, -/
theorem first_step (i : grid0.Coords) :
    (Scalar.cmpi .ne (Scalar.extui (Scalar.cmpi .eq (BitVec.ofNat 32 (i 2).val) 0#32) : BitVec 32) 0#32 = 1#1) = True := by
  have h : ∀ n : Fin 1, (Scalar.cmpi .ne (Scalar.extui (Scalar.cmpi .eq (BitVec.ofNat 32 n.val) 0#32) : BitVec 32) 0#32 = 1#1) = True := by
    decide
  exact h (i 2)

/-- not a later one, -/
theorem later_step (i : grid0.Coords) :
    (Scalar.cmpi .ne (Scalar.extui (Scalar.cmpi .sgt (BitVec.ofNat 32 (i 2).val) 0#32) : BitVec 32) 0#32 = 1#1) = False := by
  have h : ∀ n : Fin 1, (Scalar.cmpi .ne (Scalar.extui (Scalar.cmpi .sgt (BitVec.ofNat 32 n.val) 0#32) : BitVec 32) 0#32 = 1#1) = False := by
    decide
  exact h (i 2)

/-- and the last. -/
theorem last_step (i : grid0.Coords) : (k0_cond4 i = 1#1) = True := first_step i

/-- What the accumulator holds after the body at point `i`: at an item with no rows what it held; at a live item the
    product. -/
def accNext (lo hi : BitVec 32) (x7 : Vec F S512x1152 .fp8e4m3) (x9 : Vec F S1152x256 .fp8e4m3)
    (x10 : Vec F S18x256 .f32) (x11 : Vec F S1x1152x256 .fp8e4m3) (x12 : Vec F S1x18x256 .f32) (acc : Vec F S512x256 .f32) :
    Vec F S512x256 .f32 :=
  if k0_cond1 lo hi = 1#1 then
    k0_pay2 x10 x12 x9 x11 x7
  else acc

/-- What the output block holds after the body at point `i`: at a live item the item's rows are replaced,
    at an item with no rows it is what it was. -/
def outNext (lo hi : BitVec 32) (tile : BitVec 32) (x7 : Vec F S512x1152 .fp8e4m3) (x8 : Vec F S512x1 .f32)
    (x9 : Vec F S1152x256 .fp8e4m3) (x10 : Vec F S18x256 .f32) (x11 : Vec F S1x1152x256 .fp8e4m3) (x12 : Vec F S1x18x256 .f32)
    (x13 : Vec F S1x256 .f32) (x14 : Vec F S1x1x256 .f32) (out : Vec F S512x256 .bf16) (acc : Vec F S512x256 .f32) :
    Vec F S512x256 .bf16 :=
  if k0_cond1 lo hi = 1#1 then
    k0_pay4 lo hi (accNext lo hi x7 x9 x10 x11 x12 acc) x8 x13 x14 tile out
  else out

set_option maxHeartbeats 8000000 in
/-- The body at grid point `i` on whole memrefs: the tables and the inputs keep their contents, the accumulator and the
    output block step to `accNext` and `outNext`. -/
theorem body_step (c : Dev nD) (i : grid0.Coords) (q : PosShare TreeShare) (arg3 : Memref sig .tc .smem S12 .i32) (harg3 : arg3.IsWhole) (arg4 : Memref sig .tc .smem S12 .i32) (harg4 : arg4.IsWhole) (arg5 : Memref sig .tc .smem S12 .i32) (harg5 : arg5.IsWhole) (arg6 : Memref sig .tc .smem S12 .i32) (harg6 : arg6.IsWhole) (arg7 : Memref sig .tc .vmem S512x1152 .fp8e4m3) (harg7 : arg7.IsWhole) (arg8 : Memref sig .tc .vmem S512x1 .f32) (harg8 : arg8.IsWhole) (arg9 : Memref sig .tc .vmem S1152x256 .fp8e4m3) (harg9 : arg9.IsWhole) (arg10 : Memref sig .tc .vmem S18x256 .f32) (harg10 : arg10.IsWhole) (arg11 : Memref sig .tc .vmem S1x1152x256 .fp8e4m3) (harg11 : arg11.IsWhole) (arg12 : Memref sig .tc .vmem S1x18x256 .f32) (harg12 : arg12.IsWhole) (arg13 : Memref sig .tc .vmem S1x256 .f32) (harg13 : arg13.IsWhole) (arg14 : Memref sig .tc .vmem S1x1x256 .f32) (harg14 : arg14.IsWhole) (arg15 : Memref sig .tc .vmem S512x256 .bf16) (harg15 : arg15.IsWhole) (arg16 : Memref sig .tc .vmem S512x256 .f32) (harg16 : arg16.IsWhole)
    (x3 : Vec F S12 .i32) (x4 : Vec F S12 .i32) (x5 : Vec F S12 .i32) (x6 : Vec F S12 .i32) (x7 : Vec F S512x1152 .fp8e4m3) (x8 : Vec F S512x1 .f32) (x9 : Vec F S1152x256 .fp8e4m3) (x10 : Vec F S18x256 .f32) (x11 : Vec F S1x1152x256 .fp8e4m3) (x12 : Vec F S1x18x256 .f32) (x13 : Vec F S1x256 .f32) (x14 : Vec F S1x1x256 .f32) (x15 : Vec F S512x256 .bf16) (x16 : Vec F S512x256 .f32)
    (E : Set ℕ) (K : PUnit → sProp 𝕄) :
    iprop(owns (c : Thread nD τ) arg3 q x3 ∗ owns (c : Thread nD τ) arg4 q x4 ∗ owns (c : Thread nD τ) arg5 q x5 ∗ owns (c : Thread nD τ) arg6 q x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg3 q x3 ∗ owns (c : Thread nD τ) arg4 q x4 ∗ owns (c : Thread nD τ) arg5 q x5 ∗ owns (c : Thread nD τ) arg6 q x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (outNext (x5 (wordIdx i)) (x6 (wordIdx i)) (x3 (wordIdx i)) x7 x8 x9 x10 x11 x12 x13 x14 x15 x16) ∗ owns (c : Thread nD τ) arg16 fullShare (accNext (x5 (wordIdx i)) (x6 (wordIdx i)) x7 x9 x10 x11 x12 x16)) -∗ K ⟨⟩))
      ⊢ wp frame (wpE (defs₀ (F := F)) Variants.none c none) E (cc0_star3 i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_star3_eq_skeleton]; unfold cc0_star3_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  have h3 : ∀ h : _, View.readAt (Elt F) arg3.view (Rect.unit (s := S12) (k0_off2 i) S1.size h).toLoadRect (harg3.unread x3)
      (Shape.Idx.first (numel1_S1.symm ▸ Nat.one_pos)) = x3 (wordIdx i) := fun _ => congrFun hf3 (wordIdx i)
  have h5 : View.readAt (Elt F) arg5.view (Rect.unit (s := S12) (k0_off1 i) S1.size (k0_off1_inb i)).toLoadRect (harg5.unread x5)
      (Shape.Idx.first (numel1_S1.symm ▸ Nat.one_pos)) = x5 (wordIdx i) := congrFun hf5 (wordIdx i)
  have h6 : View.readAt (Elt F) arg6.view (Rect.unit (s := S12) (k0_off1 i) S1.size (k0_off1_inb i)).toLoadRect (harg6.unread x6)
      (Shape.Idx.first (numel1_S1.symm ▸ Nat.one_pos)) = x6 (wordIdx i) := congrFun hf6 (wordIdx i)
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; rotate_left
    · iexact H15
    · ipureintro
      repeat (first | unfold body_step.sl.r | unfold body_step.sl.r_1 | unfold body_step.sl.r_2 | unfold body_step.sl.v35_1 | unfold body_step.sl.v35 | unfold body_step.sl.v31 | unfold body_step.sl.v28 | unfold body_step.sl.v30 | unfold body_step.sl.v27 | unfold body_step.sl.v26 | unfold body_step.sl.v29)
      unfold outNext accNext
      by_cases hl : k0_cond1 (x5 (wordIdx i)) (x6 (wordIdx i)) = 1#1
      · simp -proj only [h3, h5, h6, first_step, later_step, last_step, hl, not_true_eq_false, not_false_eq_true, dite_true, dite_false, ite_true, ite_false, eq_self, View.readAt_full, View.read_writes_full, hf7, hf8, hf9, hf10, hf11, hf12, hf13, hf14, hf15, hf16]
      · simp -proj only [h5, h6, hl, dite_false, ite_false, hf15, hf16]
  iexists _; isplitr; rotate_left
  · iexact H16
  · ipureintro
    repeat (first | unfold body_step.sl.r | unfold body_step.sl.r_1 | unfold body_step.sl.v35 | unfold body_step.sl.v31 | unfold body_step.sl.v28 | unfold body_step.sl.v30 | unfold body_step.sl.v27 | unfold body_step.sl.v26 | unfold body_step.sl.v29)
    unfold accNext
    by_cases hl : k0_cond1 (x5 (wordIdx i)) (x6 (wordIdx i)) = 1#1
    · simp -proj only [h3, h5, h6, first_step, later_step, last_step, hl, not_true_eq_false, not_false_eq_true, dite_true, dite_false, ite_true, ite_false, eq_self, View.readAt_full, View.read_writes_full, hf7, hf8, hf9, hf10, hf11, hf12, hf13, hf14, hf15, hf16]
    · simp -proj only [h5, h6, hl, dite_false, ite_false, hf15, hf16]

end Cert.KernelC.Gen
-- ==== Proof.CBitsTables.lean ====
module

public import proofs.«01_k».proof.Proof.Gen.KernelC.Launch
public import proofs.«01_k».proof.Proof.Items
public import proofs.«01_k».proof.Proof.Takes

/-!
The four prefetched tables, read off the host operations before the launch: slot `x` holds the pair
`Items.pick … x`; the tables are its tile, its domain, and the first and last row of its interval (both 0 for a slot
past the live pairs). Each stretch of host operations is read by itself, over any contents before it.
-/

@[expose] public section

set_option maxRecDepth 16384
set_option backward.proofsInPublic true

noncomputable section

namespace Cert.KernelC.Gen

open Cert.Shared Idealize.ShloMosaic Idealize.ShloMosaic.TcCoe

variable {F : FTy → Type} [FloatOps F] (W : Valuation τ sig (Elt F))

/-- The six offsets in the contents `W`. -/
def offs (W : Valuation τ sig (Elt F)) (k : Fin 6) : BitVec 32 := (W main_arg0 : S6.Idx → BitVec 32) (ix1 k)

/-- The live bits of the pairs, as the array the host holds. -/
def liveArr (W : Valuation τ sig (Elt F)) : S40.Idx → BitVec 1 := fun x => Items.live (offs W) (x 0)

/-- The number of live pairs, as the host sums it. -/
def liveCount (w : S40.Idx → BitVec 1) : BitVec 32 :=
  Host.reduce IntOp.addi (extui 32 w natLt_1_32) (constantI S_ 32 0#32) reducesTo_S40_S_d0 h_S_ Idealize.ShloMosaic.ix0

/-- The stable sort of the pairs by the word `w`, as a self-map of their numbers. -/
@[irreducible] def orderBy (w : S40.Idx → BitVec 1) : Fin 40 → Fin 40 :=
  sortedFrom fun k k' => IntOp.cmpi .ult (w (Shape.Idx.ofFin k)) (w (Shape.Idx.ofFin k')) == 1#1

theorem orderBy_live : orderBy (fun x => ~~~ (liveArr W x)) = Items.order (offs W) := by
  unfold orderBy Items.order
  simp only [liveArr, Shape.Idx.ofFin_zero]

theorem read_v18 (x : S40.Idx) : (StableHlo.after (hostOps0 (F := F)) W main_v18 : S40.Idx → BitVec 1) x = liveArr W x := by
  after_reads_at
  unfold liveArr Items.live Items.rowHi Items.rowLo
  rfl
theorem read_v19 (x : S40.Idx) : (StableHlo.after (hostOps0 (F := F)) W main_v19 : S40.Idx → BitVec 1) x = ~~~ (liveArr W x) := by
  after_reads_at
  unfold liveArr Items.live Items.rowHi Items.rowLo
  rfl
theorem read_v9 (k : Fin 40) : (StableHlo.after (hostOps0 (F := F)) W main_v9 : S40.Idx → BitVec 32) (Shape.Idx.ofFin k) = Items.rowLo (offs W) k := by
  after_reads_at
  unfold Items.rowLo
  rfl
theorem read_v17 (k : Fin 40) : (StableHlo.after (hostOps0 (F := F)) W main_v17 : S40.Idx → BitVec 32) (Shape.Idx.ofFin k) = Items.rowHi (offs W) k := by
  after_reads_at
  unfold Items.rowHi
  rfl

theorem sort40 (u : S40.Idx → BitVec 1) (k : Fin 40) :
    (Host.sort2 S40 0 comparator_i1_i32_d0 u (iotaInDim S40 32 0)).2 (Shape.Idx.ofFin k) = BitVec.ofNat 32 (orderBy u k).val := by
  have e : (Host.sort2 S40 0 comparator_i1_i32_d0 u (iotaInDim S40 32 0)).2 (Shape.Idx.ofFin k) = _ :=
    sort2_vec (n := 40) comparator_i1_i32_d0 u (iotaInDim S40 32 0) (Shape.Idx.ofFin k)
  rw [e]
  unfold orderBy iotaInDim
  simp only [Shape.Idx.ofFin_zero, comparator_i1_i32_d0]

set_option backward.isDefEq.respectTransparency.types false in
theorem read_v20 (w : S40.Idx → BitVec 1) (h : (W main_v19 : S40.Idx → BitVec 1) = w) (k : Fin 40) :
    (StableHlo.after (hostOps0_1 (F := F)) W main_v20 : S40.Idx → BitVec 32) (Shape.Idx.ofFin k)
      = BitVec.ofNat 32 (orderBy w k).val := by
  subst h
  after_reads_simp
  simp only [StableHlo.TRef.toBuf, StableHlo.TRef.ofBuf, cast_cast, cast_eq]
  have e := sort40 (W main_v19) k
  generalize orderBy (W main_v19) k = z at e ⊢
  exact e

theorem read_v34 (x : S12.Idx) (g : Fin 40 → Fin 40) (h : ∀ k, (W main_v20 : S40.Idx → BitVec 32) (Shape.Idx.ofFin k) = BitVec.ofNat 32 (g k).val) :
    (StableHlo.after (hostOps0_2 (F := F)) W main_v34 : S12.Idx → BitVec 32) x
      = BitVec.ofNat 32 (g ⟨(Items.slot (liveCount (W main_v18)) (x 0).val).val, by have := (Items.slot (liveCount (W main_v18)) (x 0).val).isLt; omega⟩).val := by
  after_reads_at
  refine (take_at gather_S12_S12x1_S12_n_0_n_n_0_1_1 rfl rfl rfl rfl _ _ _ x (by decide)).trans ?_
  refine Eq.trans ?_ (h _)
  unfold extractStridedSlice
  refine congrArg (W main_v20 : S40.Idx → BitVec 32) (funext fun a => ?_)
  obtain rfl : a = 0 := Subsingleton.elim _ _
  refine Fin.ext ?_
  refine (Nat.zero_add _).trans ?_
  have e : ∀ a b : S_.Idx, a = b := fun a b => funext fun i => i.elim0
  show min _ _ = _
  unfold Items.slot liveCount
  simp only [select, cmpi, addi, minsi, subi, iotaInDim, constantI]
  rfl
theorem read_v37 (x : S12.Idx) : (StableHlo.after (hostOps0_2 (F := F)) W main_v37 : S12.Idx → BitVec 1) x
    = IntOp.cmpi .sge (BitVec.ofNat 32 (x 0).val) (liveCount (W main_v18)) := by
  after_reads_at
  rfl
theorem read_c5 (x : S_.Idx) : (StableHlo.after (hostOps0_2 (F := F)) W main_c_5 : S_.Idx → BitVec 32) x = 5#32 := by
  after_reads_at
theorem read_c6 (x : S_.Idx) : (StableHlo.after (hostOps0_4 (F := F)) W main_c_6 : S_.Idx → BitVec 32) x = 5#32 := by
  after_reads_at
theorem read_c9 (x : S_.Idx) : (StableHlo.after (hostOps0_6 (F := F)) W main_c_9 : S_.Idx → BitVec 32) x = 0#32 := by
  after_reads_at
theorem read_c12 (x : S_.Idx) : (StableHlo.after (hostOps0_8 (F := F)) W main_c_12 : S_.Idx → BitVec 32) x = 0#32 := by
  after_reads_at
theorem read_v38 (x : S12.Idx) (p : Fin 40) (hp : (W main_v34 : S12.Idx → BitVec 32) x = BitVec.ofNat 32 p.val)
    (hc : (W main_c_5 : S_.Idx → BitVec 32) Idealize.ShloMosaic.ix0 = 5#32) :
    (StableHlo.after (hostOps0_3 (F := F)) W main_v38 : S12.Idx → BitVec 32) x = BitVec.ofNat 32 (p.val / 5) := by
  after_reads_at
  simp only [id, hp, hc]
  exact Items.div5 p
theorem read_v39 (x : S12.Idx) (p : Fin 40) (hp : (W main_v34 : S12.Idx → BitVec 32) x = BitVec.ofNat 32 p.val)
    (hc : (W main_c_6 : S_.Idx → BitVec 32) Idealize.ShloMosaic.ix0 = 5#32) :
    (StableHlo.after (hostOps0_5 (F := F)) W main_v39 : S12.Idx → BitVec 32) x = BitVec.ofNat 32 (p.val % 5) := by
  after_reads_at
  simp only [id, hp, hc]
  exact Items.mod5 p
theorem read_v46 (x : S12.Idx) (p : Fin 40) (hp : (W main_v34 : S12.Idx → BitVec 32) x = BitVec.ofNat 32 p.val) :
    (StableHlo.after (hostOps0_6 (F := F)) W main_v46 : S12.Idx → BitVec 32) x = (W main_v9 : S40.Idx → BitVec 32) (Shape.Idx.ofFin p) := by
  after_reads_at
  refine (take_at gather_S40_S12x1_S12_n_0_n_n_0_1_1 rfl rfl rfl rfl _ _ _ x (by decide)).trans ?_
  refine congrArg _ (congrArg Shape.Idx.ofFin (Fin.ext ?_))
  refine Eq.trans ?_ (Items.clamp40 p)
  refine congrArg (fun b : BitVec 32 => min b.toInt.toNat (40 - 1)) ?_
  refine Eq.trans ?_ (Items.wrap40 p)
  rw [← hp]
  rfl
theorem read_v54 (x : S12.Idx) (p : Fin 40) (hp : (W main_v34 : S12.Idx → BitVec 32) x = BitVec.ofNat 32 p.val) :
    (StableHlo.after (hostOps0_8 (F := F)) W main_v54 : S12.Idx → BitVec 32) x = (W main_v17 : S40.Idx → BitVec 32) (Shape.Idx.ofFin p) := by
  after_reads_at
  refine (take_at gather_S40_S12x1_S12_n_0_n_n_0_1_1 rfl rfl rfl rfl _ _ _ x (by decide)).trans ?_
  refine congrArg _ (congrArg Shape.Idx.ofFin (Fin.ext ?_))
  refine Eq.trans ?_ (Items.clamp40 p)
  refine congrArg (fun b : BitVec 32 => min b.toInt.toNat (40 - 1)) ?_
  refine Eq.trans ?_ (Items.wrap40 p)
  rw [← hp]
  rfl
theorem read_v47 (x : S12.Idx) (hc : (W main_c_9 : S_.Idx → BitVec 32) Idealize.ShloMosaic.ix0 = 0#32) :
    (StableHlo.after (hostOps0_7 (F := F)) W main_v47 : S12.Idx → BitVec 32) x
      = Scalar.select ((W main_v37 : S12.Idx → BitVec 1) x) 0#32 ((W main_v46 : S12.Idx → BitVec 32) x) := by
  after_reads_at
  simp only [id, hc]
theorem read_v55 (x : S12.Idx) (hc : (W main_c_12 : S_.Idx → BitVec 32) Idealize.ShloMosaic.ix0 = 0#32) :
    (StableHlo.after (hostOps0_9 (F := F)) W main_v55 : S12.Idx → BitVec 32) x
      = Scalar.select ((W main_v37 : S12.Idx → BitVec 1) x) 0#32 ((W main_v54 : S12.Idx → BitVec 32) x) := by
  after_reads_at
  simp only [id, hc]
theorem keep_v18_1 : StableHlo.after (hostOps0_1 (F := F)) W main_v18 = W main_v18 := by after_reads_simp
theorem keep_v9_1 : StableHlo.after (hostOps0_1 (F := F)) W main_v9 = W main_v9 := by after_reads_simp
theorem keep_v9_2 : StableHlo.after (hostOps0_2 (F := F)) W main_v9 = W main_v9 := by after_reads_simp
theorem keep_v9_3 : StableHlo.after (hostOps0_3 (F := F)) W main_v9 = W main_v9 := by after_reads_simp
theorem keep_v9_4 : StableHlo.after (hostOps0_4 (F := F)) W main_v9 = W main_v9 := by after_reads_simp
theorem keep_v9_5 : StableHlo.after (hostOps0_5 (F := F)) W main_v9 = W main_v9 := by after_reads_simp
theorem keep_v17_1 : StableHlo.after (hostOps0_1 (F := F)) W main_v17 = W main_v17 := by after_reads_simp
theorem keep_v17_2 : StableHlo.after (hostOps0_2 (F := F)) W main_v17 = W main_v17 := by after_reads_simp
theorem keep_v17_3 : StableHlo.after (hostOps0_3 (F := F)) W main_v17 = W main_v17 := by after_reads_simp
theorem keep_v17_4 : StableHlo.after (hostOps0_4 (F := F)) W main_v17 = W main_v17 := by after_reads_simp
theorem keep_v17_5 : StableHlo.after (hostOps0_5 (F := F)) W main_v17 = W main_v17 := by after_reads_simp
theorem keep_v17_6 : StableHlo.after (hostOps0_6 (F := F)) W main_v17 = W main_v17 := by after_reads_simp
theorem keep_v17_7 : StableHlo.after (hostOps0_7 (F := F)) W main_v17 = W main_v17 := by after_reads_simp
theorem keep_v34_3 : StableHlo.after (hostOps0_3 (F := F)) W main_v34 = W main_v34 := by after_reads_simp
theorem keep_v34_4 : StableHlo.after (hostOps0_4 (F := F)) W main_v34 = W main_v34 := by after_reads_simp
theorem keep_v34_5 : StableHlo.after (hostOps0_5 (F := F)) W main_v34 = W main_v34 := by after_reads_simp
theorem keep_v34_6 : StableHlo.after (hostOps0_6 (F := F)) W main_v34 = W main_v34 := by after_reads_simp
theorem keep_v34_7 : StableHlo.after (hostOps0_7 (F := F)) W main_v34 = W main_v34 := by after_reads_simp
theorem keep_v37_3 : StableHlo.after (hostOps0_3 (F := F)) W main_v37 = W main_v37 := by after_reads_simp
theorem keep_v37_4 : StableHlo.after (hostOps0_4 (F := F)) W main_v37 = W main_v37 := by after_reads_simp
theorem keep_v37_5 : StableHlo.after (hostOps0_5 (F := F)) W main_v37 = W main_v37 := by after_reads_simp
theorem keep_v37_6 : StableHlo.after (hostOps0_6 (F := F)) W main_v37 = W main_v37 := by after_reads_simp
theorem keep_v37_7 : StableHlo.after (hostOps0_7 (F := F)) W main_v37 = W main_v37 := by after_reads_simp
theorem keep_v37_8 : StableHlo.after (hostOps0_8 (F := F)) W main_v37 = W main_v37 := by after_reads_simp
theorem keep_v38_4 : StableHlo.after (hostOps0_4 (F := F)) W main_v38 = W main_v38 := by after_reads_simp
theorem keep_v38_5 : StableHlo.after (hostOps0_5 (F := F)) W main_v38 = W main_v38 := by after_reads_simp
theorem keep_v38_6 : StableHlo.after (hostOps0_6 (F := F)) W main_v38 = W main_v38 := by after_reads_simp
theorem keep_v38_7 : StableHlo.after (hostOps0_7 (F := F)) W main_v38 = W main_v38 := by after_reads_simp
theorem keep_v38_8 : StableHlo.after (hostOps0_8 (F := F)) W main_v38 = W main_v38 := by after_reads_simp
theorem keep_v38_9 : StableHlo.after (hostOps0_9 (F := F)) W main_v38 = W main_v38 := by after_reads_simp
theorem keep_v38_10 : StableHlo.after (hostOps0_10 (F := F)) W main_v38 = W main_v38 := by after_reads_simp
theorem keep_v39_6 : StableHlo.after (hostOps0_6 (F := F)) W main_v39 = W main_v39 := by after_reads_simp
theorem keep_v39_7 : StableHlo.after (hostOps0_7 (F := F)) W main_v39 = W main_v39 := by after_reads_simp
theorem keep_v39_8 : StableHlo.after (hostOps0_8 (F := F)) W main_v39 = W main_v39 := by after_reads_simp
theorem keep_v39_9 : StableHlo.after (hostOps0_9 (F := F)) W main_v39 = W main_v39 := by after_reads_simp
theorem keep_v39_10 : StableHlo.after (hostOps0_10 (F := F)) W main_v39 = W main_v39 := by after_reads_simp
theorem keep_v47_8 : StableHlo.after (hostOps0_8 (F := F)) W main_v47 = W main_v47 := by after_reads_simp
theorem keep_v47_9 : StableHlo.after (hostOps0_9 (F := F)) W main_v47 = W main_v47 := by after_reads_simp
theorem keep_v47_10 : StableHlo.after (hostOps0_10 (F := F)) W main_v47 = W main_v47 := by after_reads_simp
theorem keep_v55_10 : StableHlo.after (hostOps0_10 (F := F)) W main_v55 = W main_v55 := by after_reads_simp

/-- The host operations before the launch, in order. -/
abbrev hostAll : List (List (HloOp τ sig (Elt F))) :=
  [hostOps0, hostOps0_1, hostOps0_2, hostOps0_3, hostOps0_4, hostOps0_5, hostOps0_6, hostOps0_7, hostOps0_8, hostOps0_9, hostOps0_10]

/-- The contents after them, one stretch after the other. -/
def W0 : Valuation τ sig (Elt F) := StableHlo.after (hostOps0 (F := F)) W
def W1 : Valuation τ sig (Elt F) := StableHlo.after (hostOps0_1 (F := F)) (W0 W)
def W2 : Valuation τ sig (Elt F) := StableHlo.after (hostOps0_2 (F := F)) (W1 W)
def W3 : Valuation τ sig (Elt F) := StableHlo.after (hostOps0_3 (F := F)) (W2 W)
def W4 : Valuation τ sig (Elt F) := StableHlo.after (hostOps0_4 (F := F)) (W3 W)
def W5 : Valuation τ sig (Elt F) := StableHlo.after (hostOps0_5 (F := F)) (W4 W)
def W6 : Valuation τ sig (Elt F) := StableHlo.after (hostOps0_6 (F := F)) (W5 W)
def W7 : Valuation τ sig (Elt F) := StableHlo.after (hostOps0_7 (F := F)) (W6 W)
def W8 : Valuation τ sig (Elt F) := StableHlo.after (hostOps0_8 (F := F)) (W7 W)
def W9 : Valuation τ sig (Elt F) := StableHlo.after (hostOps0_9 (F := F)) (W8 W)
def W10 : Valuation τ sig (Elt F) := StableHlo.after (hostOps0_10 (F := F)) (W9 W)
theorem step_v18_1 : W1 W main_v18 = W0 W main_v18 := keep_v18_1 (W0 W)
theorem step_v9_1 : W1 W main_v9 = W0 W main_v9 := keep_v9_1 (W0 W)
theorem step_v9_2 : W2 W main_v9 = W1 W main_v9 := keep_v9_2 (W1 W)
theorem step_v9_3 : W3 W main_v9 = W2 W main_v9 := keep_v9_3 (W2 W)
theorem step_v9_4 : W4 W main_v9 = W3 W main_v9 := keep_v9_4 (W3 W)
theorem step_v9_5 : W5 W main_v9 = W4 W main_v9 := keep_v9_5 (W4 W)
theorem step_v17_1 : W1 W main_v17 = W0 W main_v17 := keep_v17_1 (W0 W)
theorem step_v17_2 : W2 W main_v17 = W1 W main_v17 := keep_v17_2 (W1 W)
theorem step_v17_3 : W3 W main_v17 = W2 W main_v17 := keep_v17_3 (W2 W)
theorem step_v17_4 : W4 W main_v17 = W3 W main_v17 := keep_v17_4 (W3 W)
theorem step_v17_5 : W5 W main_v17 = W4 W main_v17 := keep_v17_5 (W4 W)
theorem step_v17_6 : W6 W main_v17 = W5 W main_v17 := keep_v17_6 (W5 W)
theorem step_v17_7 : W7 W main_v17 = W6 W main_v17 := keep_v17_7 (W6 W)
theorem step_v34_3 : W3 W main_v34 = W2 W main_v34 := keep_v34_3 (W2 W)
theorem step_v34_4 : W4 W main_v34 = W3 W main_v34 := keep_v34_4 (W3 W)
theorem step_v34_5 : W5 W main_v34 = W4 W main_v34 := keep_v34_5 (W4 W)
theorem step_v34_6 : W6 W main_v34 = W5 W main_v34 := keep_v34_6 (W5 W)
theorem step_v34_7 : W7 W main_v34 = W6 W main_v34 := keep_v34_7 (W6 W)
theorem step_v37_3 : W3 W main_v37 = W2 W main_v37 := keep_v37_3 (W2 W)
theorem step_v37_4 : W4 W main_v37 = W3 W main_v37 := keep_v37_4 (W3 W)
theorem step_v37_5 : W5 W main_v37 = W4 W main_v37 := keep_v37_5 (W4 W)
theorem step_v37_6 : W6 W main_v37 = W5 W main_v37 := keep_v37_6 (W5 W)
theorem step_v37_7 : W7 W main_v37 = W6 W main_v37 := keep_v37_7 (W6 W)
theorem step_v37_8 : W8 W main_v37 = W7 W main_v37 := keep_v37_8 (W7 W)
theorem step_v38_4 : W4 W main_v38 = W3 W main_v38 := keep_v38_4 (W3 W)
theorem step_v38_5 : W5 W main_v38 = W4 W main_v38 := keep_v38_5 (W4 W)
theorem step_v38_6 : W6 W main_v38 = W5 W main_v38 := keep_v38_6 (W5 W)
theorem step_v38_7 : W7 W main_v38 = W6 W main_v38 := keep_v38_7 (W6 W)
theorem step_v38_8 : W8 W main_v38 = W7 W main_v38 := keep_v38_8 (W7 W)
theorem step_v38_9 : W9 W main_v38 = W8 W main_v38 := keep_v38_9 (W8 W)
theorem step_v38_10 : W10 W main_v38 = W9 W main_v38 := keep_v38_10 (W9 W)
theorem step_v39_6 : W6 W main_v39 = W5 W main_v39 := keep_v39_6 (W5 W)
theorem step_v39_7 : W7 W main_v39 = W6 W main_v39 := keep_v39_7 (W6 W)
theorem step_v39_8 : W8 W main_v39 = W7 W main_v39 := keep_v39_8 (W7 W)
theorem step_v39_9 : W9 W main_v39 = W8 W main_v39 := keep_v39_9 (W8 W)
theorem step_v39_10 : W10 W main_v39 = W9 W main_v39 := keep_v39_10 (W9 W)
theorem step_v47_8 : W8 W main_v47 = W7 W main_v47 := keep_v47_8 (W7 W)
theorem step_v47_9 : W9 W main_v47 = W8 W main_v47 := keep_v47_9 (W8 W)
theorem step_v47_10 : W10 W main_v47 = W9 W main_v47 := keep_v47_10 (W9 W)
theorem step_v55_10 : W10 W main_v55 = W9 W main_v55 := keep_v55_10 (W9 W)

theorem after_hostAll : StableHlo.after (hostAll (F := F)).flatten W = W10 W := by
  simp only [hostAll, List.flatten_cons, List.flatten_nil, StableHlo.after_append, List.append_nil]
  rfl

/-- The pair in slot `x`. -/
@[irreducible] def pickOf (W : Valuation τ sig (Elt F)) (x : Fin 12) : Fin 40 := Items.pick (offs W) (liveCount (liveArr W)) x.val

theorem W1_v18 : (W1 W main_v18 : S40.Idx → BitVec 1) = liveArr W := by
  rw [step_v18_1]; exact funext fun x => read_v18 W x

theorem W2_v34 (x : S12.Idx) : (W2 W main_v34 : S12.Idx → BitVec 32) x = BitVec.ofNat 32 (pickOf W (x 0)).val := by
  have h : ∀ k, (W1 W main_v20 : S40.Idx → BitVec 32) (Shape.Idx.ofFin k) = BitVec.ofNat 32 (Items.order (offs W) k).val := by
    intro k
    unfold W1
    rw [read_v20 (W0 W) (fun x => ~~~ (liveArr W x)) (funext fun x => read_v19 W x) k, orderBy_live]
  have e := read_v34 (W1 W) x (Items.order (offs W)) h
  refine Eq.trans (b := _) e ?_
  · unfold pickOf Items.pick
    exact congrArg (fun w => BitVec.ofNat 32 (Items.order (offs W)
      ⟨(Items.slot (liveCount w) (x 0).val).val, by have := (Items.slot (liveCount w) (x 0).val).isLt; omega⟩).val) (W1_v18 W)

theorem W2_v37 (x : S12.Idx) : (W2 W main_v37 : S12.Idx → BitVec 1) x
    = IntOp.cmpi .sge (BitVec.ofNat 32 (x 0).val) (liveCount (liveArr W)) := by
  refine (read_v37 (W1 W) x).trans ?_
  rw [W1_v18]

/-- The tile of slot `x`. -/
theorem tab_tile (x : S12.Idx) : (W10 W main_v38 : S12.Idx → BitVec 32) x = BitVec.ofNat 32 ((pickOf W (x 0)).val / 5) := by
  rw [step_v38_10, step_v38_9, step_v38_8, step_v38_7, step_v38_6, step_v38_5, step_v38_4]
  exact read_v38 (W2 W) x (pickOf W (x 0)) (W2_v34 W x) (read_c5 _ _)

/-- The domain of slot `x`. -/
theorem tab_dom (x : S12.Idx) : (W10 W main_v39 : S12.Idx → BitVec 32) x = BitVec.ofNat 32 ((pickOf W (x 0)).val % 5) := by
  rw [step_v39_10, step_v39_9, step_v39_8, step_v39_7, step_v39_6]
  refine read_v39 (W4 W) x (pickOf W (x 0)) ?_ (read_c6 _ _)
  rw [step_v34_4, step_v34_3]
  exact W2_v34 W x

/-- The first row of slot `x`. -/
theorem tab_lo (x : S12.Idx) : (W10 W main_v47 : S12.Idx → BitVec 32) x
    = Scalar.select (IntOp.cmpi .sge (BitVec.ofNat 32 (x 0).val) (liveCount (liveArr W))) 0#32 (Items.rowLo (offs W) (pickOf W (x 0))) := by
  rw [step_v47_10, step_v47_9, step_v47_8]
  refine (read_v47 (W6 W) x (read_c9 _ _)).trans ?_
  have h46 : (W6 W main_v46 : S12.Idx → BitVec 32) x = Items.rowLo (offs W) (pickOf W (x 0)) := by
    refine (read_v46 (W5 W) x (pickOf W (x 0)) ?_).trans ?_
    · rw [step_v34_5, step_v34_4, step_v34_3]; exact W2_v34 W x
    · rw [step_v9_5, step_v9_4, step_v9_3, step_v9_2, step_v9_1]; exact read_v9 W _
  rw [h46, step_v37_6, step_v37_5, step_v37_4, step_v37_3, W2_v37]

/-- The row after the last one of slot `x`. -/
theorem tab_hi (x : S12.Idx) : (W10 W main_v55 : S12.Idx → BitVec 32) x
    = Scalar.select (IntOp.cmpi .sge (BitVec.ofNat 32 (x 0).val) (liveCount (liveArr W))) 0#32 (Items.rowHi (offs W) (pickOf W (x 0))) := by
  rw [step_v55_10]
  refine (read_v55 (W8 W) x (read_c12 _ _)).trans ?_
  have h54 : (W8 W main_v54 : S12.Idx → BitVec 32) x = Items.rowHi (offs W) (pickOf W (x 0)) := by
    refine (read_v54 (W7 W) x (pickOf W (x 0)) ?_).trans ?_
    · rw [step_v34_7, step_v34_6, step_v34_5, step_v34_4, step_v34_3]; exact W2_v34 W x
    · rw [step_v17_7, step_v17_6, step_v17_5, step_v17_4, step_v17_3, step_v17_2, step_v17_1]; exact read_v17 W _
  rw [h54, step_v37_8, step_v37_7, step_v37_6, step_v37_5, step_v37_4, step_v37_3, W2_v37]

end Cert.KernelC.Gen
-- ==== Proof.CBitsEntry.lean ====
module

public import proofs.«01_k».proof.Proof.CBitsTables
public import Idealize.ShloMosaic.Lib.Pipeline.Frame
public import Idealize.ShloMosaic.Lib.Tactic

/-!
The memory as the launch finds it: the arguments are as they were, the two biases are reshaped, the four tables hold
what `Proof/CTables.lean` reads. Every table word names a block inside its array (a tile below 8, a domain below 5), so
the launch's condition on the tables holds whatever the offsets are.
-/

@[expose] public section

set_option maxRecDepth 16384

noncomputable section

namespace Cert.KernelC.Gen

open Cert.Shared Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

variable (m : (ℓ : Loc nD τ sig) → Buf (Elt F) ℓ) (ρ : Dev nD → PrngReg)

/-- What the host operations leave, from the launch memory. -/
abbrev V (c : Dev nD) (b : Ref sig .tc) : Buf (Elt F) ((c.tc : Thread nD τ).loc b) :=
  StableHlo.after (hostAll (F := F)).flatten (fun b => m (c, b)) b

theorem V_eq (c : Dev nD) (b : Ref sig .tc) : V m c b = W10 (fun b => m (c, b)) b :=
  congrFun (after_hostAll (fun b => m (c, b))) _

/-- The nine arguments. -/
abbrev argRefs : List (Ref sig .tc) := [main_arg0, main_arg1, main_arg2, main_arg3, main_arg4, main_arg5, main_arg6, main_arg7, main_arg8]

/-- No host operation writes an argument. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostAll, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => absurd (h ▸ hb) (by decide))))

/-- The tables at the launch (one core). -/
def pf : pre0.Contents (Elt F) := fun k => V m (0 : Dev nD) (pre0.ref k)

theorem devUniq (c : Dev nD) : c = 0 := Subsingleton.elim _ _

/-- The tile (table 0) at grid point `i`. -/
abbrev word0 (i : grid0.Coords) : BitVec 32 := (pf m).at 0 (Rect.unit (s := S12) (k0_off1 i) S1.size (k0_off1_inb i)) numel1_S1

/-- The domain (table 1) at grid point `i`. -/
abbrev word1 (i : grid0.Coords) : BitVec 32 := (pf m).at 1 (Rect.unit (s := S12) (k0_off1 i) S1.size (k0_off1_inb i)) numel1_S1

/-- The first row (table 2) at grid point `i`. -/
abbrev word2 (i : grid0.Coords) : BitVec 32 := (pf m).at 2 (Rect.unit (s := S12) (k0_off1 i) S1.size (k0_off1_inb i)) numel1_S1

/-- The last row (table 3) at grid point `i`. -/
abbrev word3 (i : grid0.Coords) : BitVec 32 := (pf m).at 3 (Rect.unit (s := S12) (k0_off1 i) S1.size (k0_off1_inb i)) numel1_S1

/-- The memory the launch starts from, as one valuation. -/
abbrev M0 : Valuation τ sig (Elt F) := fun b => m ((0 : Dev nD), b)

abbrev slotOf (i : grid0.Coords) : Fin 12 := (Rect.unit (s := S12) (k0_off1 i) S1.size (k0_off1_inb i)).emb (Shape.Idx.first (numel1_S1.symm ▸ Nat.one_pos)) 0

theorem word_tile (i : grid0.Coords) : word0 m i = BitVec.ofNat 32 ((pickOf (M0 m) (slotOf i)).val / 5) :=
  (congrFun (V_eq m 0 main_v38) _).trans (tab_tile (M0 m) _)

theorem word_dom (i : grid0.Coords) : word1 m i = BitVec.ofNat 32 ((pickOf (M0 m) (slotOf i)).val % 5) :=
  (congrFun (V_eq m 0 main_v39) _).trans (tab_dom (M0 m) _)

theorem pick_lt (x : Fin 12) : (pickOf (M0 m) x).val < 40 := (pickOf (M0 m) x).isLt

theorem tile_lt (i : grid0.Coords) : (word0 m i).toNat < 8 := by
  rw [word_tile, BitVec.toNat_ofNat]; have := pick_lt m (slotOf i); omega

theorem dom_lt (i : grid0.Coords) : (word1 m i).toNat < 5 := by
  rw [word_dom, BitVec.toNat_ofNat]; have := pick_lt m (slotOf i); omega

/-- The step a window of weights or codes is read at. -/
abbrev kidx (i : grid0.Coords) : BitVec 32 :=
  Scalar.select (Scalar.cmpi .sgt (word3 m i) (word2 m i)) (BitVec.ofNat 32 (i 2).val) 0#32

theorem kidx_lt (i : grid0.Coords) : (kidx m i).toNat < 1 := by
  have h2 : (i 2).val < 1 := (i 2).isLt
  unfold kidx Scalar.select
  split
  · rw [BitVec.toNat_ofNat]; omega
  · decide

theorem tr0 (i : grid0.Coords) : cc0_transform_0 k0_off1_inb numel1_S1 (pf m) i = ![(word0 m i).toNat, (kidx m i).toNat] := rfl
theorem tr1 (i : grid0.Coords) : cc0_transform_1 k0_off1_inb numel1_S1 (pf m) i = ![(word0 m i).toNat, 0] := rfl
theorem tr2 (i : grid0.Coords) : cc0_transform_2 k0_off1_inb numel1_S1 (pf m) i = ![(kidx m i).toNat, (BitVec.ofNat 32 (i 0).val).toNat] := rfl
theorem tr3 (i : grid0.Coords) : cc0_transform_3 k0_off1_inb numel1_S1 (pf m) i = ![(kidx m i).toNat, (BitVec.ofNat 32 (i 0).val).toNat] := rfl
theorem tr4 (i : grid0.Coords) : cc0_transform_4 k0_off1_inb numel1_S1 (pf m) i = ![(word1 m i).toNat, (kidx m i).toNat, (BitVec.ofNat 32 (i 0).val).toNat] := rfl
theorem tr5 (i : grid0.Coords) : cc0_transform_5 k0_off1_inb numel1_S1 (pf m) i = ![(word1 m i).toNat, (kidx m i).toNat, (BitVec.ofNat 32 (i 0).val).toNat] := rfl
theorem tr7 (i : grid0.Coords) : cc0_transform_7 k0_off1_inb numel1_S1 (pf m) i = ![(word1 m i).toNat, 0, (BitVec.ofNat 32 (i 0).val).toNat] := rfl
theorem tr8 (i : grid0.Coords) : cc0_transform_8 k0_off1_inb numel1_S1 (pf m) i = ![(word0 m i).toNat, (BitVec.ofNat 32 (i 0).val).toNat] := rfl

theorem j_lt (i : grid0.Coords) : (BitVec.ofNat 32 (i 0).val).toNat < 1 := by
  have h0 : (i 0).val < 1 := (i 0).isLt
  rw [BitVec.toNat_ofNat]; omega

theorem ok : ok0 (pf m) := by
  unfold ok0
  refine ⟨fun i => ?_, fun i => ?_, fun i => ?_, fun i => ?_, fun i => ?_, fun i => ?_, fun i => ?_, fun i => ?_⟩ <;>
    have ht := tile_lt m i <;> have hd := dom_lt m i <;> have hk := kidx_lt m i <;> have hj := j_lt i
  · rw [tr0]; refine ⟨?_, .inr (whole_words2 _ (by decide))⟩
    intro a; fin_cases a <;> simp <;> omega
  · rw [tr1]; refine ⟨?_, .inl rfl⟩
    intro a; fin_cases a <;> simp <;> omega
  · rw [tr2]; refine ⟨?_, .inr (whole_words2 _ (by decide))⟩
    intro a; fin_cases a <;> simp <;> omega
  · rw [tr3]; refine ⟨?_, .inl rfl⟩
    intro a; fin_cases a <;> simp <;> omega
  · rw [tr4]; refine ⟨?_, .inr (whole_words3 _ (by decide))⟩
    intro a; fin_cases a <;> simp <;> omega
  · rw [tr5]; refine ⟨?_, .inl rfl⟩
    intro a; fin_cases a <;> simp <;> omega
  · rw [tr7]; refine ⟨?_, .inl rfl⟩
    intro a; fin_cases a <;> simp <;> omega
  · rw [tr8]; refine ⟨?_, .inr (whole_words2 _ (by decide))⟩
    intro a; fin_cases a <;> simp <;> omega

/-- The tables, admissible. -/
def adm : (pcfg0 (F := F)).Adm := ⟨pf m, ok m⟩

end Cert.KernelC.Gen

end
-- ==== Proof.CBitsRun.lean ====
module

public import proofs.«01_k».proof.Proof.CBitsBody
public import proofs.«01_k».proof.Proof.CBitsEntry
public import Idealize.ShloMosaic.Lib.Claim

/-!
The run of the launch. At each grid point the accumulator and the output's staging buffer change as `accNext` and
`outNext` (`Proof/CBody.lean`) say, with the point's blocks of the inputs; every input block is left as it was.
-/

@[expose] public section

set_option maxRecDepth 16384

noncomputable section

namespace Cert.KernelC.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf ΦA ΦT)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline at the tables the host computed. -/
abbrev cfgM : Cfg sig Λ₀ := cfg0 (adm m)

/-- The block of window `w` at point `t`, read off the array. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The block of window 0, at its shape. -/
abbrev blk0 (c : Dev nD) (t : Fin (cfgM m).N) : Vec F S512x1152 .fp8e4m3 := iblk m c 0 t

/-- The block of window 1, at its shape. -/
abbrev blk1 (c : Dev nD) (t : Fin (cfgM m).N) : Vec F S512x1 .f32 := iblk m c 1 t

/-- The block of window 2, at its shape. -/
abbrev blk2 (c : Dev nD) (t : Fin (cfgM m).N) : Vec F S1152x256 .fp8e4m3 := iblk m c 2 t

/-- The block of window 3, at its shape. -/
abbrev blk3 (c : Dev nD) (t : Fin (cfgM m).N) : Vec F S18x256 .f32 := iblk m c 3 t

/-- The block of window 4, at its shape. -/
abbrev blk4 (c : Dev nD) (t : Fin (cfgM m).N) : Vec F S1x1152x256 .fp8e4m3 := iblk m c 4 t

/-- The block of window 5, at its shape. -/
abbrev blk5 (c : Dev nD) (t : Fin (cfgM m).N) : Vec F S1x18x256 .f32 := iblk m c 5 t

/-- The block of window 6, at its shape. -/
abbrev blk6 (c : Dev nD) (t : Fin (cfgM m).N) : Vec F S1x256 .f32 := iblk m c 6 t

/-- The block of window 7, at its shape. -/
abbrev blk7 (c : Dev nD) (t : Fin (cfgM m).N) : Vec F S1x1x256 .f32 := iblk m c 7 t

/-- The accumulator after point `t`, from what it held. -/
def accAfter (c : Dev nD) (t : Fin (cfgM m).N) (g : Vec F S512x256 .f32) : Vec F S512x256 .f32 :=
  accNext (word2 m (grid0.coords t)) (word3 m (grid0.coords t)) (blk0 m c t) (blk2 m c t) (blk3 m c t) (blk4 m c t) (blk5 m c t) g

/-- The output's staging buffer after point `t`, from what it (`Y`) and the accumulator (`g`) held. -/
def outAfter (c : Dev nD) (t : Fin (cfgM m).N) (Y : Vec F S512x256 .bf16) (g : Vec F S512x256 .f32) : Vec F S512x256 .bf16 :=
  outNext (word2 m (grid0.coords t)) (word3 m (grid0.coords t)) (word0 m (grid0.coords t)) (blk0 m c t) (blk1 m c t) (blk2 m c t) (blk3 m c t) (blk4 m c t) (blk5 m c t) (blk6 m c t) (blk7 m c t) Y g

/-- What the accumulator may hold before point `n`. -/
def AccP (c : Dev nD) : ℕ → Vec F S512x256 .f32 → Prop
  | 0, _ => True
  | n + 1, f => ∃ g, AccP c n g ∧ ∀ h : n < (cfgM m).N, f = accAfter m c ⟨n, h⟩ g

theorem AccP_zero (c : Dev nD) (f : Vec F S512x256 .f32) : AccP m c 0 f := trivial

theorem AccP_succ (c : Dev nD) (t : Fin (cfgM m).N) (g : Vec F S512x256 .f32) (h : AccP m c t.val g) : AccP m c (t.val + 1) (accAfter m c t g) :=
  ⟨g, h, fun _ => rfl⟩

/-- The tables' share the body reads from, and the accumulator at what it may hold. -/
def Inv (c : Dev nD) (n : ℕ) : sProp 𝕄 :=
  iprop(owns (c : Thread nD τ) (Memref.whole main_v38) fullShare.right (pf m 0) ∗ owns (c : Thread nD τ) (Memref.whole main_v39) fullShare.right (pf m 1)
    ∗ owns (c : Thread nD τ) (Memref.whole main_v47) fullShare.right (pf m 2) ∗ owns (c : Thread nD τ) (Memref.whole main_v55) fullShare.right (pf m 3)
    ∗ (∃ r, prngReg c r) ∗ ∃ g : Vec F S512x256 .f32, ⌜AccP m c n g⌝ ∗ owns (c : Thread nD τ) (Memref.whole cc0_scratch0) fullShare g)

/-- The proof's data: inputs are left as found; the output's buffer is `outAfter` of what was found. -/
def rdat (c : Dev nD) : RDat τ (Elt F) Unit ℕ (UR sig nD τ) ℕ (cfgM m) c where
  A w := V m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun t Y X => ∃ g, AccP m c t.val g ∧ X = outAfter m c t Y g
    | ⟨_ + 9, h⟩ => absurd h (Nat.not_lt.2 (Nat.le_add_left _ _))
  Φ t := Inv m c t.val
  q _ := fullShare
  owed _ := 0

theorem A_eq (c : Dev nD) (w : Fin (cfgM m).W) : (rdat m c).A w = V m c (Pipeline.arrRef spec0 w) := rfl

theorem Φ_eq (c : Dev nD) (n : Fin ((cfgM m).N + 1)) : (rdat m c).Φ n = Inv m c n.val := rfl

theorem found0 (c : Dev nD) (t : Fin (cfgM m).N) (Y) (h : (rdat m c).Finds 0 t Y) : Y = blk0 m c t := by
  obtain ⟨d, rfl⟩ := (rdat m c).finds_in_eq_fetched 0 rfl (fun _ _ _ => rfl) (fun _ _ _ h => h) t Y h
  unfold RDat.fetched RDat.blockOf blk0 iblk; rw [A_eq]; try rfl

theorem found1 (c : Dev nD) (t : Fin (cfgM m).N) (Y) (h : (rdat m c).Finds 1 t Y) : Y = blk1 m c t := by
  obtain ⟨d, rfl⟩ := (rdat m c).finds_in_eq_fetched 1 rfl (fun _ _ _ => rfl) (fun _ _ _ h => h) t Y h
  unfold RDat.fetched RDat.blockOf blk1 iblk; rw [A_eq]; try rfl

theorem found2 (c : Dev nD) (t : Fin (cfgM m).N) (Y) (h : (rdat m c).Finds 2 t Y) : Y = blk2 m c t := by
  obtain ⟨d, rfl⟩ := (rdat m c).finds_in_eq_fetched 2 rfl (fun _ _ _ => rfl) (fun _ _ _ h => h) t Y h
  unfold RDat.fetched RDat.blockOf blk2 iblk; rw [A_eq]; try rfl

theorem found3 (c : Dev nD) (t : Fin (cfgM m).N) (Y) (h : (rdat m c).Finds 3 t Y) : Y = blk3 m c t := by
  obtain ⟨d, rfl⟩ := (rdat m c).finds_in_eq_fetched 3 rfl (fun _ _ _ => rfl) (fun _ _ _ h => h) t Y h
  unfold RDat.fetched RDat.blockOf blk3 iblk; rw [A_eq]; try rfl

theorem found4 (c : Dev nD) (t : Fin (cfgM m).N) (Y) (h : (rdat m c).Finds 4 t Y) : Y = blk4 m c t := by
  obtain ⟨d, rfl⟩ := (rdat m c).finds_in_eq_fetched 4 rfl (fun _ _ _ => rfl) (fun _ _ _ h => h) t Y h
  unfold RDat.fetched RDat.blockOf blk4 iblk; rw [A_eq]; try rfl

theorem found5 (c : Dev nD) (t : Fin (cfgM m).N) (Y) (h : (rdat m c).Finds 5 t Y) : Y = blk5 m c t := by
  obtain ⟨d, rfl⟩ := (rdat m c).finds_in_eq_fetched 5 rfl (fun _ _ _ => rfl) (fun _ _ _ h => h) t Y h
  unfold RDat.fetched RDat.blockOf blk5 iblk; rw [A_eq]; try rfl

theorem found6 (c : Dev nD) (t : Fin (cfgM m).N) (Y) (h : (rdat m c).Finds 6 t Y) : Y = blk6 m c t := by
  obtain ⟨d, rfl⟩ := (rdat m c).finds_in_eq_fetched 6 rfl (fun _ _ _ => rfl) (fun _ _ _ h => h) t Y h
  unfold RDat.fetched RDat.blockOf blk6 iblk; rw [A_eq]; try rfl

theorem found7 (c : Dev nD) (t : Fin (cfgM m).N) (Y) (h : (rdat m c).Finds 7 t Y) : Y = blk7 m c t := by
  obtain ⟨d, rfl⟩ := (rdat m c).finds_in_eq_fetched 7 rfl (fun _ _ _ => rfl) (fun _ _ _ h => h) t Y h
  unfold RDat.fetched RDat.blockOf blk7 iblk; rw [A_eq]; try rfl

theorem defs₀_row (c : Dev nD) (t : Fin (cfgM m).N) :
    defs₀ (F := F) .tc (cfgM m).body ((cfgM m).bodyArgs t ((cfgM m).slots t))
      = cc0_star3 (grid0.coords t) (Memref.whole main_v38) (Memref.isWhole_whole _) (Memref.whole main_v39) (Memref.isWhole_whole _) (Memref.whole main_v47) (Memref.isWhole_whole _) (Memref.whole main_v55) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (Memref.whole cc0_scratch0) (Memref.isWhole_whole _) := by
  unfold defs₀; rw [Defs.onTc_tc]

set_option maxHeartbeats 2000000 in
theorem sound_body (c : Dev nD) (t : Fin (cfgM m).N) (Y8 : Vec F S512x256 .bf16) :
    iprop(Inv m c t.val ∗ (rdat m c).owesAt () t.castSucc
        ∗ owns (c : Thread nD τ) (spec0_0.stage ((cfgM m).slots t 0)) fullShare (blk0 m c t)
        ∗ owns (c : Thread nD τ) (spec0_1.stage ((cfgM m).slots t 1)) fullShare (blk1 m c t)
        ∗ owns (c : Thread nD τ) (spec0_2.stage ((cfgM m).slots t 2)) fullShare (blk2 m c t)
        ∗ owns (c : Thread nD τ) (spec0_3.stage ((cfgM m).slots t 3)) fullShare (blk3 m c t)
        ∗ owns (c : Thread nD τ) (spec0_4.stage ((cfgM m).slots t 4)) fullShare (blk4 m c t)
        ∗ owns (c : Thread nD τ) (spec0_5.stage ((cfgM m).slots t 5)) fullShare (blk5 m c t)
        ∗ owns (c : Thread nD τ) (spec0_6.stage ((cfgM m).slots t 6)) fullShare (blk6 m c t)
        ∗ owns (c : Thread nD τ) (spec0_7.stage ((cfgM m).slots t 7)) fullShare (blk7 m c t)
        ∗ owns (c : Thread nD τ) (spec0_8.stage ((cfgM m).slots t 8)) fullShare Y8)
      ⊢ wp frame (wpE (defs₀ (F := F)) Variants.none c none) Set.univ (cc0_star3 (grid0.coords t) (Memref.whole main_v38) (Memref.isWhole_whole _) (Memref.whole main_v39) (Memref.isWhole_whole _) (Memref.whole main_v47) (Memref.isWhole_whole _) (Memref.whole main_v55) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (Memref.whole cc0_scratch0) (Memref.isWhole_whole _)) fun _ =>
        iprop(Inv m c (t.val + 1) ∗ (rdat m c).owesAt () t.succ
          ∗ (∃ X, ⌜X = blk0 m c t⌝ ∗ owns (c : Thread nD τ) (spec0_0.stage ((cfgM m).slots t 0)) fullShare X)
          ∗ (∃ X, ⌜X = blk1 m c t⌝ ∗ owns (c : Thread nD τ) (spec0_1.stage ((cfgM m).slots t 1)) fullShare X)
          ∗ (∃ X, ⌜X = blk2 m c t⌝ ∗ owns (c : Thread nD τ) (spec0_2.stage ((cfgM m).slots t 2)) fullShare X)
          ∗ (∃ X, ⌜X = blk3 m c t⌝ ∗ owns (c : Thread nD τ) (spec0_3.stage ((cfgM m).slots t 3)) fullShare X)
          ∗ (∃ X, ⌜X = blk4 m c t⌝ ∗ owns (c : Thread nD τ) (spec0_4.stage ((cfgM m).slots t 4)) fullShare X)
          ∗ (∃ X, ⌜X = blk5 m c t⌝ ∗ owns (c : Thread nD τ) (spec0_5.stage ((cfgM m).slots t 5)) fullShare X)
          ∗ (∃ X, ⌜X = blk6 m c t⌝ ∗ owns (c : Thread nD τ) (spec0_6.stage ((cfgM m).slots t 6)) fullShare X)
          ∗ (∃ X, ⌜X = blk7 m c t⌝ ∗ owns (c : Thread nD τ) (spec0_7.stage ((cfgM m).slots t 7)) fullShare X)
          ∗ ∃ X, ⌜∃ g, AccP m c t.val g ∧ X = outAfter m c t Y8 g⌝ ∗ owns (c : Thread nD τ) (spec0_8.stage ((cfgM m).slots t 8)) fullShare X) := by
  unfold Inv
  iintro ⟨⟨T0, T1, T2, T3, Hp, %g, %hg, Hs⟩, Ho, B0, B1, B2, B3, B4, B5, B6, B7, B8⟩
  iapply (body_step c (grid0.coords t) fullShare.right)
  isplitl [T0]; · iexact T0
  isplitl [T1]; · iexact T1
  isplitl [T2]; · iexact T2
  isplitl [T3]; · iexact T3
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [Hs]; · iexact Hs
  iintro ⟨T0, T1, T2, T3, B0, B1, B2, B3, B4, B5, B6, B7, B8, Hs⟩
  isplitl [T0 T1 T2 T3 Hp Hs]
  · isplitl [T0]; · iexact T0
    isplitl [T1]; · iexact T1
    isplitl [T2]; · iexact T2
    isplitl [T3]; · iexact T3
    isplitl [Hp]; · iexact Hp
    iexists _; isplitr; rotate_left
    · iexact Hs
    · ipureintro; exact AccP_succ m c t g hg
  isplitl [Ho]; · iexact Ho
  isplitl [B0]
  · iexists _; isplitr; rotate_left
    · iexact B0
    · ipureintro; rfl
  isplitl [B1]
  · iexists _; isplitr; rotate_left
    · iexact B1
    · ipureintro; rfl
  isplitl [B2]
  · iexists _; isplitr; rotate_left
    · iexact B2
    · ipureintro; rfl
  isplitl [B3]
  · iexists _; isplitr; rotate_left
    · iexact B3
    · ipureintro; rfl
  isplitl [B4]
  · iexists _; isplitr; rotate_left
    · iexact B4
    · ipureintro; rfl
  isplitl [B5]
  · iexists _; isplitr; rotate_left
    · iexact B5
    · ipureintro; rfl
  isplitl [B6]
  · iexists _; isplitr; rotate_left
    · iexact B6
    · ipureintro; rfl
  isplitl [B7]
  · iexists _; isplitr; rotate_left
    · iexact B7
    · ipureintro; rfl
  iexists _; isplitr; rotate_left
  · iexact B8
  · ipureintro; exact ⟨g, hg, rfl⟩

theorem body_obligation (c : Dev nD) : (rdat m c).BodyObligation (defs₀ (F := F)) Variants.none () Set.univ := fun t Y hY => by
  have h0 := found0 m c t _ (hY 0)
  have h1 := found1 m c t _ (hY 1)
  have h2 := found2 m c t _ (hY 2)
  have h3 := found3 m c t _ (hY 3)
  have h4 := found4 m c t _ (hY 4)
  have h5 := found5 m c t _ (hY 5)
  have h6 := found6 m c t _ (hY 6)
  have h7 := found7 m c t _ (hY 7)
  rw [bigSep_W0, bigSep_W0, defs₀_row m c t, h0, h1, h2, h3, h4, h5, h6, h7]
  have e1 : (rdat m c).Φ t.castSucc = Inv m c t.val := by rw [Φ_eq, Fin.val_castSucc]
  have e2 : (rdat m c).Φ t.succ = Inv m c (t.val + 1) := by rw [Φ_eq, Fin.val_succ]
  rw [e1, e2]
  refine triple_restated (sound_body m c t (Y 8)) rfl ?_ fun _ => ?_
  · iintro ⟨Hi, Ho, B0, B1, B2, B3, B4, B5, B6, B7, B8⟩
    isplitl [Hi]; · iexact Hi
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  · iintro ⟨Hi, Ho, B0, B1, B2, B3, B4, B5, B6, B7, B8⟩
    isplitl [Hi]; · iexact Hi
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8

end Cert.KernelC.Gen

end
-- ==== Proof.CBitsFrame.lean ====
module

public import proofs.«01_k».proof.Proof.CBitsRun

/-!
The launch: the host operations, then the pipeline; the machine stops with every counter at zero and every argument as
it was.
-/

@[expose] public section

set_option maxRecDepth 16384

noncomputable section

namespace Cert.KernelC.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf ΦA ΦT)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables the launch runs at. -/
abbrev Ad : (p : Fin 1) → (pcfgs (F := F) p).Adm := fun _ => adm m

/-- Owning a whole buffer is holding it at its contents. -/
theorem owns_of_points {sp : Space} {sh : Shape} {e : EltTy} (c : Dev nD) (r : Memref sig .tc sp sh e) (hr : r.view.set = Finset.univ) (q : PosShare TreeShare) (f : Buf (Elt F) (r.view.loc (c : Thread nD τ))) :
    (iprop((r.view.loc (c : Thread nD τ)) ↦{q} f) : sProp 𝕄) ⊢ owns (c : Thread nD τ) r q (r.view.read (Elt F) f) := by
  unfold owns
  iintro H
  iexists f
  isplitr
  · ipureintro; rfl
  · rw [hr]; iexact H

theorem hostAll_sub : (hostAll (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

theorem hostAll_fresh : (hostAll (F := F)).Forall fun ops => ops.Forall fun op => op.fresh = ∅ := by
  simp only [hostAll, List.Forall]
  repeat' constructor

theorem hmain (𝒱₀ : Variants) : Pipeline.HMainP (Ix := Unit) (Name := ℕ) (U := UR sig nD τ) (Lvl := ℕ) (pcfgs (F := F)) 0 defs₀ 𝒱₀ m main (V m) :=
  Pipeline.hmainP_prefixes (pcfgs (F := F)) 0 defs₀ 𝒱₀ m main hostAll hostAll_sub hostAll_fresh (fun c => main_chain c)

/-- The tables the body reads from, one by one. -/
theorem tables_owns (c : Dev nD) (q : PosShare TreeShare) (v : pre0.Contents (Elt F)) :
    (Pipeline.prefHeld pre0 c (fun _ => q) v : sProp 𝕄) ⊢ iprop(owns (c : Thread nD τ) (Memref.whole main_v38) q (v 0)
      ∗ owns (c : Thread nD τ) (Memref.whole main_v39) q (v 1)
      ∗ owns (c : Thread nD τ) (Memref.whole main_v47) q (v 2)
      ∗ owns (c : Thread nD τ) (Memref.whole main_v55) q (v 3)) := by
  unfold Pipeline.prefHeld
  rw [show (Finset.univ : Finset (Fin 4)) = insert 0 (insert 1 (insert 2 {3})) from by decide, bigSep_insert (by decide), bigSep_insert (by decide), bigSep_insert (by decide), bigSep_singleton]
  refine BI.sep_mono (owns_of_points c (Memref.whole main_v38) (View.set_whole _) q (v 0)) (BI.sep_mono (owns_of_points c (Memref.whole main_v39) (View.set_whole _) q (v 1))
    (BI.sep_mono (owns_of_points c (Memref.whole main_v47) (View.set_whole _) q (v 2)) (owns_of_points c (Memref.whole main_v55) (View.set_whole _) q (v 3))))

theorem adm_val : (adm m).1 = pf m := rfl

theorem hin (c : Dev nD) : iprop(ΦA (U := UR sig nD τ) spec0 c ∗ ΦT pre0 (adm m).1 c) ⊢ (rdat m c).Φ 0 := by
  rw [Φ_eq, adm_val]
  unfold Inv ΦA ΦT
  rw [scopedRest0_eq]
  iintro ⟨⟨⟨%f, Hs⟩, Hp⟩, HT⟩
  ihave HT := tables_owns c fullShare.right (pf m) $$ HT
  icases HT with ⟨T0, T1, T2, T3⟩
  isplitl [T0]; · iexact T0
  isplitl [T1]; · iexact T1
  isplitl [T2]; · iexact T2
  isplitl [T3]; · iexact T3
  isplitl [Hp]; · iexact Hp
  iexists f; isplitr
  · ipureintro; exact AccP_zero m c f
  · iapply (owns_of_points c (Memref.whole cc0_scratch0) (View.set_whole _) fullShare f); iexact Hs

theorem hout (c : Dev nD) : (rdat m c).Φ (Fin.last (cfgM m).N) ⊢ ΦA (U := UR sig nD τ) spec0 c := by
  rw [Φ_eq]; unfold Inv ΦA
  rw [scopedRest0_eq]
  unfold owns
  iintro ⟨-, -, -, -, Hp, %g, -, %f, -, Hs⟩
  isplitl [Hs]
  · iexists f; rw [View.set_whole]; iexact Hs
  · iexact Hp

set_option maxHeartbeats 1000000 in
set_option backward.isDefEq.respectTransparency.types false in
/-- The launch: every run ends, with the output's array at what the write-backs can leave and every other buffer as it
    was, every counter at zero. -/
theorem run_main_quiescent : θ_run defs (onTc (τ := τ) (main (F := F))) (s₀ m ρ)
    (fun r => RDat.FramePost (cfgM m) (rdat m) (V m) r ∧ r.2.sem = fun _ => 0) :=
  RDat.θ_run_frameP_track (Q' := _) (pcfgs (F := F)) (Ad m) (0 : Fin 1) launch0 defs₀ Variants.none (rdat m) m ρ main
    (hbody := body_obligation m) (hshare := fun c w => ite_self _) (howed := fun _ _ => rfl) (V := V m)
    (hmain := hmain m Variants.none) (hA := A_eq m) (hpf := fun c k => by rw [devUniq c]; rfl)
    (hin := hin m) (hout := hout m)

/-- The frame: every run ends, with every argument as it was and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ (h : _ ∧ _) => ⟨fun c => ⟨((h.1 c).2 main_arg0 (Pipeline.mem_restRefs_of main_arg0 (by decide) (show ∀ w : Fin 9, (spec0 w).arr.view.ref ≠ main_arg0 by decide))).trans (V_arg m c main_arg0 (by decide)),
      (h.1.arr_in c 0 rfl).trans ((A_eq m c 0).trans (V_arg m c main_arg1 (by decide))),
      (h.1.arr_in c 1 rfl).trans ((A_eq m c 1).trans (V_arg m c main_arg2 (by decide))),
      (h.1.arr_in c 2 rfl).trans ((A_eq m c 2).trans (V_arg m c main_arg3 (by decide))),
      (h.1.arr_in c 3 rfl).trans ((A_eq m c 3).trans (V_arg m c main_arg4 (by decide))),
      (h.1.arr_in c 4 rfl).trans ((A_eq m c 4).trans (V_arg m c main_arg5 (by decide))),
      (h.1.arr_in c 5 rfl).trans ((A_eq m c 5).trans (V_arg m c main_arg6 (by decide))),
      ((h.1 c).2 main_arg7 (Pipeline.mem_restRefs_of main_arg7 (by decide) (show ∀ w : Fin 9, (spec0 w).arr.view.ref ≠ main_arg7 by decide))).trans (V_arg m c main_arg7 (by decide)),
      ((h.1 c).2 main_arg8 (Pipeline.mem_restRefs_of main_arg8 (by decide) (show ∀ w : Fin 9, (spec0 w).arr.view.ref ≠ main_arg8 by decide))).trans (V_arg m c main_arg8 (by decide))⟩, h.2⟩) (run_main_quiescent m ρ)

end Cert.KernelC.Gen

end
-- ==== Proof.CBody.lean ====
module

public import proofs.«01_k».proof.Proof.Gen.KernelCIdeal.Launch
public import proofs.«01_k».proof.Proof.Gen.KernelCIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelCIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a twelve-word table the body reads at grid point `i`. -/
abbrev wordIdx (i : grid0.Coords) : S12.Idx :=
  (Rect.unit (s := S12) (k0_off1 i) S1.size (k0_off1_inb i)).emb (Shape.Idx.first (numel1_S1.symm ▸ Nat.one_pos))

/-- The grid's last axis has one step: it is the first, -/
theorem first_step (i : grid0.Coords) :
    (Scalar.cmpi .ne (Scalar.extui (Scalar.cmpi .eq (BitVec.ofNat 32 (i 2).val) 0#32) : BitVec 32) 0#32 = 1#1) = True := by
  have h : ∀ n : Fin 1, (Scalar.cmpi .ne (Scalar.extui (Scalar.cmpi .eq (BitVec.ofNat 32 n.val) 0#32) : BitVec 32) 0#32 = 1#1) = True := by
    decide
  exact h (i 2)

/-- not a later one, -/
theorem later_step (i : grid0.Coords) :
    (Scalar.cmpi .ne (Scalar.extui (Scalar.cmpi .sgt (BitVec.ofNat 32 (i 2).val) 0#32) : BitVec 32) 0#32 = 1#1) = False := by
  have h : ∀ n : Fin 1, (Scalar.cmpi .ne (Scalar.extui (Scalar.cmpi .sgt (BitVec.ofNat 32 n.val) 0#32) : BitVec 32) 0#32 = 1#1) = False := by
    decide
  exact h (i 2)

/-- and the last. -/
theorem last_step (i : grid0.Coords) : (k0_cond4 i = 1#1) = True := first_step i

/-- What the accumulator holds after the body at point `i`: at an item with no rows what it held; at a live item the
    product. -/
def accNext (lo hi : BitVec 32) (x7 : Vec F S512x1152 .fp8e4m3) (x9 : Vec F S1152x256 .fp8e4m3)
    (x10 : Vec F S18x256 .f32) (x11 : Vec F S1x1152x256 .fp8e4m3) (x12 : Vec F S1x18x256 .f32) (acc : Vec F S512x256 .f32) :
    Vec F S512x256 .f32 :=
  if k0_cond1 lo hi = 1#1 then
    k0_pay2 x10 x12 x9 x11 x7
  else acc

/-- What the output block holds after the body at point `i`: at a live item the item's rows are replaced,
    at an item with no rows it is what it was. -/
def outNext (lo hi : BitVec 32) (tile : BitVec 32) (x7 : Vec F S512x1152 .fp8e4m3) (x8 : Vec F S512x1 .f32)
    (x9 : Vec F S1152x256 .fp8e4m3) (x10 : Vec F S18x256 .f32) (x11 : Vec F S1x1152x256 .fp8e4m3) (x12 : Vec F S1x18x256 .f32)
    (x13 : Vec F S1x256 .f32) (x14 : Vec F S1x1x256 .f32) (out : Vec F S512x256 .bf16) (acc : Vec F S512x256 .f32) :
    Vec F S512x256 .bf16 :=
  if k0_cond1 lo hi = 1#1 then
    k0_pay4 lo hi (accNext lo hi x7 x9 x10 x11 x12 acc) x8 x13 x14 tile out
  else out

set_option maxHeartbeats 8000000 in
/-- The body at grid point `i` on whole memrefs: the tables and the inputs keep their contents, the accumulator and the
    output block step to `accNext` and `outNext`. -/
theorem body_step (c : Dev nD) (i : grid0.Coords) (q : PosShare TreeShare) (arg3 : Memref sig .tc .smem S12 .i32) (harg3 : arg3.IsWhole) (arg4 : Memref sig .tc .smem S12 .i32) (harg4 : arg4.IsWhole) (arg5 : Memref sig .tc .smem S12 .i32) (harg5 : arg5.IsWhole) (arg6 : Memref sig .tc .smem S12 .i32) (harg6 : arg6.IsWhole) (arg7 : Memref sig .tc .vmem S512x1152 .fp8e4m3) (harg7 : arg7.IsWhole) (arg8 : Memref sig .tc .vmem S512x1 .f32) (harg8 : arg8.IsWhole) (arg9 : Memref sig .tc .vmem S1152x256 .fp8e4m3) (harg9 : arg9.IsWhole) (arg10 : Memref sig .tc .vmem S18x256 .f32) (harg10 : arg10.IsWhole) (arg11 : Memref sig .tc .vmem S1x1152x256 .fp8e4m3) (harg11 : arg11.IsWhole) (arg12 : Memref sig .tc .vmem S1x18x256 .f32) (harg12 : arg12.IsWhole) (arg13 : Memref sig .tc .vmem S1x256 .f32) (harg13 : arg13.IsWhole) (arg14 : Memref sig .tc .vmem S1x1x256 .f32) (harg14 : arg14.IsWhole) (arg15 : Memref sig .tc .vmem S512x256 .bf16) (harg15 : arg15.IsWhole) (arg16 : Memref sig .tc .vmem S512x256 .f32) (harg16 : arg16.IsWhole)
    (x3 : Vec F S12 .i32) (x4 : Vec F S12 .i32) (x5 : Vec F S12 .i32) (x6 : Vec F S12 .i32) (x7 : Vec F S512x1152 .fp8e4m3) (x8 : Vec F S512x1 .f32) (x9 : Vec F S1152x256 .fp8e4m3) (x10 : Vec F S18x256 .f32) (x11 : Vec F S1x1152x256 .fp8e4m3) (x12 : Vec F S1x18x256 .f32) (x13 : Vec F S1x256 .f32) (x14 : Vec F S1x1x256 .f32) (x15 : Vec F S512x256 .bf16) (x16 : Vec F S512x256 .f32)
    (E : Set ℕ) (K : PUnit → sProp 𝕄) :
    iprop(owns (c : Thread nD τ) arg3 q x3 ∗ owns (c : Thread nD τ) arg4 q x4 ∗ owns (c : Thread nD τ) arg5 q x5 ∗ owns (c : Thread nD τ) arg6 q x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg3 q x3 ∗ owns (c : Thread nD τ) arg4 q x4 ∗ owns (c : Thread nD τ) arg5 q x5 ∗ owns (c : Thread nD τ) arg6 q x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (outNext (x5 (wordIdx i)) (x6 (wordIdx i)) (x3 (wordIdx i)) x7 x8 x9 x10 x11 x12 x13 x14 x15 x16) ∗ owns (c : Thread nD τ) arg16 fullShare (accNext (x5 (wordIdx i)) (x6 (wordIdx i)) x7 x9 x10 x11 x12 x16)) -∗ K ⟨⟩))
      ⊢ wp frame (wpE (defs₀ (F := F)) Variants.none c none) E (cc0_star3 i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_star3_eq_skeleton]; unfold cc0_star3_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  have h3 : ∀ h : _, View.readAt (Elt F) arg3.view (Rect.unit (s := S12) (k0_off2 i) S1.size h).toLoadRect (harg3.unread x3)
      (Shape.Idx.first (numel1_S1.symm ▸ Nat.one_pos)) = x3 (wordIdx i) := fun _ => congrFun hf3 (wordIdx i)
  have h5 : View.readAt (Elt F) arg5.view (Rect.unit (s := S12) (k0_off1 i) S1.size (k0_off1_inb i)).toLoadRect (harg5.unread x5)
      (Shape.Idx.first (numel1_S1.symm ▸ Nat.one_pos)) = x5 (wordIdx i) := congrFun hf5 (wordIdx i)
  have h6 : View.readAt (Elt F) arg6.view (Rect.unit (s := S12) (k0_off1 i) S1.size (k0_off1_inb i)).toLoadRect (harg6.unread x6)
      (Shape.Idx.first (numel1_S1.symm ▸ Nat.one_pos)) = x6 (wordIdx i) := congrFun hf6 (wordIdx i)
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; rotate_left
    · iexact H15
    · ipureintro
      repeat (first | unfold body_step.sl.r | unfold body_step.sl.r_1 | unfold body_step.sl.r_2 | unfold body_step.sl.v35_1 | unfold body_step.sl.v35 | unfold body_step.sl.v31 | unfold body_step.sl.v28 | unfold body_step.sl.v30 | unfold body_step.sl.v27 | unfold body_step.sl.v26 | unfold body_step.sl.v29)
      unfold outNext accNext
      by_cases hl : k0_cond1 (x5 (wordIdx i)) (x6 (wordIdx i)) = 1#1
      · simp -proj only [h3, h5, h6, first_step, later_step, last_step, hl, not_true_eq_false, not_false_eq_true, dite_true, dite_false, ite_true, ite_false, eq_self, View.readAt_full, View.read_writes_full, hf7, hf8, hf9, hf10, hf11, hf12, hf13, hf14, hf15, hf16]
      · simp -proj only [h5, h6, hl, dite_false, ite_false, hf15, hf16]
  iexists _; isplitr; rotate_left
  · iexact H16
  · ipureintro
    repeat (first | unfold body_step.sl.r | unfold body_step.sl.r_1 | unfold body_step.sl.v35 | unfold body_step.sl.v31 | unfold body_step.sl.v28 | unfold body_step.sl.v30 | unfold body_step.sl.v27 | unfold body_step.sl.v26 | unfold body_step.sl.v29)
    unfold accNext
    by_cases hl : k0_cond1 (x5 (wordIdx i)) (x6 (wordIdx i)) = 1#1
    · simp -proj only [h3, h5, h6, first_step, later_step, last_step, hl, not_true_eq_false, not_false_eq_true, dite_true, dite_false, ite_true, ite_false, eq_self, View.readAt_full, View.read_writes_full, hf7, hf8, hf9, hf10, hf11, hf12, hf13, hf14, hf15, hf16]
    · simp -proj only [h5, h6, hl, dite_false, ite_false, hf15, hf16]

end Cert.KernelCIdeal.Gen
-- ==== Proof.CTables.lean ====
module

public import proofs.«01_k».proof.Proof.Gen.KernelCIdeal.Launch
public import proofs.«01_k».proof.Proof.Items
public import proofs.«01_k».proof.Proof.Takes

/-!
The four prefetched tables, read off the host operations before the launch: slot `x` holds the pair
`Items.pick … x`; the tables are its tile, its domain, and the first and last row of its interval (both 0 for a slot
past the live pairs). Each stretch of host operations is read by itself, over any contents before it.
-/

@[expose] public section

set_option maxRecDepth 16384
set_option backward.proofsInPublic true

noncomputable section

namespace Cert.KernelCIdeal.Gen

open Cert.Shared Idealize.ShloMosaic Idealize.ShloMosaic.TcCoe

variable {F : FTy → Type} [FloatOps F] (W : Valuation τ sig (Elt F))

/-- The six offsets in the contents `W`. -/
def offs (W : Valuation τ sig (Elt F)) (k : Fin 6) : BitVec 32 := (W main_arg0 : S6.Idx → BitVec 32) (ix1 k)

/-- The live bits of the pairs, as the array the host holds. -/
def liveArr (W : Valuation τ sig (Elt F)) : S40.Idx → BitVec 1 := fun x => Items.live (offs W) (x 0)

/-- The number of live pairs, as the host sums it. -/
def liveCount (w : S40.Idx → BitVec 1) : BitVec 32 :=
  Host.reduce IntOp.addi (extui 32 w natLt_1_32) (constantI S_ 32 0#32) reducesTo_S40_S_d0 h_S_ Idealize.ShloMosaic.ix0

/-- The stable sort of the pairs by the word `w`, as a self-map of their numbers. -/
@[irreducible] def orderBy (w : S40.Idx → BitVec 1) : Fin 40 → Fin 40 :=
  sortedFrom fun k k' => IntOp.cmpi .ult (w (Shape.Idx.ofFin k)) (w (Shape.Idx.ofFin k')) == 1#1

theorem orderBy_live : orderBy (fun x => ~~~ (liveArr W x)) = Items.order (offs W) := by
  unfold orderBy Items.order
  simp only [liveArr, Shape.Idx.ofFin_zero]

theorem read_v18 (x : S40.Idx) : (StableHlo.after (hostOps0 (F := F)) W main_v18 : S40.Idx → BitVec 1) x = liveArr W x := by
  after_reads_at
  unfold liveArr Items.live Items.rowHi Items.rowLo
  rfl
theorem read_v19 (x : S40.Idx) : (StableHlo.after (hostOps0 (F := F)) W main_v19 : S40.Idx → BitVec 1) x = ~~~ (liveArr W x) := by
  after_reads_at
  unfold liveArr Items.live Items.rowHi Items.rowLo
  rfl
theorem read_v9 (k : Fin 40) : (StableHlo.after (hostOps0 (F := F)) W main_v9 : S40.Idx → BitVec 32) (Shape.Idx.ofFin k) = Items.rowLo (offs W) k := by
  after_reads_at
  unfold Items.rowLo
  rfl
theorem read_v17 (k : Fin 40) : (StableHlo.after (hostOps0 (F := F)) W main_v17 : S40.Idx → BitVec 32) (Shape.Idx.ofFin k) = Items.rowHi (offs W) k := by
  after_reads_at
  unfold Items.rowHi
  rfl

theorem sort40 (u : S40.Idx → BitVec 1) (k : Fin 40) :
    (Host.sort2 S40 0 comparator_i1_i32_d0 u (iotaInDim S40 32 0)).2 (Shape.Idx.ofFin k) = BitVec.ofNat 32 (orderBy u k).val := by
  have e : (Host.sort2 S40 0 comparator_i1_i32_d0 u (iotaInDim S40 32 0)).2 (Shape.Idx.ofFin k) = _ :=
    sort2_vec (n := 40) comparator_i1_i32_d0 u (iotaInDim S40 32 0) (Shape.Idx.ofFin k)
  rw [e]
  unfold orderBy iotaInDim
  simp only [Shape.Idx.ofFin_zero, comparator_i1_i32_d0]

set_option backward.isDefEq.respectTransparency.types false in
theorem read_v20 (w : S40.Idx → BitVec 1) (h : (W main_v19 : S40.Idx → BitVec 1) = w) (k : Fin 40) :
    (StableHlo.after (hostOps0_1 (F := F)) W main_v20 : S40.Idx → BitVec 32) (Shape.Idx.ofFin k)
      = BitVec.ofNat 32 (orderBy w k).val := by
  subst h
  after_reads_simp
  simp only [StableHlo.TRef.toBuf, StableHlo.TRef.ofBuf, cast_cast, cast_eq]
  have e := sort40 (W main_v19) k
  generalize orderBy (W main_v19) k = z at e ⊢
  exact e

theorem read_v34 (x : S12.Idx) (g : Fin 40 → Fin 40) (h : ∀ k, (W main_v20 : S40.Idx → BitVec 32) (Shape.Idx.ofFin k) = BitVec.ofNat 32 (g k).val) :
    (StableHlo.after (hostOps0_2 (F := F)) W main_v34 : S12.Idx → BitVec 32) x
      = BitVec.ofNat 32 (g ⟨(Items.slot (liveCount (W main_v18)) (x 0).val).val, by have := (Items.slot (liveCount (W main_v18)) (x 0).val).isLt; omega⟩).val := by
  after_reads_at
  refine (take_at gather_S12_S12x1_S12_n_0_n_n_0_1_1 rfl rfl rfl rfl _ _ _ x (by decide)).trans ?_
  refine Eq.trans ?_ (h _)
  unfold extractStridedSlice
  refine congrArg (W main_v20 : S40.Idx → BitVec 32) (funext fun a => ?_)
  obtain rfl : a = 0 := Subsingleton.elim _ _
  refine Fin.ext ?_
  refine (Nat.zero_add _).trans ?_
  have e : ∀ a b : S_.Idx, a = b := fun a b => funext fun i => i.elim0
  show min _ _ = _
  unfold Items.slot liveCount
  simp only [select, cmpi, addi, minsi, subi, iotaInDim, constantI]
  rfl
theorem read_v37 (x : S12.Idx) : (StableHlo.after (hostOps0_2 (F := F)) W main_v37 : S12.Idx → BitVec 1) x
    = IntOp.cmpi .sge (BitVec.ofNat 32 (x 0).val) (liveCount (W main_v18)) := by
  after_reads_at
  rfl
theorem read_c5 (x : S_.Idx) : (StableHlo.after (hostOps0_2 (F := F)) W main_c_5 : S_.Idx → BitVec 32) x = 5#32 := by
  after_reads_at
theorem read_c6 (x : S_.Idx) : (StableHlo.after (hostOps0_4 (F := F)) W main_c_6 : S_.Idx → BitVec 32) x = 5#32 := by
  after_reads_at
theorem read_c9 (x : S_.Idx) : (StableHlo.after (hostOps0_6 (F := F)) W main_c_9 : S_.Idx → BitVec 32) x = 0#32 := by
  after_reads_at
theorem read_c12 (x : S_.Idx) : (StableHlo.after (hostOps0_8 (F := F)) W main_c_12 : S_.Idx → BitVec 32) x = 0#32 := by
  after_reads_at
theorem read_v38 (x : S12.Idx) (p : Fin 40) (hp : (W main_v34 : S12.Idx → BitVec 32) x = BitVec.ofNat 32 p.val)
    (hc : (W main_c_5 : S_.Idx → BitVec 32) Idealize.ShloMosaic.ix0 = 5#32) :
    (StableHlo.after (hostOps0_3 (F := F)) W main_v38 : S12.Idx → BitVec 32) x = BitVec.ofNat 32 (p.val / 5) := by
  after_reads_at
  simp only [id, hp, hc]
  exact Items.div5 p
theorem read_v39 (x : S12.Idx) (p : Fin 40) (hp : (W main_v34 : S12.Idx → BitVec 32) x = BitVec.ofNat 32 p.val)
    (hc : (W main_c_6 : S_.Idx → BitVec 32) Idealize.ShloMosaic.ix0 = 5#32) :
    (StableHlo.after (hostOps0_5 (F := F)) W main_v39 : S12.Idx → BitVec 32) x = BitVec.ofNat 32 (p.val % 5) := by
  after_reads_at
  simp only [id, hp, hc]
  exact Items.mod5 p
theorem read_v46 (x : S12.Idx) (p : Fin 40) (hp : (W main_v34 : S12.Idx → BitVec 32) x = BitVec.ofNat 32 p.val) :
    (StableHlo.after (hostOps0_6 (F := F)) W main_v46 : S12.Idx → BitVec 32) x = (W main_v9 : S40.Idx → BitVec 32) (Shape.Idx.ofFin p) := by
  after_reads_at
  refine (take_at gather_S40_S12x1_S12_n_0_n_n_0_1_1 rfl rfl rfl rfl _ _ _ x (by decide)).trans ?_
  refine congrArg _ (congrArg Shape.Idx.ofFin (Fin.ext ?_))
  refine Eq.trans ?_ (Items.clamp40 p)
  refine congrArg (fun b : BitVec 32 => min b.toInt.toNat (40 - 1)) ?_
  refine Eq.trans ?_ (Items.wrap40 p)
  rw [← hp]
  rfl
theorem read_v54 (x : S12.Idx) (p : Fin 40) (hp : (W main_v34 : S12.Idx → BitVec 32) x = BitVec.ofNat 32 p.val) :
    (StableHlo.after (hostOps0_8 (F := F)) W main_v54 : S12.Idx → BitVec 32) x = (W main_v17 : S40.Idx → BitVec 32) (Shape.Idx.ofFin p) := by
  after_reads_at
  refine (take_at gather_S40_S12x1_S12_n_0_n_n_0_1_1 rfl rfl rfl rfl _ _ _ x (by decide)).trans ?_
  refine congrArg _ (congrArg Shape.Idx.ofFin (Fin.ext ?_))
  refine Eq.trans ?_ (Items.clamp40 p)
  refine congrArg (fun b : BitVec 32 => min b.toInt.toNat (40 - 1)) ?_
  refine Eq.trans ?_ (Items.wrap40 p)
  rw [← hp]
  rfl
theorem read_v47 (x : S12.Idx) (hc : (W main_c_9 : S_.Idx → BitVec 32) Idealize.ShloMosaic.ix0 = 0#32) :
    (StableHlo.after (hostOps0_7 (F := F)) W main_v47 : S12.Idx → BitVec 32) x
      = Scalar.select ((W main_v37 : S12.Idx → BitVec 1) x) 0#32 ((W main_v46 : S12.Idx → BitVec 32) x) := by
  after_reads_at
  simp only [id, hc]
theorem read_v55 (x : S12.Idx) (hc : (W main_c_12 : S_.Idx → BitVec 32) Idealize.ShloMosaic.ix0 = 0#32) :
    (StableHlo.after (hostOps0_9 (F := F)) W main_v55 : S12.Idx → BitVec 32) x
      = Scalar.select ((W main_v37 : S12.Idx → BitVec 1) x) 0#32 ((W main_v54 : S12.Idx → BitVec 32) x) := by
  after_reads_at
  simp only [id, hc]
theorem keep_v18_1 : StableHlo.after (hostOps0_1 (F := F)) W main_v18 = W main_v18 := by after_reads_simp
theorem keep_v9_1 : StableHlo.after (hostOps0_1 (F := F)) W main_v9 = W main_v9 := by after_reads_simp
theorem keep_v9_2 : StableHlo.after (hostOps0_2 (F := F)) W main_v9 = W main_v9 := by after_reads_simp
theorem keep_v9_3 : StableHlo.after (hostOps0_3 (F := F)) W main_v9 = W main_v9 := by after_reads_simp
theorem keep_v9_4 : StableHlo.after (hostOps0_4 (F := F)) W main_v9 = W main_v9 := by after_reads_simp
theorem keep_v9_5 : StableHlo.after (hostOps0_5 (F := F)) W main_v9 = W main_v9 := by after_reads_simp
theorem keep_v17_1 : StableHlo.after (hostOps0_1 (F := F)) W main_v17 = W main_v17 := by after_reads_simp
theorem keep_v17_2 : StableHlo.after (hostOps0_2 (F := F)) W main_v17 = W main_v17 := by after_reads_simp
theorem keep_v17_3 : StableHlo.after (hostOps0_3 (F := F)) W main_v17 = W main_v17 := by after_reads_simp
theorem keep_v17_4 : StableHlo.after (hostOps0_4 (F := F)) W main_v17 = W main_v17 := by after_reads_simp
theorem keep_v17_5 : StableHlo.after (hostOps0_5 (F := F)) W main_v17 = W main_v17 := by after_reads_simp
theorem keep_v17_6 : StableHlo.after (hostOps0_6 (F := F)) W main_v17 = W main_v17 := by after_reads_simp
theorem keep_v17_7 : StableHlo.after (hostOps0_7 (F := F)) W main_v17 = W main_v17 := by after_reads_simp
theorem keep_v34_3 : StableHlo.after (hostOps0_3 (F := F)) W main_v34 = W main_v34 := by after_reads_simp
theorem keep_v34_4 : StableHlo.after (hostOps0_4 (F := F)) W main_v34 = W main_v34 := by after_reads_simp
theorem keep_v34_5 : StableHlo.after (hostOps0_5 (F := F)) W main_v34 = W main_v34 := by after_reads_simp
theorem keep_v34_6 : StableHlo.after (hostOps0_6 (F := F)) W main_v34 = W main_v34 := by after_reads_simp
theorem keep_v34_7 : StableHlo.after (hostOps0_7 (F := F)) W main_v34 = W main_v34 := by after_reads_simp
theorem keep_v37_3 : StableHlo.after (hostOps0_3 (F := F)) W main_v37 = W main_v37 := by after_reads_simp
theorem keep_v37_4 : StableHlo.after (hostOps0_4 (F := F)) W main_v37 = W main_v37 := by after_reads_simp
theorem keep_v37_5 : StableHlo.after (hostOps0_5 (F := F)) W main_v37 = W main_v37 := by after_reads_simp
theorem keep_v37_6 : StableHlo.after (hostOps0_6 (F := F)) W main_v37 = W main_v37 := by after_reads_simp
theorem keep_v37_7 : StableHlo.after (hostOps0_7 (F := F)) W main_v37 = W main_v37 := by after_reads_simp
theorem keep_v37_8 : StableHlo.after (hostOps0_8 (F := F)) W main_v37 = W main_v37 := by after_reads_simp
theorem keep_v38_4 : StableHlo.after (hostOps0_4 (F := F)) W main_v38 = W main_v38 := by after_reads_simp
theorem keep_v38_5 : StableHlo.after (hostOps0_5 (F := F)) W main_v38 = W main_v38 := by after_reads_simp
theorem keep_v38_6 : StableHlo.after (hostOps0_6 (F := F)) W main_v38 = W main_v38 := by after_reads_simp
theorem keep_v38_7 : StableHlo.after (hostOps0_7 (F := F)) W main_v38 = W main_v38 := by after_reads_simp
theorem keep_v38_8 : StableHlo.after (hostOps0_8 (F := F)) W main_v38 = W main_v38 := by after_reads_simp
theorem keep_v38_9 : StableHlo.after (hostOps0_9 (F := F)) W main_v38 = W main_v38 := by after_reads_simp
theorem keep_v38_10 : StableHlo.after (hostOps0_10 (F := F)) W main_v38 = W main_v38 := by after_reads_simp
theorem keep_v39_6 : StableHlo.after (hostOps0_6 (F := F)) W main_v39 = W main_v39 := by after_reads_simp
theorem keep_v39_7 : StableHlo.after (hostOps0_7 (F := F)) W main_v39 = W main_v39 := by after_reads_simp
theorem keep_v39_8 : StableHlo.after (hostOps0_8 (F := F)) W main_v39 = W main_v39 := by after_reads_simp
theorem keep_v39_9 : StableHlo.after (hostOps0_9 (F := F)) W main_v39 = W main_v39 := by after_reads_simp
theorem keep_v39_10 : StableHlo.after (hostOps0_10 (F := F)) W main_v39 = W main_v39 := by after_reads_simp
theorem keep_v47_8 : StableHlo.after (hostOps0_8 (F := F)) W main_v47 = W main_v47 := by after_reads_simp
theorem keep_v47_9 : StableHlo.after (hostOps0_9 (F := F)) W main_v47 = W main_v47 := by after_reads_simp
theorem keep_v47_10 : StableHlo.after (hostOps0_10 (F := F)) W main_v47 = W main_v47 := by after_reads_simp
theorem keep_v55_10 : StableHlo.after (hostOps0_10 (F := F)) W main_v55 = W main_v55 := by after_reads_simp

/-- The host operations before the launch, in order. -/
abbrev hostAll : List (List (HloOp τ sig (Elt F))) :=
  [hostOps0, hostOps0_1, hostOps0_2, hostOps0_3, hostOps0_4, hostOps0_5, hostOps0_6, hostOps0_7, hostOps0_8, hostOps0_9, hostOps0_10]

/-- The contents after them, one stretch after the other. -/
def W0 : Valuation τ sig (Elt F) := StableHlo.after (hostOps0 (F := F)) W
def W1 : Valuation τ sig (Elt F) := StableHlo.after (hostOps0_1 (F := F)) (W0 W)
def W2 : Valuation τ sig (Elt F) := StableHlo.after (hostOps0_2 (F := F)) (W1 W)
def W3 : Valuation τ sig (Elt F) := StableHlo.after (hostOps0_3 (F := F)) (W2 W)
def W4 : Valuation τ sig (Elt F) := StableHlo.after (hostOps0_4 (F := F)) (W3 W)
def W5 : Valuation τ sig (Elt F) := StableHlo.after (hostOps0_5 (F := F)) (W4 W)
def W6 : Valuation τ sig (Elt F) := StableHlo.after (hostOps0_6 (F := F)) (W5 W)
def W7 : Valuation τ sig (Elt F) := StableHlo.after (hostOps0_7 (F := F)) (W6 W)
def W8 : Valuation τ sig (Elt F) := StableHlo.after (hostOps0_8 (F := F)) (W7 W)
def W9 : Valuation τ sig (Elt F) := StableHlo.after (hostOps0_9 (F := F)) (W8 W)
def W10 : Valuation τ sig (Elt F) := StableHlo.after (hostOps0_10 (F := F)) (W9 W)
theorem step_v18_1 : W1 W main_v18 = W0 W main_v18 := keep_v18_1 (W0 W)
theorem step_v9_1 : W1 W main_v9 = W0 W main_v9 := keep_v9_1 (W0 W)
theorem step_v9_2 : W2 W main_v9 = W1 W main_v9 := keep_v9_2 (W1 W)
theorem step_v9_3 : W3 W main_v9 = W2 W main_v9 := keep_v9_3 (W2 W)
theorem step_v9_4 : W4 W main_v9 = W3 W main_v9 := keep_v9_4 (W3 W)
theorem step_v9_5 : W5 W main_v9 = W4 W main_v9 := keep_v9_5 (W4 W)
theorem step_v17_1 : W1 W main_v17 = W0 W main_v17 := keep_v17_1 (W0 W)
theorem step_v17_2 : W2 W main_v17 = W1 W main_v17 := keep_v17_2 (W1 W)
theorem step_v17_3 : W3 W main_v17 = W2 W main_v17 := keep_v17_3 (W2 W)
theorem step_v17_4 : W4 W main_v17 = W3 W main_v17 := keep_v17_4 (W3 W)
theorem step_v17_5 : W5 W main_v17 = W4 W main_v17 := keep_v17_5 (W4 W)
theorem step_v17_6 : W6 W main_v17 = W5 W main_v17 := keep_v17_6 (W5 W)
theorem step_v17_7 : W7 W main_v17 = W6 W main_v17 := keep_v17_7 (W6 W)
theorem step_v34_3 : W3 W main_v34 = W2 W main_v34 := keep_v34_3 (W2 W)
theorem step_v34_4 : W4 W main_v34 = W3 W main_v34 := keep_v34_4 (W3 W)
theorem step_v34_5 : W5 W main_v34 = W4 W main_v34 := keep_v34_5 (W4 W)
theorem step_v34_6 : W6 W main_v34 = W5 W main_v34 := keep_v34_6 (W5 W)
theorem step_v34_7 : W7 W main_v34 = W6 W main_v34 := keep_v34_7 (W6 W)
theorem step_v37_3 : W3 W main_v37 = W2 W main_v37 := keep_v37_3 (W2 W)
theorem step_v37_4 : W4 W main_v37 = W3 W main_v37 := keep_v37_4 (W3 W)
theorem step_v37_5 : W5 W main_v37 = W4 W main_v37 := keep_v37_5 (W4 W)
theorem step_v37_6 : W6 W main_v37 = W5 W main_v37 := keep_v37_6 (W5 W)
theorem step_v37_7 : W7 W main_v37 = W6 W main_v37 := keep_v37_7 (W6 W)
theorem step_v37_8 : W8 W main_v37 = W7 W main_v37 := keep_v37_8 (W7 W)
theorem step_v38_4 : W4 W main_v38 = W3 W main_v38 := keep_v38_4 (W3 W)
theorem step_v38_5 : W5 W main_v38 = W4 W main_v38 := keep_v38_5 (W4 W)
theorem step_v38_6 : W6 W main_v38 = W5 W main_v38 := keep_v38_6 (W5 W)
theorem step_v38_7 : W7 W main_v38 = W6 W main_v38 := keep_v38_7 (W6 W)
theorem step_v38_8 : W8 W main_v38 = W7 W main_v38 := keep_v38_8 (W7 W)
theorem step_v38_9 : W9 W main_v38 = W8 W main_v38 := keep_v38_9 (W8 W)
theorem step_v38_10 : W10 W main_v38 = W9 W main_v38 := keep_v38_10 (W9 W)
theorem step_v39_6 : W6 W main_v39 = W5 W main_v39 := keep_v39_6 (W5 W)
theorem step_v39_7 : W7 W main_v39 = W6 W main_v39 := keep_v39_7 (W6 W)
theorem step_v39_8 : W8 W main_v39 = W7 W main_v39 := keep_v39_8 (W7 W)
theorem step_v39_9 : W9 W main_v39 = W8 W main_v39 := keep_v39_9 (W8 W)
theorem step_v39_10 : W10 W main_v39 = W9 W main_v39 := keep_v39_10 (W9 W)
theorem step_v47_8 : W8 W main_v47 = W7 W main_v47 := keep_v47_8 (W7 W)
theorem step_v47_9 : W9 W main_v47 = W8 W main_v47 := keep_v47_9 (W8 W)
theorem step_v47_10 : W10 W main_v47 = W9 W main_v47 := keep_v47_10 (W9 W)
theorem step_v55_10 : W10 W main_v55 = W9 W main_v55 := keep_v55_10 (W9 W)

theorem after_hostAll : StableHlo.after (hostAll (F := F)).flatten W = W10 W := by
  simp only [hostAll, List.flatten_cons, List.flatten_nil, StableHlo.after_append, List.append_nil]
  rfl

/-- The pair in slot `x`. -/
@[irreducible] def pickOf (W : Valuation τ sig (Elt F)) (x : Fin 12) : Fin 40 := Items.pick (offs W) (liveCount (liveArr W)) x.val

theorem W1_v18 : (W1 W main_v18 : S40.Idx → BitVec 1) = liveArr W := by
  rw [step_v18_1]; exact funext fun x => read_v18 W x

theorem W2_v34 (x : S12.Idx) : (W2 W main_v34 : S12.Idx → BitVec 32) x = BitVec.ofNat 32 (pickOf W (x 0)).val := by
  have h : ∀ k, (W1 W main_v20 : S40.Idx → BitVec 32) (Shape.Idx.ofFin k) = BitVec.ofNat 32 (Items.order (offs W) k).val := by
    intro k
    unfold W1
    rw [read_v20 (W0 W) (fun x => ~~~ (liveArr W x)) (funext fun x => read_v19 W x) k, orderBy_live]
  have e := read_v34 (W1 W) x (Items.order (offs W)) h
  refine Eq.trans (b := _) e ?_
  · unfold pickOf Items.pick
    exact congrArg (fun w => BitVec.ofNat 32 (Items.order (offs W)
      ⟨(Items.slot (liveCount w) (x 0).val).val, by have := (Items.slot (liveCount w) (x 0).val).isLt; omega⟩).val) (W1_v18 W)

theorem W2_v37 (x : S12.Idx) : (W2 W main_v37 : S12.Idx → BitVec 1) x
    = IntOp.cmpi .sge (BitVec.ofNat 32 (x 0).val) (liveCount (liveArr W)) := by
  refine (read_v37 (W1 W) x).trans ?_
  rw [W1_v18]

/-- The tile of slot `x`. -/
theorem tab_tile (x : S12.Idx) : (W10 W main_v38 : S12.Idx → BitVec 32) x = BitVec.ofNat 32 ((pickOf W (x 0)).val / 5) := by
  rw [step_v38_10, step_v38_9, step_v38_8, step_v38_7, step_v38_6, step_v38_5, step_v38_4]
  exact read_v38 (W2 W) x (pickOf W (x 0)) (W2_v34 W x) (read_c5 _ _)

/-- The domain of slot `x`. -/
theorem tab_dom (x : S12.Idx) : (W10 W main_v39 : S12.Idx → BitVec 32) x = BitVec.ofNat 32 ((pickOf W (x 0)).val % 5) := by
  rw [step_v39_10, step_v39_9, step_v39_8, step_v39_7, step_v39_6]
  refine read_v39 (W4 W) x (pickOf W (x 0)) ?_ (read_c6 _ _)
  rw [step_v34_4, step_v34_3]
  exact W2_v34 W x

/-- The first row of slot `x`. -/
theorem tab_lo (x : S12.Idx) : (W10 W main_v47 : S12.Idx → BitVec 32) x
    = Scalar.select (IntOp.cmpi .sge (BitVec.ofNat 32 (x 0).val) (liveCount (liveArr W))) 0#32 (Items.rowLo (offs W) (pickOf W (x 0))) := by
  rw [step_v47_10, step_v47_9, step_v47_8]
  refine (read_v47 (W6 W) x (read_c9 _ _)).trans ?_
  have h46 : (W6 W main_v46 : S12.Idx → BitVec 32) x = Items.rowLo (offs W) (pickOf W (x 0)) := by
    refine (read_v46 (W5 W) x (pickOf W (x 0)) ?_).trans ?_
    · rw [step_v34_5, step_v34_4, step_v34_3]; exact W2_v34 W x
    · rw [step_v9_5, step_v9_4, step_v9_3, step_v9_2, step_v9_1]; exact read_v9 W _
  rw [h46, step_v37_6, step_v37_5, step_v37_4, step_v37_3, W2_v37]

/-- The row after the last one of slot `x`. -/
theorem tab_hi (x : S12.Idx) : (W10 W main_v55 : S12.Idx → BitVec 32) x
    = Scalar.select (IntOp.cmpi .sge (BitVec.ofNat 32 (x 0).val) (liveCount (liveArr W))) 0#32 (Items.rowHi (offs W) (pickOf W (x 0))) := by
  rw [step_v55_10]
  refine (read_v55 (W8 W) x (read_c12 _ _)).trans ?_
  have h54 : (W8 W main_v54 : S12.Idx → BitVec 32) x = Items.rowHi (offs W) (pickOf W (x 0)) := by
    refine (read_v54 (W7 W) x (pickOf W (x 0)) ?_).trans ?_
    · rw [step_v34_7, step_v34_6, step_v34_5, step_v34_4, step_v34_3]; exact W2_v34 W x
    · rw [step_v17_7, step_v17_6, step_v17_5, step_v17_4, step_v17_3, step_v17_2, step_v17_1]; exact read_v17 W _
  rw [h54, step_v37_8, step_v37_7, step_v37_6, step_v37_5, step_v37_4, step_v37_3, W2_v37]

end Cert.KernelCIdeal.Gen
-- ==== Proof.CEntry.lean ====
module

public import proofs.«01_k».proof.Proof.CTables
public import Idealize.ShloMosaic.Lib.Pipeline.Frame
public import Idealize.ShloMosaic.Lib.Tactic

/-!
The memory as the launch finds it: the arguments are as they were, the two biases are reshaped, the four tables hold
what `Proof/CTables.lean` reads. Every table word names a block inside its array (a tile below 8, a domain below 5), so
the launch's condition on the tables holds whatever the offsets are.
-/

@[expose] public section

set_option maxRecDepth 16384

noncomputable section

namespace Cert.KernelCIdeal.Gen

open Cert.Shared Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

variable (m : (ℓ : Loc nD τ sig) → Buf (Elt F) ℓ) (ρ : Dev nD → PrngReg)

/-- What the host operations leave, from the launch memory. -/
abbrev V (c : Dev nD) (b : Ref sig .tc) : Buf (Elt F) ((c.tc : Thread nD τ).loc b) :=
  StableHlo.after (hostAll (F := F)).flatten (fun b => m (c, b)) b

theorem V_eq (c : Dev nD) (b : Ref sig .tc) : V m c b = W10 (fun b => m (c, b)) b :=
  congrFun (after_hostAll (fun b => m (c, b))) _

/-- The nine arguments. -/
abbrev argRefs : List (Ref sig .tc) := [main_arg0, main_arg1, main_arg2, main_arg3, main_arg4, main_arg5, main_arg6, main_arg7, main_arg8]

/-- No host operation writes an argument. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostAll, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => absurd (h ▸ hb) (by decide))))

/-- The tables at the launch (one core). -/
def pf : pre0.Contents (Elt F) := fun k => V m (0 : Dev nD) (pre0.ref k)

theorem devUniq (c : Dev nD) : c = 0 := Subsingleton.elim _ _

/-- The tile (table 0) at grid point `i`. -/
abbrev word0 (i : grid0.Coords) : BitVec 32 := (pf m).at 0 (Rect.unit (s := S12) (k0_off1 i) S1.size (k0_off1_inb i)) numel1_S1

/-- The domain (table 1) at grid point `i`. -/
abbrev word1 (i : grid0.Coords) : BitVec 32 := (pf m).at 1 (Rect.unit (s := S12) (k0_off1 i) S1.size (k0_off1_inb i)) numel1_S1

/-- The first row (table 2) at grid point `i`. -/
abbrev word2 (i : grid0.Coords) : BitVec 32 := (pf m).at 2 (Rect.unit (s := S12) (k0_off1 i) S1.size (k0_off1_inb i)) numel1_S1

/-- The last row (table 3) at grid point `i`. -/
abbrev word3 (i : grid0.Coords) : BitVec 32 := (pf m).at 3 (Rect.unit (s := S12) (k0_off1 i) S1.size (k0_off1_inb i)) numel1_S1

/-- The memory the launch starts from, as one valuation. -/
abbrev M0 : Valuation τ sig (Elt F) := fun b => m ((0 : Dev nD), b)

abbrev slotOf (i : grid0.Coords) : Fin 12 := (Rect.unit (s := S12) (k0_off1 i) S1.size (k0_off1_inb i)).emb (Shape.Idx.first (numel1_S1.symm ▸ Nat.one_pos)) 0

theorem word_tile (i : grid0.Coords) : word0 m i = BitVec.ofNat 32 ((pickOf (M0 m) (slotOf i)).val / 5) :=
  (congrFun (V_eq m 0 main_v38) _).trans (tab_tile (M0 m) _)

theorem word_dom (i : grid0.Coords) : word1 m i = BitVec.ofNat 32 ((pickOf (M0 m) (slotOf i)).val % 5) :=
  (congrFun (V_eq m 0 main_v39) _).trans (tab_dom (M0 m) _)

theorem pick_lt (x : Fin 12) : (pickOf (M0 m) x).val < 40 := (pickOf (M0 m) x).isLt

theorem tile_lt (i : grid0.Coords) : (word0 m i).toNat < 8 := by
  rw [word_tile, BitVec.toNat_ofNat]; have := pick_lt m (slotOf i); omega

theorem dom_lt (i : grid0.Coords) : (word1 m i).toNat < 5 := by
  rw [word_dom, BitVec.toNat_ofNat]; have := pick_lt m (slotOf i); omega

/-- The step a window of weights or codes is read at. -/
abbrev kidx (i : grid0.Coords) : BitVec 32 :=
  Scalar.select (Scalar.cmpi .sgt (word3 m i) (word2 m i)) (BitVec.ofNat 32 (i 2).val) 0#32

theorem kidx_lt (i : grid0.Coords) : (kidx m i).toNat < 1 := by
  have h2 : (i 2).val < 1 := (i 2).isLt
  unfold kidx Scalar.select
  split
  · rw [BitVec.toNat_ofNat]; omega
  · decide

theorem tr0 (i : grid0.Coords) : cc0_transform_0 k0_off1_inb numel1_S1 (pf m) i = ![(word0 m i).toNat, (kidx m i).toNat] := rfl
theorem tr1 (i : grid0.Coords) : cc0_transform_1 k0_off1_inb numel1_S1 (pf m) i = ![(word0 m i).toNat, 0] := rfl
theorem tr2 (i : grid0.Coords) : cc0_transform_2 k0_off1_inb numel1_S1 (pf m) i = ![(kidx m i).toNat, (BitVec.ofNat 32 (i 0).val).toNat] := rfl
theorem tr3 (i : grid0.Coords) : cc0_transform_3 k0_off1_inb numel1_S1 (pf m) i = ![(kidx m i).toNat, (BitVec.ofNat 32 (i 0).val).toNat] := rfl
theorem tr4 (i : grid0.Coords) : cc0_transform_4 k0_off1_inb numel1_S1 (pf m) i = ![(word1 m i).toNat, (kidx m i).toNat, (BitVec.ofNat 32 (i 0).val).toNat] := rfl
theorem tr5 (i : grid0.Coords) : cc0_transform_5 k0_off1_inb numel1_S1 (pf m) i = ![(word1 m i).toNat, (kidx m i).toNat, (BitVec.ofNat 32 (i 0).val).toNat] := rfl
theorem tr7 (i : grid0.Coords) : cc0_transform_7 k0_off1_inb numel1_S1 (pf m) i = ![(word1 m i).toNat, 0, (BitVec.ofNat 32 (i 0).val).toNat] := rfl
theorem tr8 (i : grid0.Coords) : cc0_transform_8 k0_off1_inb numel1_S1 (pf m) i = ![(word0 m i).toNat, (BitVec.ofNat 32 (i 0).val).toNat] := rfl

theorem j_lt (i : grid0.Coords) : (BitVec.ofNat 32 (i 0).val).toNat < 1 := by
  have h0 : (i 0).val < 1 := (i 0).isLt
  rw [BitVec.toNat_ofNat]; omega

theorem ok : ok0 (pf m) := by
  unfold ok0
  refine ⟨fun i => ?_, fun i => ?_, fun i => ?_, fun i => ?_, fun i => ?_, fun i => ?_, fun i => ?_, fun i => ?_⟩ <;>
    have ht := tile_lt m i <;> have hd := dom_lt m i <;> have hk := kidx_lt m i <;> have hj := j_lt i
  · rw [tr0]; refine ⟨?_, .inr (whole_words2 _ (by decide))⟩
    intro a; fin_cases a <;> simp <;> omega
  · rw [tr1]; refine ⟨?_, .inl rfl⟩
    intro a; fin_cases a <;> simp <;> omega
  · rw [tr2]; refine ⟨?_, .inr (whole_words2 _ (by decide))⟩
    intro a; fin_cases a <;> simp <;> omega
  · rw [tr3]; refine ⟨?_, .inl rfl⟩
    intro a; fin_cases a <;> simp <;> omega
  · rw [tr4]; refine ⟨?_, .inr (whole_words3 _ (by decide))⟩
    intro a; fin_cases a <;> simp <;> omega
  · rw [tr5]; refine ⟨?_, .inl rfl⟩
    intro a; fin_cases a <;> simp <;> omega
  · rw [tr7]; refine ⟨?_, .inl rfl⟩
    intro a; fin_cases a <;> simp <;> omega
  · rw [tr8]; refine ⟨?_, .inr (whole_words2 _ (by decide))⟩
    intro a; fin_cases a <;> simp <;> omega

/-- The tables, admissible. -/
def adm : (pcfg0 (F := F)).Adm := ⟨pf m, ok m⟩

end Cert.KernelCIdeal.Gen

end
-- ==== Proof.CRun.lean ====
module

public import proofs.«01_k».proof.Proof.CBody
public import proofs.«01_k».proof.Proof.CEntry
public import Idealize.ShloMosaic.Lib.Claim

/-!
The run of the launch. At each grid point the accumulator and the output's staging buffer change as `accNext` and
`outNext` (`Proof/CBody.lean`) say, with the point's blocks of the inputs; every input block is left as it was.
-/

@[expose] public section

set_option maxRecDepth 16384

noncomputable section

namespace Cert.KernelCIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf ΦA ΦT)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline at the tables the host computed. -/
abbrev cfgM : Cfg sig Λ₀ := cfg0 (adm m)

/-- The block of window `w` at point `t`, read off the array. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The block of window 0, at its shape. -/
abbrev blk0 (c : Dev nD) (t : Fin (cfgM m).N) : Vec F S512x1152 .fp8e4m3 := iblk m c 0 t

/-- The block of window 1, at its shape. -/
abbrev blk1 (c : Dev nD) (t : Fin (cfgM m).N) : Vec F S512x1 .f32 := iblk m c 1 t

/-- The block of window 2, at its shape. -/
abbrev blk2 (c : Dev nD) (t : Fin (cfgM m).N) : Vec F S1152x256 .fp8e4m3 := iblk m c 2 t

/-- The block of window 3, at its shape. -/
abbrev blk3 (c : Dev nD) (t : Fin (cfgM m).N) : Vec F S18x256 .f32 := iblk m c 3 t

/-- The block of window 4, at its shape. -/
abbrev blk4 (c : Dev nD) (t : Fin (cfgM m).N) : Vec F S1x1152x256 .fp8e4m3 := iblk m c 4 t

/-- The block of window 5, at its shape. -/
abbrev blk5 (c : Dev nD) (t : Fin (cfgM m).N) : Vec F S1x18x256 .f32 := iblk m c 5 t

/-- The block of window 6, at its shape. -/
abbrev blk6 (c : Dev nD) (t : Fin (cfgM m).N) : Vec F S1x256 .f32 := iblk m c 6 t

/-- The block of window 7, at its shape. -/
abbrev blk7 (c : Dev nD) (t : Fin (cfgM m).N) : Vec F S1x1x256 .f32 := iblk m c 7 t

/-- The accumulator after point `t`, from what it held. -/
def accAfter (c : Dev nD) (t : Fin (cfgM m).N) (g : Vec F S512x256 .f32) : Vec F S512x256 .f32 :=
  accNext (word2 m (grid0.coords t)) (word3 m (grid0.coords t)) (blk0 m c t) (blk2 m c t) (blk3 m c t) (blk4 m c t) (blk5 m c t) g

/-- The output's staging buffer after point `t`, from what it (`Y`) and the accumulator (`g`) held. -/
def outAfter (c : Dev nD) (t : Fin (cfgM m).N) (Y : Vec F S512x256 .bf16) (g : Vec F S512x256 .f32) : Vec F S512x256 .bf16 :=
  outNext (word2 m (grid0.coords t)) (word3 m (grid0.coords t)) (word0 m (grid0.coords t)) (blk0 m c t) (blk1 m c t) (blk2 m c t) (blk3 m c t) (blk4 m c t) (blk5 m c t) (blk6 m c t) (blk7 m c t) Y g

/-- What the accumulator may hold before point `n`. -/
def AccP (c : Dev nD) : ℕ → Vec F S512x256 .f32 → Prop
  | 0, _ => True
  | n + 1, f => ∃ g, AccP c n g ∧ ∀ h : n < (cfgM m).N, f = accAfter m c ⟨n, h⟩ g

theorem AccP_zero (c : Dev nD) (f : Vec F S512x256 .f32) : AccP m c 0 f := trivial

theorem AccP_succ (c : Dev nD) (t : Fin (cfgM m).N) (g : Vec F S512x256 .f32) (h : AccP m c t.val g) : AccP m c (t.val + 1) (accAfter m c t g) :=
  ⟨g, h, fun _ => rfl⟩

/-- The tables' share the body reads from, and the accumulator at what it may hold. -/
def Inv (c : Dev nD) (n : ℕ) : sProp 𝕄 :=
  iprop(owns (c : Thread nD τ) (Memref.whole main_v38) fullShare.right (pf m 0) ∗ owns (c : Thread nD τ) (Memref.whole main_v39) fullShare.right (pf m 1)
    ∗ owns (c : Thread nD τ) (Memref.whole main_v47) fullShare.right (pf m 2) ∗ owns (c : Thread nD τ) (Memref.whole main_v55) fullShare.right (pf m 3)
    ∗ (∃ r, prngReg c r) ∗ ∃ g : Vec F S512x256 .f32, ⌜AccP m c n g⌝ ∗ owns (c : Thread nD τ) (Memref.whole cc0_scratch0) fullShare g)

/-- The proof's data: inputs are left as found; the output's buffer is `outAfter` of what was found. -/
def rdat (c : Dev nD) : RDat τ (Elt F) Unit ℕ (UR sig nD τ) ℕ (cfgM m) c where
  A w := V m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun t Y X => ∃ g, AccP m c t.val g ∧ X = outAfter m c t Y g
    | ⟨_ + 9, h⟩ => absurd h (Nat.not_lt.2 (Nat.le_add_left _ _))
  Φ t := Inv m c t.val
  q _ := fullShare
  owed _ := 0

theorem A_eq (c : Dev nD) (w : Fin (cfgM m).W) : (rdat m c).A w = V m c (Pipeline.arrRef spec0 w) := rfl

theorem Φ_eq (c : Dev nD) (n : Fin ((cfgM m).N + 1)) : (rdat m c).Φ n = Inv m c n.val := rfl

theorem found0 (c : Dev nD) (t : Fin (cfgM m).N) (Y) (h : (rdat m c).Finds 0 t Y) : Y = blk0 m c t := by
  obtain ⟨d, rfl⟩ := (rdat m c).finds_in_eq_fetched 0 rfl (fun _ _ _ => rfl) (fun _ _ _ h => h) t Y h
  unfold RDat.fetched RDat.blockOf blk0 iblk; rw [A_eq]; try rfl

theorem found1 (c : Dev nD) (t : Fin (cfgM m).N) (Y) (h : (rdat m c).Finds 1 t Y) : Y = blk1 m c t := by
  obtain ⟨d, rfl⟩ := (rdat m c).finds_in_eq_fetched 1 rfl (fun _ _ _ => rfl) (fun _ _ _ h => h) t Y h
  unfold RDat.fetched RDat.blockOf blk1 iblk; rw [A_eq]; try rfl

theorem found2 (c : Dev nD) (t : Fin (cfgM m).N) (Y) (h : (rdat m c).Finds 2 t Y) : Y = blk2 m c t := by
  obtain ⟨d, rfl⟩ := (rdat m c).finds_in_eq_fetched 2 rfl (fun _ _ _ => rfl) (fun _ _ _ h => h) t Y h
  unfold RDat.fetched RDat.blockOf blk2 iblk; rw [A_eq]; try rfl

theorem found3 (c : Dev nD) (t : Fin (cfgM m).N) (Y) (h : (rdat m c).Finds 3 t Y) : Y = blk3 m c t := by
  obtain ⟨d, rfl⟩ := (rdat m c).finds_in_eq_fetched 3 rfl (fun _ _ _ => rfl) (fun _ _ _ h => h) t Y h
  unfold RDat.fetched RDat.blockOf blk3 iblk; rw [A_eq]; try rfl

theorem found4 (c : Dev nD) (t : Fin (cfgM m).N) (Y) (h : (rdat m c).Finds 4 t Y) : Y = blk4 m c t := by
  obtain ⟨d, rfl⟩ := (rdat m c).finds_in_eq_fetched 4 rfl (fun _ _ _ => rfl) (fun _ _ _ h => h) t Y h
  unfold RDat.fetched RDat.blockOf blk4 iblk; rw [A_eq]; try rfl

theorem found5 (c : Dev nD) (t : Fin (cfgM m).N) (Y) (h : (rdat m c).Finds 5 t Y) : Y = blk5 m c t := by
  obtain ⟨d, rfl⟩ := (rdat m c).finds_in_eq_fetched 5 rfl (fun _ _ _ => rfl) (fun _ _ _ h => h) t Y h
  unfold RDat.fetched RDat.blockOf blk5 iblk; rw [A_eq]; try rfl

theorem found6 (c : Dev nD) (t : Fin (cfgM m).N) (Y) (h : (rdat m c).Finds 6 t Y) : Y = blk6 m c t := by
  obtain ⟨d, rfl⟩ := (rdat m c).finds_in_eq_fetched 6 rfl (fun _ _ _ => rfl) (fun _ _ _ h => h) t Y h
  unfold RDat.fetched RDat.blockOf blk6 iblk; rw [A_eq]; try rfl

theorem found7 (c : Dev nD) (t : Fin (cfgM m).N) (Y) (h : (rdat m c).Finds 7 t Y) : Y = blk7 m c t := by
  obtain ⟨d, rfl⟩ := (rdat m c).finds_in_eq_fetched 7 rfl (fun _ _ _ => rfl) (fun _ _ _ h => h) t Y h
  unfold RDat.fetched RDat.blockOf blk7 iblk; rw [A_eq]; try rfl

theorem defs₀_row (c : Dev nD) (t : Fin (cfgM m).N) :
    defs₀ (F := F) .tc (cfgM m).body ((cfgM m).bodyArgs t ((cfgM m).slots t))
      = cc0_star3 (grid0.coords t) (Memref.whole main_v38) (Memref.isWhole_whole _) (Memref.whole main_v39) (Memref.isWhole_whole _) (Memref.whole main_v47) (Memref.isWhole_whole _) (Memref.whole main_v55) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (Memref.whole cc0_scratch0) (Memref.isWhole_whole _) := by
  unfold defs₀; rw [Defs.onTc_tc]

set_option maxHeartbeats 2000000 in
theorem sound_body (c : Dev nD) (t : Fin (cfgM m).N) (Y8 : Vec F S512x256 .bf16) :
    iprop(Inv m c t.val ∗ (rdat m c).owesAt () t.castSucc
        ∗ owns (c : Thread nD τ) (spec0_0.stage ((cfgM m).slots t 0)) fullShare (blk0 m c t)
        ∗ owns (c : Thread nD τ) (spec0_1.stage ((cfgM m).slots t 1)) fullShare (blk1 m c t)
        ∗ owns (c : Thread nD τ) (spec0_2.stage ((cfgM m).slots t 2)) fullShare (blk2 m c t)
        ∗ owns (c : Thread nD τ) (spec0_3.stage ((cfgM m).slots t 3)) fullShare (blk3 m c t)
        ∗ owns (c : Thread nD τ) (spec0_4.stage ((cfgM m).slots t 4)) fullShare (blk4 m c t)
        ∗ owns (c : Thread nD τ) (spec0_5.stage ((cfgM m).slots t 5)) fullShare (blk5 m c t)
        ∗ owns (c : Thread nD τ) (spec0_6.stage ((cfgM m).slots t 6)) fullShare (blk6 m c t)
        ∗ owns (c : Thread nD τ) (spec0_7.stage ((cfgM m).slots t 7)) fullShare (blk7 m c t)
        ∗ owns (c : Thread nD τ) (spec0_8.stage ((cfgM m).slots t 8)) fullShare Y8)
      ⊢ wp frame (wpE (defs₀ (F := F)) Variants.none c none) Set.univ (cc0_star3 (grid0.coords t) (Memref.whole main_v38) (Memref.isWhole_whole _) (Memref.whole main_v39) (Memref.isWhole_whole _) (Memref.whole main_v47) (Memref.isWhole_whole _) (Memref.whole main_v55) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (Memref.whole cc0_scratch0) (Memref.isWhole_whole _)) fun _ =>
        iprop(Inv m c (t.val + 1) ∗ (rdat m c).owesAt () t.succ
          ∗ (∃ X, ⌜X = blk0 m c t⌝ ∗ owns (c : Thread nD τ) (spec0_0.stage ((cfgM m).slots t 0)) fullShare X)
          ∗ (∃ X, ⌜X = blk1 m c t⌝ ∗ owns (c : Thread nD τ) (spec0_1.stage ((cfgM m).slots t 1)) fullShare X)
          ∗ (∃ X, ⌜X = blk2 m c t⌝ ∗ owns (c : Thread nD τ) (spec0_2.stage ((cfgM m).slots t 2)) fullShare X)
          ∗ (∃ X, ⌜X = blk3 m c t⌝ ∗ owns (c : Thread nD τ) (spec0_3.stage ((cfgM m).slots t 3)) fullShare X)
          ∗ (∃ X, ⌜X = blk4 m c t⌝ ∗ owns (c : Thread nD τ) (spec0_4.stage ((cfgM m).slots t 4)) fullShare X)
          ∗ (∃ X, ⌜X = blk5 m c t⌝ ∗ owns (c : Thread nD τ) (spec0_5.stage ((cfgM m).slots t 5)) fullShare X)
          ∗ (∃ X, ⌜X = blk6 m c t⌝ ∗ owns (c : Thread nD τ) (spec0_6.stage ((cfgM m).slots t 6)) fullShare X)
          ∗ (∃ X, ⌜X = blk7 m c t⌝ ∗ owns (c : Thread nD τ) (spec0_7.stage ((cfgM m).slots t 7)) fullShare X)
          ∗ ∃ X, ⌜∃ g, AccP m c t.val g ∧ X = outAfter m c t Y8 g⌝ ∗ owns (c : Thread nD τ) (spec0_8.stage ((cfgM m).slots t 8)) fullShare X) := by
  unfold Inv
  iintro ⟨⟨T0, T1, T2, T3, Hp, %g, %hg, Hs⟩, Ho, B0, B1, B2, B3, B4, B5, B6, B7, B8⟩
  iapply (body_step c (grid0.coords t) fullShare.right)
  isplitl [T0]; · iexact T0
  isplitl [T1]; · iexact T1
  isplitl [T2]; · iexact T2
  isplitl [T3]; · iexact T3
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [Hs]; · iexact Hs
  iintro ⟨T0, T1, T2, T3, B0, B1, B2, B3, B4, B5, B6, B7, B8, Hs⟩
  isplitl [T0 T1 T2 T3 Hp Hs]
  · isplitl [T0]; · iexact T0
    isplitl [T1]; · iexact T1
    isplitl [T2]; · iexact T2
    isplitl [T3]; · iexact T3
    isplitl [Hp]; · iexact Hp
    iexists _; isplitr; rotate_left
    · iexact Hs
    · ipureintro; exact AccP_succ m c t g hg
  isplitl [Ho]; · iexact Ho
  isplitl [B0]
  · iexists _; isplitr; rotate_left
    · iexact B0
    · ipureintro; rfl
  isplitl [B1]
  · iexists _; isplitr; rotate_left
    · iexact B1
    · ipureintro; rfl
  isplitl [B2]
  · iexists _; isplitr; rotate_left
    · iexact B2
    · ipureintro; rfl
  isplitl [B3]
  · iexists _; isplitr; rotate_left
    · iexact B3
    · ipureintro; rfl
  isplitl [B4]
  · iexists _; isplitr; rotate_left
    · iexact B4
    · ipureintro; rfl
  isplitl [B5]
  · iexists _; isplitr; rotate_left
    · iexact B5
    · ipureintro; rfl
  isplitl [B6]
  · iexists _; isplitr; rotate_left
    · iexact B6
    · ipureintro; rfl
  isplitl [B7]
  · iexists _; isplitr; rotate_left
    · iexact B7
    · ipureintro; rfl
  iexists _; isplitr; rotate_left
  · iexact B8
  · ipureintro; exact ⟨g, hg, rfl⟩

theorem body_obligation (c : Dev nD) : (rdat m c).BodyObligation (defs₀ (F := F)) Variants.none () Set.univ := fun t Y hY => by
  have h0 := found0 m c t _ (hY 0)
  have h1 := found1 m c t _ (hY 1)
  have h2 := found2 m c t _ (hY 2)
  have h3 := found3 m c t _ (hY 3)
  have h4 := found4 m c t _ (hY 4)
  have h5 := found5 m c t _ (hY 5)
  have h6 := found6 m c t _ (hY 6)
  have h7 := found7 m c t _ (hY 7)
  rw [bigSep_W0, bigSep_W0, defs₀_row m c t, h0, h1, h2, h3, h4, h5, h6, h7]
  have e1 : (rdat m c).Φ t.castSucc = Inv m c t.val := by rw [Φ_eq, Fin.val_castSucc]
  have e2 : (rdat m c).Φ t.succ = Inv m c (t.val + 1) := by rw [Φ_eq, Fin.val_succ]
  rw [e1, e2]
  refine triple_restated (sound_body m c t (Y 8)) rfl ?_ fun _ => ?_
  · iintro ⟨Hi, Ho, B0, B1, B2, B3, B4, B5, B6, B7, B8⟩
    isplitl [Hi]; · iexact Hi
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  · iintro ⟨Hi, Ho, B0, B1, B2, B3, B4, B5, B6, B7, B8⟩
    isplitl [Hi]; · iexact Hi
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8

end Cert.KernelCIdeal.Gen

end
-- ==== Proof.CBlocks.lean ====
module

public import proofs.«01_k».proof.Proof.CRun
public import proofs.«01_k».proof.Proof.Shared

/-!
The blocks of the inputs at a grid point, as parts of the argument arrays.
-/

@[expose] public section

set_option maxRecDepth 16384

noncomputable section

namespace Cert.KernelCIdeal.Gen

open Cert.Shared Idealize.ShloMosaic Idealize.ShloMosaic.TcCoe Idealize.ShloMosaic.Tactic
open Cert.Spec (at1 at2 at3 at1_of at2_of at3_of)

variable (m : (ℓ : Loc nD τ sig) → Buf (Elt Ideal) ℓ)

/-- The grid point's block numbers: of the rows, of the domain, of the step, of the columns. -/
abbrev tileN (t : Fin (cfgM m).N) : ℕ := (word0 m (grid0.coords t)).toNat
abbrev domN (t : Fin (cfgM m).N) : ℕ := (word1 m (grid0.coords t)).toNat
abbrev stepN (t : Fin (cfgM m).N) : ℕ := (kidx m (grid0.coords t)).toNat
abbrev colN (t : Fin (cfgM m).N) : ℕ := (BitVec.ofNat 32 (grid0.coords t 0).val).toNat

/-- The float arguments. -/
def argsK : Spec.Args 1152 18 256 where
  codes := m (((0 : Dev nD).tc : Thread nD τ).loc main_arg1)
  sx := m (((0 : Dev nD).tc : Thread nD τ).loc main_arg2)
  ws := m (((0 : Dev nD).tc : Thread nD τ).loc main_arg3)
  ss := m (((0 : Dev nD).tc : Thread nD τ).loc main_arg4)
  wp := m (((0 : Dev nD).tc : Thread nD τ).loc main_arg5)
  sp := m (((0 : Dev nD).tc : Thread nD τ).loc main_arg6)
  bs := m (((0 : Dev nD).tc : Thread nD τ).loc main_arg7)
  bp := m (((0 : Dev nD).tc : Thread nD τ).loc main_arg8)

theorem rd0 (a : (pcfg0 (F := Ideal)).Adm) (t : Fin (cfg0 a).N) (A : S4096x1152.Idx → EReal) (r : Fin 512) (x : Fin 1152) (i k : ℕ)
    (hf : cc0_transform_0 k0_off1_inb numel1_S1 a.1 (grid0.coords t) = ![i, k]) :
    (((((cfg0 a).win 0).blk t).view.read (Elt Ideal) A : S512x1152.Idx → EReal) (ix2 r x) : EReal) = at2 A (i * 512 + r.val) (k * 1152 + x.val) :=
  at2_block A ((((cfg0 a).win 0).blk t).view.emb (ix2 r x : S512x1152.Idx)) _ i k 512 (r.val) 1152 (x.val) hf
    (Pipeline.Window.rect_emb_val ((cfg0 a).win 0) t (ix2 r x : S512x1152.Idx) (0 : Fin 2) rfl) (Pipeline.Window.rect_emb_val ((cfg0 a).win 0) t (ix2 r x : S512x1152.Idx) (1 : Fin 2) rfl)

theorem rd1 (a : (pcfg0 (F := Ideal)).Adm) (t : Fin (cfg0 a).N) (A : S4096x1.Idx → EReal) (r : Fin 512) (i k : ℕ)
    (hf : cc0_transform_1 k0_off1_inb numel1_S1 a.1 (grid0.coords t) = ![i, k]) :
    (((((cfg0 a).win 1).blk t).view.read (Elt Ideal) A : S512x1.Idx → EReal) (ix2 r 0) : EReal) = at2 A (i * 512 + r.val) (k * 1 + 0) :=
  at2_block A ((((cfg0 a).win 1).blk t).view.emb (ix2 r 0 : S512x1.Idx)) _ i k 512 (r.val) 1 (0) hf
    (Pipeline.Window.rect_emb_val ((cfg0 a).win 1) t (ix2 r 0 : S512x1.Idx) (0 : Fin 2) rfl) (Pipeline.Window.rect_emb_val ((cfg0 a).win 1) t (ix2 r 0 : S512x1.Idx) (1 : Fin 2) rfl)

theorem rd2 (a : (pcfg0 (F := Ideal)).Adm) (t : Fin (cfg0 a).N) (A : S1152x256.Idx → EReal) (x : Fin 1152) (c : Fin 256) (i k : ℕ)
    (hf : cc0_transform_2 k0_off1_inb numel1_S1 a.1 (grid0.coords t) = ![i, k]) :
    (((((cfg0 a).win 2).blk t).view.read (Elt Ideal) A : S1152x256.Idx → EReal) (ix2 x c) : EReal) = at2 A (i * 1152 + x.val) (k * 256 + c.val) :=
  at2_block A ((((cfg0 a).win 2).blk t).view.emb (ix2 x c : S1152x256.Idx)) _ i k 1152 (x.val) 256 (c.val) hf
    (Pipeline.Window.rect_emb_val ((cfg0 a).win 2) t (ix2 x c : S1152x256.Idx) (0 : Fin 2) rfl) (Pipeline.Window.rect_emb_val ((cfg0 a).win 2) t (ix2 x c : S1152x256.Idx) (1 : Fin 2) rfl)

theorem rd3 (a : (pcfg0 (F := Ideal)).Adm) (t : Fin (cfg0 a).N) (A : S18x256.Idx → EReal) (x : Fin 18) (c : Fin 256) (i k : ℕ)
    (hf : cc0_transform_3 k0_off1_inb numel1_S1 a.1 (grid0.coords t) = ![i, k]) :
    (((((cfg0 a).win 3).blk t).view.read (Elt Ideal) A : S18x256.Idx → EReal) (ix2 x c) : EReal) = at2 A (i * 18 + x.val) (k * 256 + c.val) :=
  at2_block A ((((cfg0 a).win 3).blk t).view.emb (ix2 x c : S18x256.Idx)) _ i k 18 (x.val) 256 (c.val) hf
    (Pipeline.Window.rect_emb_val ((cfg0 a).win 3) t (ix2 x c : S18x256.Idx) (0 : Fin 2) rfl) (Pipeline.Window.rect_emb_val ((cfg0 a).win 3) t (ix2 x c : S18x256.Idx) (1 : Fin 2) rfl)

theorem rd4 (a : (pcfg0 (F := Ideal)).Adm) (t : Fin (cfg0 a).N) (A : S5x1152x256.Idx → EReal) (x : Fin 1152) (c : Fin 256) (d i k : ℕ)
    (hf : cc0_transform_4 k0_off1_inb numel1_S1 a.1 (grid0.coords t) = ![d, i, k]) :
    (((((cfg0 a).win 4).blk t).view.read (Elt Ideal) A : S1x1152x256.Idx → EReal) (ix3 0 x c) : EReal) = at3 A (d * 1 + 0) (i * 1152 + x.val) (k * 256 + c.val) :=
  at3_block A ((((cfg0 a).win 4).blk t).view.emb (ix3 0 x c : S1x1152x256.Idx)) _ d i k 1 (0) 1152 (x.val) 256 (c.val) hf
    (Pipeline.Window.rect_emb_val ((cfg0 a).win 4) t (ix3 0 x c : S1x1152x256.Idx) (0 : Fin 3) rfl) (Pipeline.Window.rect_emb_val ((cfg0 a).win 4) t (ix3 0 x c : S1x1152x256.Idx) (1 : Fin 3) rfl) (Pipeline.Window.rect_emb_val ((cfg0 a).win 4) t (ix3 0 x c : S1x1152x256.Idx) (2 : Fin 3) rfl)

theorem rd5 (a : (pcfg0 (F := Ideal)).Adm) (t : Fin (cfg0 a).N) (A : S5x18x256.Idx → EReal) (x : Fin 18) (c : Fin 256) (d i k : ℕ)
    (hf : cc0_transform_5 k0_off1_inb numel1_S1 a.1 (grid0.coords t) = ![d, i, k]) :
    (((((cfg0 a).win 5).blk t).view.read (Elt Ideal) A : S1x18x256.Idx → EReal) (ix3 0 x c) : EReal) = at3 A (d * 1 + 0) (i * 18 + x.val) (k * 256 + c.val) :=
  at3_block A ((((cfg0 a).win 5).blk t).view.emb (ix3 0 x c : S1x18x256.Idx)) _ d i k 1 (0) 18 (x.val) 256 (c.val) hf
    (Pipeline.Window.rect_emb_val ((cfg0 a).win 5) t (ix3 0 x c : S1x18x256.Idx) (0 : Fin 3) rfl) (Pipeline.Window.rect_emb_val ((cfg0 a).win 5) t (ix3 0 x c : S1x18x256.Idx) (1 : Fin 3) rfl) (Pipeline.Window.rect_emb_val ((cfg0 a).win 5) t (ix3 0 x c : S1x18x256.Idx) (2 : Fin 3) rfl)

theorem rd6 (a : (pcfg0 (F := Ideal)).Adm) (t : Fin (cfg0 a).N) (A : S1x256.Idx → EReal) (c : Fin 256) (i k : ℕ)
    (hf : cc0_transform_6 (grid0.coords t) = ![i, k]) :
    (((((cfg0 a).win 6).blk t).view.read (Elt Ideal) A : S1x256.Idx → EReal) (ix2 0 c) : EReal) = at2 A (i * 1 + 0) (k * 256 + c.val) :=
  at2_block A ((((cfg0 a).win 6).blk t).view.emb (ix2 0 c : S1x256.Idx)) _ i k 1 (0) 256 (c.val) hf
    (Pipeline.Window.rect_emb_val ((cfg0 a).win 6) t (ix2 0 c : S1x256.Idx) (0 : Fin 2) rfl) (Pipeline.Window.rect_emb_val ((cfg0 a).win 6) t (ix2 0 c : S1x256.Idx) (1 : Fin 2) rfl)

theorem rd7 (a : (pcfg0 (F := Ideal)).Adm) (t : Fin (cfg0 a).N) (A : S5x1x256.Idx → EReal) (c : Fin 256) (d i k : ℕ)
    (hf : cc0_transform_7 k0_off1_inb numel1_S1 a.1 (grid0.coords t) = ![d, i, k]) :
    (((((cfg0 a).win 7).blk t).view.read (Elt Ideal) A : S1x1x256.Idx → EReal) (ix3 0 0 c) : EReal) = at3 A (d * 1 + 0) (i * 1 + 0) (k * 256 + c.val) :=
  at3_block A ((((cfg0 a).win 7).blk t).view.emb (ix3 0 0 c : S1x1x256.Idx)) _ d i k 1 (0) 1 (0) 256 (c.val) hf
    (Pipeline.Window.rect_emb_val ((cfg0 a).win 7) t (ix3 0 0 c : S1x1x256.Idx) (0 : Fin 3) rfl) (Pipeline.Window.rect_emb_val ((cfg0 a).win 7) t (ix3 0 0 c : S1x1x256.Idx) (1 : Fin 3) rfl) (Pipeline.Window.rect_emb_val ((cfg0 a).win 7) t (ix3 0 0 c : S1x1x256.Idx) (2 : Fin 3) rfl)

theorem blk0_at (t : Fin (cfgM m).N) (r : Fin 512) (x : Fin 1152) :
    (blk0 m 0 t (ix2 r x) : EReal) = at2 (argsK m).codes (tileN m t * 512 + r.val) (stepN m t * 1152 + x.val) :=
  (rd0 (adm m) t (V m 0 main_arg1) r x _ _ (tr0 m _)).trans
    (congrArg (fun A : S4096x1152.Idx → EReal => at2 A (tileN m t * 512 + r.val) (stepN m t * 1152 + x.val)) (V_arg m 0 main_arg1 (by decide)))

theorem blk1_at (t : Fin (cfgM m).N) (r : Fin 512) :
    (blk1 m 0 t (ix2 r 0) : EReal) = at2 (argsK m).sx (tileN m t * 512 + r.val) (0 * 1 + 0) :=
  (rd1 (adm m) t (V m 0 main_arg2) r _ _ (tr1 m _)).trans
    (congrArg (fun A : S4096x1.Idx → EReal => at2 A (tileN m t * 512 + r.val) (0 * 1 + 0)) (V_arg m 0 main_arg2 (by decide)))

theorem blk2_at (t : Fin (cfgM m).N) (x : Fin 1152) (c : Fin 256) :
    (blk2 m 0 t (ix2 x c) : EReal) = at2 (argsK m).ws (stepN m t * 1152 + x.val) (colN m t * 256 + c.val) :=
  (rd2 (adm m) t (V m 0 main_arg3) x c _ _ (tr2 m _)).trans
    (congrArg (fun A : S1152x256.Idx → EReal => at2 A (stepN m t * 1152 + x.val) (colN m t * 256 + c.val)) (V_arg m 0 main_arg3 (by decide)))

theorem blk3_at (t : Fin (cfgM m).N) (x : Fin 18) (c : Fin 256) :
    (blk3 m 0 t (ix2 x c) : EReal) = at2 (argsK m).ss (stepN m t * 18 + x.val) (colN m t * 256 + c.val) :=
  (rd3 (adm m) t (V m 0 main_arg4) x c _ _ (tr3 m _)).trans
    (congrArg (fun A : S18x256.Idx → EReal => at2 A (stepN m t * 18 + x.val) (colN m t * 256 + c.val)) (V_arg m 0 main_arg4 (by decide)))

theorem blk4_at (t : Fin (cfgM m).N) (x : Fin 1152) (c : Fin 256) :
    (blk4 m 0 t (ix3 0 x c) : EReal) = at3 (argsK m).wp (domN m t * 1 + 0) (stepN m t * 1152 + x.val) (colN m t * 256 + c.val) :=
  (rd4 (adm m) t (V m 0 main_arg5) x c _ _ _ (tr4 m _)).trans
    (congrArg (fun A : S5x1152x256.Idx → EReal => at3 A (domN m t * 1 + 0) (stepN m t * 1152 + x.val) (colN m t * 256 + c.val)) (V_arg m 0 main_arg5 (by decide)))

theorem blk5_at (t : Fin (cfgM m).N) (x : Fin 18) (c : Fin 256) :
    (blk5 m 0 t (ix3 0 x c) : EReal) = at3 (argsK m).sp (domN m t * 1 + 0) (stepN m t * 18 + x.val) (colN m t * 256 + c.val) :=
  (rd5 (adm m) t (V m 0 main_arg6) x c _ _ _ (tr5 m _)).trans
    (congrArg (fun A : S5x18x256.Idx → EReal => at3 A (domN m t * 1 + 0) (stepN m t * 18 + x.val) (colN m t * 256 + c.val)) (V_arg m 0 main_arg6 (by decide)))

section Host
variable (W : Valuation τ sig (Elt Ideal))

theorem read_v56 (c : Fin 256) : (StableHlo.after (hostOps0_10 (F := Ideal)) W main_v56 : S1x256.Idx → EReal) (ix2 0 c)
    = (StableHlo.after (hostOps0_10 (F := Ideal)) W main_arg7 : S256.Idx → EReal) (ix1 c) := by
  after_reads_at

theorem read_v57 (d : Fin 5) (c : Fin 256) : (StableHlo.after (hostOps0_10 (F := Ideal)) W main_v57 : S5x1x256.Idx → EReal) (ix3 d 0 c)
    = (StableHlo.after (hostOps0_10 (F := Ideal)) W main_arg8 : S5x256.Idx → EReal) (ix2 d c) := by
  after_reads_at

end Host

end Cert.KernelCIdeal.Gen
-- ==== Proof.CStep.lean ====
module

public import proofs.«01_k».proof.Proof.CBlocks

/-!
What one grid point does, as formulas: at a live item the accumulator is the whole sum, and the item's rows are written.
-/

@[expose] public section

set_option maxRecDepth 16384

noncomputable section

namespace Cert.KernelCIdeal.Gen

open Cert.Shared Idealize.ShloMosaic Idealize.ShloMosaic.TcCoe Idealize.ShloMosaic.Tactic
open Cert.Spec (at1 at2 at3 at1_of at2_of at3_of)

variable (m : (ℓ : Loc nD τ sig) → Buf (Elt Ideal) ℓ)

theorem V_v56 (c : Fin 256) : (V m 0 main_v56 : S1x256.Idx → EReal) (ix2 0 c) = (argsK m).bs (ix1 c) :=
  (congrFun (V_eq m 0 main_v56) _).trans ((read_v56 (W9 (M0 m)) c).trans
    ((congrFun (V_eq m 0 main_arg7) _).symm.trans (congrFun (V_arg m 0 main_arg7 (by decide)) _)))

theorem V_v57 (d : Fin 5) (c : Fin 256) : (V m 0 main_v57 : S5x1x256.Idx → EReal) (ix3 d 0 c) = (argsK m).bp (ix2 d c) :=
  (congrFun (V_eq m 0 main_v57) _).trans ((read_v57 (W9 (M0 m)) d c).trans
    ((congrFun (V_eq m 0 main_arg8) _).symm.trans (congrFun (V_arg m 0 main_arg8 (by decide)) _)))

theorem blk6_at (t : Fin (cfgM m).N) (c : Fin 256) :
    (blk6 m 0 t (ix2 0 c) : EReal) = at1 (argsK m).bs (colN m t * 256 + c.val) :=
  (rd6 (adm m) t (V m 0 main_v56) c 0 (colN m t) rfl).trans (at2_row _ _ (V_v56 m) _)

theorem blk7_at (t : Fin (cfgM m).N) (c : Fin 256) :
    (blk7 m 0 t (ix3 0 0 c) : EReal) = at2 (argsK m).bp (domN m t) (colN m t * 256 + c.val) :=
  (rd7 (adm m) t (V m 0 main_v57) c (domN m t) 0 (colN m t) (tr7 m _)).trans
    ((at3_row _ _ (V_v57 m) _ _).trans (by rw [Nat.mul_one, Nat.add_zero]))

/-- The one step reads the weights from the first on, and the one block of columns from the first. -/
theorem stepN_eq (t : Fin (cfgM m).N) : stepN m t = 0 := Nat.lt_one_iff.mp (kidx_lt m _)

theorem colN_eq (t : Fin (cfgM m).N) : colN m t = 0 := Nat.lt_one_iff.mp (j_lt _)

theorem step_term (t : Fin (cfgM m).N) (r : Fin 512) (c : Fin 256) (x : Fin 1152) :
    (blk0 m 0 t (ix2 r x) : EReal) * ((blk2 m 0 t (ix2 x c) : EReal) * (blk4 m 0 t (ix3 0 x c) : EReal)
      * ((blk3 m 0 t (ix2 ⟨x.val / 64, by omega⟩ c) : EReal) * (blk5 m 0 t (ix3 0 ⟨x.val / 64, by omega⟩ c) : EReal)))
    = Spec.term (argsK m) (domN m t) (tileN m t * 512 + r.val) (colN m t * 256 + c.val) x.val := by
  rw [blk0_at, blk2_at, blk3_at, blk4_at, blk5_at, stepN_eq]
  unfold Spec.term
  simp only [Nat.zero_mul, Nat.zero_add, Nat.mul_one, Nat.add_zero]

theorem pay2_at (v7 : Vec Ideal S18x256 .f32) (v8 : Vec Ideal S1x18x256 .f32) (v12 : Vec Ideal S1152x256 .fp8e4m3) (v14 : Vec Ideal S1x1152x256 .fp8e4m3)
    (v23 : Vec Ideal S512x1152 .fp8e4m3) (r : Fin 512) (c : Fin 256) :
    (k0_pay2 v7 v8 v12 v14 v23 (ix2 r c) : EReal) = ∑ x : Fin 1152, (v23 (ix2 r x) : EReal) * ((v12 (ix2 x c) : EReal) * (v14 (ix3 0 x c) : EReal)
      * ((v7 (ix2 ⟨x.val / 64, by omega⟩ c) : EReal) * (v8 (ix3 0 ⟨x.val / 64, by omega⟩ c) : EReal))) := by
  unfold k0_pay2 k0_pay1
  pointwise
  try rfl

theorem pay4_at (lo hi tile : BitVec 32) (a : Vec Ideal S512x256 .f32) (x8 : Vec Ideal S512x1 .f32) (x13 : Vec Ideal S1x256 .f32) (x14 : Vec Ideal S1x1x256 .f32)
    (out : Vec Ideal S512x256 .bf16) (r : Fin 512) (c : Fin 256) (ht : tile.toNat < 8) :
    (k0_pay4 (F := Ideal) lo hi a x8 x13 x14 tile out (ix2 r c) : EReal)
      = if lo.toInt ≤ ((tile.toNat * 512 + r.val : ℕ) : ℤ) ∧ ((tile.toNat * 512 + r.val : ℕ) : ℤ) < hi.toInt then
          (a (ix2 r c) : EReal) * (x8 (ix2 r 0) : EReal) + ((x13 (ix2 0 c) : EReal) + (x14 (ix3 0 0 c) : EReal)) else (out (ix2 r c) : EReal) := by
  unfold k0_pay4
  pointwise
  rw [WordCmp.cmpi_sge_eq, WordCmp.cmpi_slt_eq, row_word tile r ht]
  unfold Scalar.select
  generalize ((tile.toNat * 512 + r.val : ℕ) : ℤ) = R
  by_cases h1 : lo.toInt ≤ R <;> by_cases h2 : R < hi.toInt <;> simp [h1, h2, IntOp.andi]

theorem cond1_iff (lo hi : BitVec 32) : k0_cond1 lo hi = 1#1 ↔ lo.toInt < hi.toInt := gt_bit lo hi

/-- The rows of the item at point `t`. -/
abbrev loZ (t : Fin (cfgM m).N) : ℤ := (word2 m (grid0.coords t)).toInt
abbrev hiZ (t : Fin (cfgM m).N) : ℤ := (word3 m (grid0.coords t)).toInt

/-- At a live item the accumulator is the whole sum; -/
theorem acc_live (t : Fin (cfgM m).N) (g : Vec Ideal S512x256 .f32) (hl : loZ m t < hiZ m t) (r : Fin 512) (c : Fin 256) :
    (accAfter m 0 t g (ix2 r c) : EReal)
      = Spec.dot (argsK m) (domN m t) (tileN m t * 512 + r.val) (colN m t * 256 + c.val) 1152 := by
  unfold accAfter accNext
  rw [if_pos ((cond1_iff _ _).mpr hl), pay2_at, Spec.dot_all]
  exact Finset.sum_congr rfl fun x _ => step_term m t r c x

/-- the item's rows are written from it. -/
theorem out_live (t : Fin (cfgM m).N) (Y : Vec Ideal S512x256 .bf16) (g : Vec Ideal S512x256 .f32) (hl : loZ m t < hiZ m t)
    (r : Fin 512) (c : Fin 256) :
    (outAfter m 0 t Y g (ix2 r c) : EReal)
      = if loZ m t ≤ ((tileN m t * 512 + r.val : ℕ) : ℤ) ∧ ((tileN m t * 512 + r.val : ℕ) : ℤ) < hiZ m t then
          Spec.result (argsK m) (domN m t) (tileN m t * 512 + r.val) (colN m t * 256 + c.val)
        else (Y (ix2 r c) : EReal) := by
  have ha := acc_live m t g hl r c
  unfold accAfter at ha
  unfold outAfter outNext
  rw [if_pos ((cond1_iff _ _).mpr hl), pay4_at _ _ _ _ _ _ _ _ _ _ (tile_lt m _), blk1_at, blk6_at, blk7_at, ha]
  rfl

/-- At an item with no rows the output block stays. -/
theorem out_other (t : Fin (cfgM m).N) (Y : Vec Ideal S512x256 .bf16) (g : Vec Ideal S512x256 .f32) (h : ¬ loZ m t < hiZ m t) :
    outAfter m 0 t Y g = Y := by
  unfold outAfter outNext
  rw [if_neg (fun e => h ((cond1_iff _ _).mp e))]

end Cert.KernelCIdeal.Gen
-- ==== Proof.CWords.lean ====
module

public import proofs.«01_k».proof.Proof.CEntry
public import proofs.«01_k».proof.Proof.Shared

/-!
What the four tables say at a grid point when the offsets are in order: the tiles of the slots do not decrease, the rows
between a slot's first and last are rows of its pair, and every row of the output is in some slot of its tile.
-/

@[expose] public section

set_option maxRecDepth 16384

noncomputable section

namespace Cert.KernelCIdeal.Gen

open Cert.Shared Idealize.ShloMosaic Idealize.ShloMosaic.TcCoe
open Cert.Items (Good livePairs)

variable {F : FTy → Type} [FloatOps F]
variable (m : (ℓ : Loc nD τ sig) → Buf (Elt F) ℓ)

theorem word_lo (i : grid0.Coords) : word2 m i = Scalar.select (IntOp.cmpi .sge (BitVec.ofNat 32 (slotOf i).val) (liveCount (liveArr (M0 m)))) 0#32
    (Items.rowLo (offs (M0 m)) (pickOf (M0 m) (slotOf i))) :=
  (congrFun (V_eq m 0 main_v47) _).trans (tab_lo (M0 m) _)

theorem word_hi (i : grid0.Coords) : word3 m i = Scalar.select (IntOp.cmpi .sge (BitVec.ofNat 32 (slotOf i).val) (liveCount (liveArr (M0 m)))) 0#32
    (Items.rowHi (offs (M0 m)) (pickOf (M0 m) (slotOf i))) :=
  (congrFun (V_eq m 0 main_v55) _).trans (tab_hi (M0 m) _)

/-- The slot a grid point works on is its second coordinate. -/
theorem slotOf_val (i : grid0.Coords) : (slotOf i).val = (i 1).val := by
  have h1 : (i 1).val < 12 := (i 1).isLt
  show (BitVec.ofNat 32 (i 1).val).toNat + 1 * 0 = _
  rw [BitVec.toNat_ofNat]; omega

/-- The host's sum of the live bits is the number of live pairs. -/
theorem count_eq (off : Fin 6 → BitVec 32) : liveCount (fun x => Items.live off (x 0)) = BitVec.ofNat 32 (livePairs off).length := by
  have h := Items.foldl_count (Items.live off) (List.finRange 40) 0
  rw [Nat.zero_add] at h
  refine Eq.trans ?_ h
  unfold liveCount Host.reduce
  rw [List.filter_eq_self.mpr (fun n _ => by rw [decide_eq_true_eq]; exact funext fun a => a.elim0)]
  show List.foldl (fun r (n : Fin 40) => IntOp.addi r ((Items.live off (S40.rowMajor.symm n 0)).setWidth 32)) (BitVec.ofNat 32 0) (List.finRange 40) = _
  refine congrArg (fun f => List.foldl f _ _) (funext fun r => funext fun n => ?_)
  have h : ∀ n : Fin 40, (S40.rowMajor.symm n 0).val = n.val := by decide +kernel
  have e : S40.rowMajor.symm n 0 = n := Fin.ext (h n)
  rw [e]

variable (g : Good (offs (M0 m)))

theorem pickOf_eq (x : Fin 12) : pickOf (M0 m) x = Items.pick (offs (M0 m)) (BitVec.ofNat 32 (livePairs (offs (M0 m))).length) x.val := by
  unfold pickOf liveArr; rw [count_eq]

include g

theorem count_lt : (livePairs (offs (M0 m))).length ≤ 12 := Items.length_le _ g

/-- The tile of a later slot is no smaller. -/
theorem tile_mono (i i' : grid0.Coords) (h : (i 1).val ≤ (i' 1).val) : (word0 m i).toNat ≤ (word0 m i').toNat := by
  have hx := Items.pick_mono _ g (slotOf i) (slotOf i') (by rw [Fin.le_def, slotOf_val, slotOf_val]; exact h)
  rw [word_tile, word_tile, BitVec.toNat_ofNat, BitVec.toNat_ofNat, pickOf_eq, pickOf_eq]
  omega

/-- A row between the slot's first and last is a row of its pair. -/
theorem row_of_slot (i : grid0.Coords) (r : ℤ) (h0 : 0 ≤ r) (h1 : (word2 m i).toInt ≤ r) (h2 : r < (word3 m i).toInt) :
    (Items.rowLo (offs (M0 m)) (pickOf (M0 m) (slotOf i))).toInt ≤ r ∧ r < (Items.rowHi (offs (M0 m)) (pickOf (M0 m) (slotOf i))).toInt := by
  rw [word_lo] at h1; rw [word_hi] at h2
  unfold Scalar.select at h1 h2
  split at h1
  · rename_i hc; rw [if_pos hc] at h2
    exact absurd h2 (by simpa using h0)
  · rename_i hc; rw [if_neg hc] at h2
    exact ⟨h1, h2⟩

/-- Two slots with a row in common have the same domain. -/
theorem dom_unique (i i' : grid0.Coords) (r : ℤ) (h0 : 0 ≤ r) (h1 : (word2 m i).toInt ≤ r) (h2 : r < (word3 m i).toInt)
    (h3 : (word2 m i').toInt ≤ r) (h4 : r < (word3 m i').toInt) : (word1 m i).toNat = (word1 m i').toNat := by
  obtain ⟨a1, a2⟩ := row_of_slot m g i r h0 h1 h2
  obtain ⟨b1, b2⟩ := row_of_slot m g i' r h0 h3 h4
  have h := Items.same_domain _ g _ _ r a1 a2 b1 b2
  rw [word_dom, word_dom, h]

/-- A slot's rows lie in its domain's share. -/
theorem row_in_dom (i : grid0.Coords) (r : ℤ) (h0 : 0 ≤ r) (h1 : (word2 m i).toInt ≤ r) (h2 : r < (word3 m i).toInt) :
    Items.at' (offs (M0 m)) (word1 m i).toNat ≤ r ∧ r < Items.at' (offs (M0 m)) ((word1 m i).toNat + 1) := by
  obtain ⟨a1, a2⟩ := row_of_slot m g i r h0 h1 h2
  rw [Items.rowLo_toInt] at a1; rw [Items.rowHi_toInt] at a2
  have : (word1 m i).toNat = (pickOf (M0 m) (slotOf i)).val % 5 := by rw [word_dom, BitVec.toNat_ofNat]; omega
  rw [this]; omega

/-- Every row is in some slot of its tile. -/
theorem exists_point (r : ℕ) (hr : r < 4096) : ∃ x : Fin 12, ∀ i : grid0.Coords, (i 1).val = x.val →
    (word0 m i).toNat = r / 512 ∧ (word2 m i).toInt ≤ r ∧ (r : ℤ) < (word3 m i).toInt := by
  obtain ⟨x, hl, ht, h1, h2⟩ := Items.exists_slot _ g r hr
  have hle := count_lt m g
  refine ⟨x, fun i hi => ?_⟩
  have hs : slotOf i = x := Fin.ext (by rw [slotOf_val]; exact hi)
  have hc : IntOp.cmpi .sge (BitVec.ofNat 32 x.val) (liveCount (liveArr (M0 m))) ≠ 1#1 := by
    unfold liveArr; rw [count_eq, WordCmp.cmpi_sge_eq]
    have hx := x.isLt
    have e1 : (BitVec.ofNat 32 x.val).toInt = x.val := toInt_small _ (by omega)
    have e2 : (BitVec.ofNat 32 (livePairs (offs (M0 m))).length).toInt = (livePairs (offs (M0 m))).length := toInt_small _ (by omega)
    rw [e1, e2]
    have : ¬ ((livePairs (offs (M0 m))).length : ℤ) ≤ x.val := by omega
    simp [this]
  rw [word_tile, word_lo, word_hi, hs]
  unfold Scalar.select
  rw [if_neg (show ¬ _ = (1 : BitVec 1) from hc), if_neg (show ¬ _ = (1 : BitVec 1) from hc), pickOf_eq]
  refine ⟨?_, h1, h2⟩
  rw [BitVec.toNat_ofNat, ht]; omega

end Cert.KernelCIdeal.Gen
-- ==== Proof.CValue.lean ====
module

public import proofs.«01_k».proof.Proof.CStep
public import proofs.«01_k».proof.Proof.CWords

/-!
What the output's block holds at each grid point: the right value in every row of the items of its tile so far.
-/

@[expose] public section

set_option maxRecDepth 16384

noncomputable section

namespace Cert.KernelCIdeal.Gen

open Idealize.ShloMosaic Idealize.ShloMosaic.TcCoe Idealize.ShloMosaic.Tactic
open Idealize.ShloMosaic.Pipeline (RDat Cfg Window)
open Cert.Items (Good)

variable (m : (ℓ : Loc nD τ sig) → Buf (Elt Ideal) ℓ)

theorem points : grid0.N = 12 := N_0

theorem coord_val : ∀ t : Fin grid0.N, (grid0.coords t 1).val = t.val := by
  decide +kernel

theorem leaves_exists {C : Cfg sig Λ₀} {d : Dev nD} (rd : RDat τ (Elt Ideal) Unit ℕ (UR sig nD τ) ℕ C d) (w : Fin C.W) (t : Fin C.N)
    (X : (C.win w).block.Idx → Elt Ideal (C.win w).elt) (h : rd.Leaves w t X) : ∃ Y, rd.Finds w t Y ∧ rd.after w t Y X := h

theorem leaves8 (t : Fin (cfgM m).N) (X : Vec Ideal S512x256 .bf16) (h : (rdat m 0).Leaves 8 t X) :
    ∃ Y : Vec Ideal S512x256 .bf16, (rdat m 0).Finds 8 t Y ∧ ∃ g, AccP m 0 t.val g ∧ X = outAfter m 0 t Y g :=
  leaves_exists (rdat m 0) 8 t X h

theorem index8 (t : Fin (cfgM m).N) : ((cfgM m).win 8).index t = ![tileN m t, colN m t] := tr8 m _

theorem flush8_ne (t : Fin (cfgM m).N) (h : t.val + 1 < (cfgM m).N) (hf : ((cfgM m).win 8).flush t = true) :
    ¬ tileN m ⟨t.val + 1, h⟩ = tileN m t := by
  intro h0
  unfold Window.flush at hf
  simp only [Bool.and_eq_true, Bool.or_eq_true, decide_eq_true_eq] at hf
  rcases hf.2 with e | ⟨_, e⟩
  · exact absurd e (Nat.ne_of_lt h)
  · exact e (by rw [index8, index8, h0, colN_eq, colN_eq])

/-- A point leaves the right value in the rows of its own item. -/
theorem out_own (t t' : Fin (cfgM m).N) (h : t'.val = t.val) (X : Vec Ideal S512x256 .bf16) (hX : (rdat m 0).Leaves 8 t X) (r : Fin 512) (c : Fin 256)
    (h1 : loZ m t' ≤ ((tileN m t * 512 + r.val : ℕ) : ℤ)) (h2 : ((tileN m t * 512 + r.val : ℕ) : ℤ) < hiZ m t') :
    (X (ix2 r c) : EReal) = Spec.result (argsK m) (domN m t') (tileN m t * 512 + r.val) (colN m t * 256 + c.val) := by
  have e : t' = t := Fin.ext h
  rw [e] at h1 h2 ⊢
  have hl : loZ m t < hiZ m t := lt_of_le_of_lt h1 h2
  obtain ⟨Y, -, a, -, hXe⟩ := leaves8 m t X hX
  rw [hXe, out_live m t Y a hl, if_pos ⟨h1, h2⟩]

variable (g : Good (offs (M0 m)))
include g

/-- A later point has a tile no smaller. -/
theorem tileN_mono (t t' : Fin (cfgM m).N) (h : t.val ≤ t'.val) : tileN m t ≤ tileN m t' :=
  tile_mono m g _ _ (by rw [coord_val, coord_val]; exact h)

theorem between (t t1 t2 : Fin (cfgM m).N) (h1 : t.val ≤ t1.val) (h2 : t1.val ≤ t2.val) (ht : tileN m t = tileN m t2) :
    tileN m t1 = tileN m t2 := by
  have a := tileN_mono m g t t1 h1
  have b := tileN_mono m g t1 t2 h2
  omega

/-- The output's block after point `n` has the right value in every row of the items of its tile so far. -/
theorem out_inv : ∀ (n : ℕ) (hn : n < (cfgM m).N) (X : Vec Ideal S512x256 .bf16), (rdat m 0).Leaves 8 ⟨n, hn⟩ X →
    ∀ t' : Fin (cfgM m).N, t'.val ≤ n → tileN m t' = tileN m ⟨n, hn⟩ →
    ∀ (r : Fin 512) (c : Fin 256), loZ m t' ≤ ((tileN m ⟨n, hn⟩ * 512 + r.val : ℕ) : ℤ) → ((tileN m ⟨n, hn⟩ * 512 + r.val : ℕ) : ℤ) < hiZ m t' →
    (X (ix2 r c) : EReal) = Spec.result (argsK m) (domN m t') (tileN m ⟨n, hn⟩ * 512 + r.val) (colN m ⟨n, hn⟩ * 256 + c.val) := by
  intro n
  induction n with
  | zero =>
    intro hn X hX t' hle _ r c h1 h2
    exact out_own m _ t' (Nat.le_zero.mp hle) X hX r c h1 h2
  | succ n ih =>
    intro hn X hX t' hle ht r c h1 h2
    obtain ⟨Y, hY, a, -, hXe⟩ := leaves8 m ⟨n + 1, hn⟩ X hX
    rw [hXe]
    have hfetch : ((cfgM m).win 8).fetch ⟨n + 1, hn⟩ = false := ((cfgM m).win 8).fetch_out rfl _
    have carry : ¬ (t'.val = n + 1) → (Y (ix2 r c) : EReal) = Spec.result (argsK m) (domN m t') (tileN m ⟨n + 1, hn⟩ * 512 + r.val) (colN m ⟨n + 1, hn⟩ * 256 + c.val) := by
      intro hne
      have hn' : n < (cfgM m).N := Nat.lt_of_succ_lt hn
      have hle' : t'.val ≤ n := by omega
      have bt := between m g t' ⟨n, hn'⟩ ⟨n + 1, hn⟩ hle' (Nat.le_succ n) ht
      rcases ((rdat m 0).finds_of_pos hfetch (Nat.succ_ne_zero n) Y).mp hY with hf | hL
      · exact absurd bt.symm (flush8_ne m ⟨n, hn'⟩ hn hf)
      · have e := ih hn' Y hL t' hle' (ht.trans bt.symm) r c (by rw [bt]; exact h1) (by rw [bt]; exact h2)
        rw [e, bt, colN_eq, colN_eq]
    by_cases hlive : loZ m ⟨n + 1, hn⟩ < hiZ m ⟨n + 1, hn⟩
    · rw [out_live m ⟨n + 1, hn⟩ Y a hlive]
      by_cases hin : loZ m ⟨n + 1, hn⟩ ≤ ((tileN m ⟨n + 1, hn⟩ * 512 + r.val : ℕ) : ℤ) ∧ ((tileN m ⟨n + 1, hn⟩ * 512 + r.val : ℕ) : ℤ) < hiZ m ⟨n + 1, hn⟩
      · rw [if_pos hin]
        have hd : domN m t' = domN m ⟨n + 1, hn⟩ := dom_unique m g _ _ _ (Int.natCast_nonneg _) h1 h2 hin.1 hin.2
        rw [hd]
      · rw [if_neg hin]
        exact carry fun e => hin (by obtain rfl : t' = ⟨n + 1, hn⟩ := Fin.ext e; exact ⟨h1, h2⟩)
    · rw [out_other m ⟨n + 1, hn⟩ Y a hlive]
      exact carry fun e => hlive (by obtain rfl : t' = ⟨n + 1, hn⟩ := Fin.ext e; exact lt_of_le_of_lt h1 h2)

end Cert.KernelCIdeal.Gen
-- ==== Proof.CFrame.lean ====
module

public import proofs.«01_k».proof.Proof.CRun

/-!
The launch: the host operations, then the pipeline; the machine stops with every counter at zero and every argument as
it was.
-/

@[expose] public section

set_option maxRecDepth 16384

noncomputable section

namespace Cert.KernelCIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf ΦA ΦT)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables the launch runs at. -/
abbrev Ad : (p : Fin 1) → (pcfgs (F := F) p).Adm := fun _ => adm m

/-- Owning a whole buffer is holding it at its contents. -/
theorem owns_of_points {sp : Space} {sh : Shape} {e : EltTy} (c : Dev nD) (r : Memref sig .tc sp sh e) (hr : r.view.set = Finset.univ) (q : PosShare TreeShare) (f : Buf (Elt F) (r.view.loc (c : Thread nD τ))) :
    (iprop((r.view.loc (c : Thread nD τ)) ↦{q} f) : sProp 𝕄) ⊢ owns (c : Thread nD τ) r q (r.view.read (Elt F) f) := by
  unfold owns
  iintro H
  iexists f
  isplitr
  · ipureintro; rfl
  · rw [hr]; iexact H

theorem hostAll_sub : (hostAll (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

theorem hostAll_fresh : (hostAll (F := F)).Forall fun ops => ops.Forall fun op => op.fresh = ∅ := by
  simp only [hostAll, List.Forall]
  repeat' constructor

theorem hmain (𝒱₀ : Variants) : Pipeline.HMainP (Ix := Unit) (Name := ℕ) (U := UR sig nD τ) (Lvl := ℕ) (pcfgs (F := F)) 0 defs₀ 𝒱₀ m main (V m) :=
  Pipeline.hmainP_prefixes (pcfgs (F := F)) 0 defs₀ 𝒱₀ m main hostAll hostAll_sub hostAll_fresh (fun c => main_chain c)

/-- The tables the body reads from, one by one. -/
theorem tables_owns (c : Dev nD) (q : PosShare TreeShare) (v : pre0.Contents (Elt F)) :
    (Pipeline.prefHeld pre0 c (fun _ => q) v : sProp 𝕄) ⊢ iprop(owns (c : Thread nD τ) (Memref.whole main_v38) q (v 0)
      ∗ owns (c : Thread nD τ) (Memref.whole main_v39) q (v 1)
      ∗ owns (c : Thread nD τ) (Memref.whole main_v47) q (v 2)
      ∗ owns (c : Thread nD τ) (Memref.whole main_v55) q (v 3)) := by
  unfold Pipeline.prefHeld
  rw [show (Finset.univ : Finset (Fin 4)) = insert 0 (insert 1 (insert 2 {3})) from by decide, bigSep_insert (by decide), bigSep_insert (by decide), bigSep_insert (by decide), bigSep_singleton]
  refine BI.sep_mono (owns_of_points c (Memref.whole main_v38) (View.set_whole _) q (v 0)) (BI.sep_mono (owns_of_points c (Memref.whole main_v39) (View.set_whole _) q (v 1))
    (BI.sep_mono (owns_of_points c (Memref.whole main_v47) (View.set_whole _) q (v 2)) (owns_of_points c (Memref.whole main_v55) (View.set_whole _) q (v 3))))

theorem adm_val : (adm m).1 = pf m := rfl

theorem hin (c : Dev nD) : iprop(ΦA (U := UR sig nD τ) spec0 c ∗ ΦT pre0 (adm m).1 c) ⊢ (rdat m c).Φ 0 := by
  rw [Φ_eq, adm_val]
  unfold Inv ΦA ΦT
  rw [scopedRest0_eq]
  iintro ⟨⟨⟨%f, Hs⟩, Hp⟩, HT⟩
  ihave HT := tables_owns c fullShare.right (pf m) $$ HT
  icases HT with ⟨T0, T1, T2, T3⟩
  isplitl [T0]; · iexact T0
  isplitl [T1]; · iexact T1
  isplitl [T2]; · iexact T2
  isplitl [T3]; · iexact T3
  isplitl [Hp]; · iexact Hp
  iexists f; isplitr
  · ipureintro; exact AccP_zero m c f
  · iapply (owns_of_points c (Memref.whole cc0_scratch0) (View.set_whole _) fullShare f); iexact Hs

theorem hout (c : Dev nD) : (rdat m c).Φ (Fin.last (cfgM m).N) ⊢ ΦA (U := UR sig nD τ) spec0 c := by
  rw [Φ_eq]; unfold Inv ΦA
  rw [scopedRest0_eq]
  unfold owns
  iintro ⟨-, -, -, -, Hp, %g, -, %f, -, Hs⟩
  isplitl [Hs]
  · iexists f; rw [View.set_whole]; iexact Hs
  · iexact Hp

set_option maxHeartbeats 1000000 in
set_option backward.isDefEq.respectTransparency.types false in
/-- The launch: every run ends, with the output's array at what the write-backs can leave and every other buffer as it
    was, every counter at zero. -/
theorem run_main_quiescent : θ_run defs (onTc (τ := τ) (main (F := F))) (s₀ m ρ)
    (fun r => RDat.FramePost (cfgM m) (rdat m) (V m) r ∧ r.2.sem = fun _ => 0) :=
  RDat.θ_run_frameP_track (Q' := _) (pcfgs (F := F)) (Ad m) (0 : Fin 1) launch0 defs₀ Variants.none (rdat m) m ρ main
    (hbody := body_obligation m) (hshare := fun c w => ite_self _) (howed := fun _ _ => rfl) (V := V m)
    (hmain := hmain m Variants.none) (hA := A_eq m) (hpf := fun c k => by rw [devUniq c]; rfl)
    (hin := hin m) (hout := hout m)

/-- The frame: every run ends, with every argument as it was and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ (h : _ ∧ _) => ⟨fun c => ⟨((h.1 c).2 main_arg0 (Pipeline.mem_restRefs_of main_arg0 (by decide) (show ∀ w : Fin 9, (spec0 w).arr.view.ref ≠ main_arg0 by decide))).trans (V_arg m c main_arg0 (by decide)),
      (h.1.arr_in c 0 rfl).trans ((A_eq m c 0).trans (V_arg m c main_arg1 (by decide))),
      (h.1.arr_in c 1 rfl).trans ((A_eq m c 1).trans (V_arg m c main_arg2 (by decide))),
      (h.1.arr_in c 2 rfl).trans ((A_eq m c 2).trans (V_arg m c main_arg3 (by decide))),
      (h.1.arr_in c 3 rfl).trans ((A_eq m c 3).trans (V_arg m c main_arg4 (by decide))),
      (h.1.arr_in c 4 rfl).trans ((A_eq m c 4).trans (V_arg m c main_arg5 (by decide))),
      (h.1.arr_in c 5 rfl).trans ((A_eq m c 5).trans (V_arg m c main_arg6 (by decide))),
      ((h.1 c).2 main_arg7 (Pipeline.mem_restRefs_of main_arg7 (by decide) (show ∀ w : Fin 9, (spec0 w).arr.view.ref ≠ main_arg7 by decide))).trans (V_arg m c main_arg7 (by decide)),
      ((h.1 c).2 main_arg8 (Pipeline.mem_restRefs_of main_arg8 (by decide) (show ∀ w : Fin 9, (spec0 w).arr.view.ref ≠ main_arg8 by decide))).trans (V_arg m c main_arg8 (by decide))⟩, h.2⟩) (run_main_quiescent m ρ)

end Cert.KernelCIdeal.Gen

end
-- ==== Proof.CArray.lean ====
module

public import proofs.«01_k».proof.Proof.CValue
public import proofs.«01_k».proof.Proof.CFrame
public import Idealize.ShloMosaic.Lib.Pipeline.Covers

/-!
The array the run leaves: every element of the output is the value of its row's domain.
-/

@[expose] public section

set_option maxRecDepth 16384

noncomputable section

namespace Cert.KernelCIdeal.Gen

open Cert.Shared Idealize.ShloMosaic Idealize.ShloMosaic.TcCoe Idealize.ShloMosaic.Tactic
open Idealize.ShloMosaic.Pipeline (Dat RDat Cfg Window)
open Cert.Items (Good)

/-- A property of every element written back is a property of the array's element. -/
theorem arr8 (a : (pcfg0 (F := Ideal)).Adm) (D : Dat τ (Elt Ideal) Unit ℕ (UR sig nD τ) ℕ (cfg0 a) (0 : Dev nD)) (P : S4096x256.Idx → EReal → Prop)
    (T J : Fin (cfg0 a).N → ℕ) (hI : ∀ t : Fin (cfg0 a).N, cc0_transform_8 k0_off1_inb numel1_S1 a.1 (grid0.coords t) = ![T t, J t])
    (hP : ∀ (t : Fin (cfg0 a).N), ((cfg0 a).win 8).flush t = true → ∀ (y : S512x256.Idx) (i : S4096x256.Idx),
      (i 0).val = T t * 512 + (y 0).val →
      (i 1).val = J t * 256 + (y 1).val → P i (D.after 8 t y))
    (t : Fin (cfg0 a).N) (hf : ((cfg0 a).win 8).flush t = true) (i : S4096x256.Idx) (y : S512x256.Idx)
    (h0 : (i 0).val = T t * 512 + (y 0).val)
    (h1 : (i 1).val = J t * 256 + (y 1).val) :
    P i (D.arrAt 8 (cfg0 a).N i) := by
  have c0 : ∀ (t : Fin (cfg0 a).N) (y : S512x256.Idx), ((((cfg0 a).win 8).blk t).view.emb y (0 : Fin 2)).val = T t * 512 + (y 0).val := fun t y =>
    (Pipeline.Window.rect_emb_val ((cfg0 a).win 8) t y (0 : Fin 2) rfl).trans (congrArg (fun n => n * 512 + (y 0).val) (congrFun (hI t) 0))
  have c1 : ∀ (t : Fin (cfg0 a).N) (y : S512x256.Idx), ((((cfg0 a).win 8).blk t).view.emb y (1 : Fin 2)).val = J t * 256 + (y 1).val := fun t y =>
    (Pipeline.Window.rect_emb_val ((cfg0 a).win 8) t y (1 : Fin 2) rfl).trans (congrArg (fun n => n * 256 + (y 1).val) (congrFun (hI t) 1))
  have e : ((((cfg0 a).win 8).blk t).view.emb y : S4096x256.Idx) = i := by
    funext k
    apply Fin.ext
    fin_cases k
    · exact (c0 t y).trans h0.symm
    · exact (c1 t y).trans h1.symm
  refine D.arrAt_forall_of_flushed 8 P (fun t hf y => ?_) (cfg0 a).N t i t.isLt hf ?_
  · exact hP t hf y _ (c0 t y) (c1 t y)
  · rw [← e]; exact View.emb_mem_set _ _

variable (m : (ℓ : Loc nD τ sig) → Buf (Elt Ideal) ℓ) (g : Good (offs (M0 m)))

/-- The point of slot `x`. -/
def pointOf (x : Fin 12) : Fin (cfgM m).N := ⟨x.val, by show _ < grid0.N; rw [points]; exact x.isLt⟩

include g

/-- What a point that writes back leaves is right in every row. -/
theorem flushed_right (t : Fin (cfgM m).N) (hf : ((cfgM m).win 8).flush t = true) (X : Vec Ideal S512x256 .bf16) (hX : (rdat m 0).Leaves 8 t X)
    (r : Fin 512) (c : Fin 256) (d : ℕ) (h1 : Items.at' (offs (M0 m)) d ≤ ((tileN m t * 512 + r.val : ℕ) : ℤ))
    (h2 : ((tileN m t * 512 + r.val : ℕ) : ℤ) < Items.at' (offs (M0 m)) (d + 1)) :
    (X (ix2 r c) : EReal) = Spec.result (argsK m) d (tileN m t * 512 + r.val) (colN m t * 256 + c.val) := by
  have hT : tileN m t < 8 := tile_lt m _
  obtain ⟨x, hx⟩ := exists_point m g (tileN m t * 512 + r.val) (by omega)
  obtain ⟨p0, p1, p2⟩ := hx _ (coord_val (pointOf m x))
  have ht : tileN m (pointOf m x) = tileN m t := p0.trans (by omega)
  have hle : (pointOf m x).val ≤ t.val := by
    by_contra hlt
    have hlt : t.val < (pointOf m x).val := Nat.lt_of_not_le hlt
    have hN : t.val + 1 < (cfgM m).N := lt_of_le_of_lt hlt (pointOf m x).isLt
    exact flush8_ne m t hN hf ((between m g t ⟨t.val + 1, hN⟩ (pointOf m x) (Nat.le_succ _) hlt ht.symm).trans ht)
  rw [out_inv m g t.val t.isLt X hX _ hle ht r c p1 p2]
  obtain ⟨q1, q2⟩ := row_in_dom m g _ _ (Int.natCast_nonneg _) p1 p2
  have hd : domN m (pointOf m x) = d := Items.dom_of_row _ g _ _ _ q1 q2 h1 h2
  rw [hd]

/-- Every element of the array after the run. -/
theorem array_right (D : Dat τ (Elt Ideal) Unit ℕ (UR sig nD τ) ℕ (cfgM m) (0 : Dev nD))
    (hL : ∀ t : Fin (cfgM m).N, ((cfgM m).win 8).flush t = true → (rdat m 0).Leaves 8 t (D.after 8 t))
    (i : S4096x256.Idx) (d : ℕ) (h1 : Items.at' (offs (M0 m)) d ≤ ((i 0).val : ℤ)) (h2 : ((i 0).val : ℤ) < Items.at' (offs (M0 m)) (d + 1)) :
    (D.arrAt 8 (cfgM m).N i : EReal) = Spec.result (argsK m) d (i 0).val (i 1).val := by
  have hi0 : (i 0).val < 4096 := (i 0).isLt
  have hi1 : (i 1).val < 256 := (i 1).isLt
  obtain ⟨x, hx⟩ := exists_point m g (i 0).val hi0
  obtain ⟨p0, -, -⟩ := hx _ (coord_val (pointOf m x))
  obtain ⟨t, -, hf, hix⟩ := ((cfgM m).win 8).exists_flush_same_index rfl (pointOf m x)
  rw [index8, index8] at hix
  have ht : tileN m t = (i 0).val / 512 := (vec2_eq hix).1.trans p0
  refine arr8 (adm m) D (fun i v => ∀ d : ℕ, Items.at' (offs (M0 m)) d ≤ ((i 0).val : ℤ) → ((i 0).val : ℤ) < Items.at' (offs (M0 m)) (d + 1) → v = Spec.result (argsK m) d (i 0).val (i 1).val)
    (tileN m) (colN m) (fun t => tr8 m _) (fun t hf y i e0 e1 d h1 h2 => ?_) t hf i (ix2 ⟨(i 0).val % 512, by omega⟩ ⟨(i 1).val, hi1⟩) ?_ ?_ d h1 h2
  · have hy : y = ix2 (y 0) (y 1) := by funext k; fin_cases k <;> rfl
    rw [e0] at h1 h2 ⊢
    rw [e1, hy]
    exact flushed_right m g t hf _ (hL t hf) (y 0) (y 1) d h1 h2
  · rw [ht]; exact (Nat.div_add_mod' _ _).symm
  · rw [colN_eq, Nat.zero_mul, Nat.zero_add]; rfl

end Cert.KernelCIdeal.Gen
-- ==== Proof.CRefMath.lean ====
module

public import proofs.«01_k».proof.Proof.Gen.ReferenceCIdeal.Skeleton
public import proofs.«01_k».proof.Proof.Shared
public import Idealize.ShloMosaic.Lib.Pointwise
public import Idealize.ShloMosaic.Lib.WordCmp

/-!
The reference's arithmetic, read at one element of its result, over any operands.
-/

@[expose] public section

set_option maxRecDepth 16384

noncomputable section

namespace Cert.ReferenceCIdeal.Gen

open Idealize.ShloMosaic Idealize.ShloMosaic.TcCoe Idealize.ShloMosaic.Tactic
open Cert.Shared
open Cert.Spec (at1 at2 at3)

/-- The number of offsets, the first left out, at or below a row is the row's domain. -/
theorem dom_at (off : Fin 6 → BitVec 32) (g : Items.Good off) (d : ℕ) (r : Fin 4096) (j : Fin 256)
    (h1 : Items.at' off d ≤ r.val) (h2 : (r.val : ℤ) < Items.at' off (d + 1)) :
    (k0_pay2 (F := Ideal) (off 1) (off 2) (off 3) (off 4) (off 5) (ix2 r j) : BitVec 32) = BitVec.ofNat 32 d := by
  have hd := dom_lt off g d r h1
  have cnt := offset_le_row off g d r h1 h2
  unfold k0_pay2
  pointwise
  rw [cnt 1 (off 1) rfl, cnt 2 (off 2) rfl, cnt 3 (off 3) rfl, cnt 4 (off 4) rfl, cnt 5 (off 5) rfl]
  clear cnt h1 h2
  interval_cases d <;> rfl

variable (off : Fin 6 → BitVec 32)
    (codes : Vec Ideal S4096x1152 .fp8e4m3) (sx : Vec Ideal S4096x1 .f32) (ws : Vec Ideal S1152x256 .fp8e4m3)
    (ss : Vec Ideal S18x256 .f32) (bs : Vec Ideal S1x256 .f32)
    (wp : ℕ → Vec Ideal S1x1152x256 .fp8e4m3) (sp : ℕ → Vec Ideal S1x18x256 .f32) (bp : ℕ → Vec Ideal S1x1x256 .f32)

/-- The whole result of the reference's body. -/
def body : Vec Ideal S4096x256 .bf16 :=
  let D := k0_pay2 (F := Ideal) (off 1) (off 2) (off 3) (off 4) (off 5)
  k0_pay1 (k0_pay15 D
    (k0_pay11
      (k0_pay7 D (k0_pay5 D k0_pay3 (k0_pay4 ws (wp 0) ss (sp 0)) codes sx bs (bp 0)) (k0_pay6 ws (wp 1) ss (sp 1) codes) sx bs (bp 1))
      (k0_pay8 ws (wp 2) ss (sp 2) codes) (k0_pay9 D) (k0_pay10 sx) bs (bp 2))
    (k0_pay12 D) (k0_pay13 ws (wp 3) ss (sp 3) codes sx) (k0_pay14 bs) (bp 3)
    ws (wp 4) ss (sp 4) codes sx bs (bp 4))

/-- The result at an element: the value of the row's domain. -/
theorem body_at (A : Spec.Args 1152 18 256) (g : Items.Good off) (d : ℕ) (r : Fin 4096) (j : Fin 256)
    (h1 : Items.at' off d ≤ r.val) (h2 : (r.val : ℤ) < Items.at' off (d + 1)) (hd : d < 5)
    (hc : ∀ r x, (codes (ix2 r x) : EReal) = at2 A.codes r.val x.val) (hx : ∀ r, (sx (ix2 r 0) : EReal) = at2 A.sx r.val 0)
    (hws : ∀ x j, (ws (ix2 x j) : EReal) = at2 A.ws x.val j.val) (hss : ∀ x j, (ss (ix2 x j) : EReal) = at2 A.ss x.val j.val)
    (hbs : ∀ j, (bs (ix2 0 j) : EReal) = at1 A.bs j.val)
    (hwp : ∀ d, d < 5 → ∀ x j, (wp d (ix3 0 x j) : EReal) = at3 A.wp d x.val j.val)
    (hsp : ∀ d, d < 5 → ∀ x j, (sp d (ix3 0 x j) : EReal) = at3 A.sp d x.val j.val)
    (hbp : ∀ d, d < 5 → ∀ j, (bp d (ix3 0 0 j) : EReal) = at2 A.bp d j.val) :
    (body off codes sx ws ss bs wp sp bp (ix2 r j) : EReal) = Spec.result A d r.val j.val := by
  have hD := dom_at off g d r j h1 h2
  unfold body
  generalize k0_pay2 (F := Ideal) (off 1) (off 2) (off 3) (off 4) (off 5) = D at hD ⊢
  have hv := fun e (he : e < 5) => val_at A e r j codes sx ws ss bs (wp e) (sp e) (bp e) hc hx hws hss hbs (hwp e he) (hsp e he) (hbp e he)
    (fun x => by omega)
  unfold k0_pay15 k0_pay14 k0_pay13 k0_pay12 k0_pay11 k0_pay10 k0_pay9 k0_pay8 k0_pay7 k0_pay6 k0_pay5 k0_pay4 k0_pay3 k0_pay1
  pointwise
  rw [hD]
  interval_cases d
  · exact hv 0 (by decide)
  · exact hv 1 (by decide)
  · exact hv 2 (by decide)
  · exact hv 3 (by decide)
  · exact hv 4 (by decide)

end Cert.ReferenceCIdeal.Gen
-- ==== Proof.CRefValue.lean ====
module

public import proofs.«01_k».proof.Proof.Gen.ReferenceCIdeal.Value
public import proofs.«01_k».proof.Proof.CRefMath
public import Idealize.ShloMosaic.Lib.Pipeline.ValueKit
public import Idealize.ShloMosaic.Lib.Pipeline.ReadBack

/-!
The reference's result array: at every element, the value of the row's domain (`Spec.result`).
-/

@[expose] public section

set_option maxRecDepth 16384

noncomputable section

namespace Cert.ReferenceCIdeal.Gen

open Idealize.ShloMosaic Idealize.ShloMosaic.TcCoe Idealize.ShloMosaic.Tactic
open Cert.Spec (at1 at2 at3 at1_of at2_of at3_of)

variable (m : (ℓ : Loc nD τ sig) → Buf (Elt Ideal) ℓ)

/-- The offsets. -/
def offsR : Fin 6 → BitVec 32 := fun k => (m (((0 : Dev nD).tc : Thread nD τ).loc main_arg0) : S6.Idx → BitVec 32) (ix1 k)

/-- The float arguments. -/
def argsR : Spec.Args 1152 18 256 where
  codes := m (((0 : Dev nD).tc : Thread nD τ).loc main_arg1)
  sx := m (((0 : Dev nD).tc : Thread nD τ).loc main_arg2)
  ws := m (((0 : Dev nD).tc : Thread nD τ).loc main_arg3)
  ss := m (((0 : Dev nD).tc : Thread nD τ).loc main_arg4)
  wp := m (((0 : Dev nD).tc : Thread nD τ).loc main_arg5)
  sp := m (((0 : Dev nD).tc : Thread nD τ).loc main_arg6)
  bs := m (((0 : Dev nD).tc : Thread nD τ).loc main_arg7)
  bp := m (((0 : Dev nD).tc : Thread nD τ).loc main_arg8)

/-- Every block is its whole array. -/
theorem idx : ∀ t : Fin cfg0.N, win0_0.index t = ![0] ∧ win0_1.index t = ![0, 0] ∧ win0_2.index t = ![0, 0]
    ∧ win0_3.index t = ![0, 0] ∧ win0_4.index t = ![0, 0] ∧ win0_5.index t = ![0, 0, 0] ∧ win0_6.index t = ![0, 0, 0]
    ∧ win0_7.index t = ![0, 0] ∧ win0_8.index t = ![0, 0, 0] ∧ win0_9.index t = ![0, 0] :=
  (by decide +kernel : ∀ t : Fin grid0.N, _)

theorem iblk0 : iblk m 0 0 t0_0 = m (((0 : Dev nD).tc : Thread nD τ).loc main_arg0) := by
  blk_ext! [iblk, V, idx t0_0]
theorem iblk1 : iblk m 0 1 t0_0 = m (((0 : Dev nD).tc : Thread nD τ).loc main_arg1) := by
  blk_ext! [iblk, V, idx t0_0]
theorem iblk2 : iblk m 0 2 t0_0 = m (((0 : Dev nD).tc : Thread nD τ).loc main_arg2) := by
  blk_ext! [iblk, V, idx t0_0]
theorem iblk3 : iblk m 0 3 t0_0 = m (((0 : Dev nD).tc : Thread nD τ).loc main_arg3) := by
  blk_ext! [iblk, V, idx t0_0]
theorem iblk4 : iblk m 0 4 t0_0 = m (((0 : Dev nD).tc : Thread nD τ).loc main_arg4) := by
  blk_ext! [iblk, V, idx t0_0]
theorem iblk5 : iblk m 0 5 t0_0 = m (((0 : Dev nD).tc : Thread nD τ).loc main_arg5) := by
  blk_ext! [iblk, V, idx t0_0]
theorem iblk6 : iblk m 0 6 t0_0 = m (((0 : Dev nD).tc : Thread nD τ).loc main_arg6) := by
  blk_ext! [iblk, V, idx t0_0]
theorem iblk7 (c : Fin 256) : (iblk m 0 7 t0_0 : S1x256.Idx → EReal) (ix2 0 c)
    = (m (((0 : Dev nD).tc : Thread nD τ).loc main_arg7) : S256.Idx → EReal) (ix1 c) := by
  blk_ext! [iblk, V, idx t0_0]
theorem iblk8 (d : Fin 5) (c : Fin 256) : (iblk m 0 8 t0_0 : S5x1x256.Idx → EReal) (ix3 d 0 c)
    = (m (((0 : Dev nD).tc : Thread nD τ).loc main_arg8) : S5x256.Idx → EReal) (ix2 d c) := by
  blk_ext! [iblk, V, idx t0_0]

/-- Domain `d`'s part of a stack of five. -/
def wpOf (x : Vec Ideal S5x1152x256 .fp8e4m3) : ℕ → Vec Ideal S1x1152x256 .fp8e4m3
  | 0 => View.ld x (Rect.unit ![0, 0, 0] ![1, 1152, 256] inb_S5x1152x256_S1x1152x256_0_0_0)
  | 1 => View.ld x (Rect.unit ![1, 0, 0] ![1, 1152, 256] inb_S5x1152x256_S1x1152x256_1_0_0)
  | 2 => View.ld x (Rect.unit ![2, 0, 0] ![1, 1152, 256] inb_S5x1152x256_S1x1152x256_2_0_0)
  | 3 => View.ld x (Rect.unit ![3, 0, 0] ![1, 1152, 256] inb_S5x1152x256_S1x1152x256_3_0_0)
  | _ => View.ld x (Rect.unit ![4, 0, 0] ![1, 1152, 256] inb_S5x1152x256_S1x1152x256_4_0_0)

theorem wpOf_at (x : Vec Ideal S5x1152x256 .fp8e4m3) (d : ℕ) (hd : d < 5) (a : Fin 1152) (c : Fin 256) :
    (wpOf x d (ix3 0 a c) : EReal) = x (ix3 ⟨d, hd⟩ a c) := by
  interval_cases d <;> (unfold wpOf; pointwise)

/-- Domain `d`'s part of a stack of five. -/
def spOf (x : Vec Ideal S5x18x256 .f32) : ℕ → Vec Ideal S1x18x256 .f32
  | 0 => View.ld x (Rect.unit ![0, 0, 0] ![1, 18, 256] inb_S5x18x256_S1x18x256_0_0_0)
  | 1 => View.ld x (Rect.unit ![1, 0, 0] ![1, 18, 256] inb_S5x18x256_S1x18x256_1_0_0)
  | 2 => View.ld x (Rect.unit ![2, 0, 0] ![1, 18, 256] inb_S5x18x256_S1x18x256_2_0_0)
  | 3 => View.ld x (Rect.unit ![3, 0, 0] ![1, 18, 256] inb_S5x18x256_S1x18x256_3_0_0)
  | _ => View.ld x (Rect.unit ![4, 0, 0] ![1, 18, 256] inb_S5x18x256_S1x18x256_4_0_0)

theorem spOf_at (x : Vec Ideal S5x18x256 .f32) (d : ℕ) (hd : d < 5) (a : Fin 18) (c : Fin 256) :
    (spOf x d (ix3 0 a c) : EReal) = x (ix3 ⟨d, hd⟩ a c) := by
  interval_cases d <;> (unfold spOf; pointwise)

/-- Domain `d`'s part of a stack of five. -/
def bpOf (x : Vec Ideal S5x1x256 .f32) : ℕ → Vec Ideal S1x1x256 .f32
  | 0 => View.ld x (Rect.unit ![0, 0, 0] ![1, 1, 256] inb_S5x1x256_S1x1x256_0_0_0)
  | 1 => View.ld x (Rect.unit ![1, 0, 0] ![1, 1, 256] inb_S5x1x256_S1x1x256_1_0_0)
  | 2 => View.ld x (Rect.unit ![2, 0, 0] ![1, 1, 256] inb_S5x1x256_S1x1x256_2_0_0)
  | 3 => View.ld x (Rect.unit ![3, 0, 0] ![1, 1, 256] inb_S5x1x256_S1x1x256_3_0_0)
  | _ => View.ld x (Rect.unit ![4, 0, 0] ![1, 1, 256] inb_S5x1x256_S1x1x256_4_0_0)

theorem bpOf_at (x : Vec Ideal S5x1x256 .f32) (d : ℕ) (hd : d < 5) (c : Fin 256) :
    (bpOf x d (ix3 0 0 c) : EReal) = x (ix3 ⟨d, hd⟩ 0 c) := by
  interval_cases d <;> (unfold bpOf; pointwise)

theorem wpOf_0 (x : Vec Ideal S5x1152x256 .fp8e4m3) : wpOf x 0 = View.ld x (Rect.unit ![0, 0, 0] ![1, 1152, 256] inb_S5x1152x256_S1x1152x256_0_0_0) := rfl
theorem wpOf_1 (x : Vec Ideal S5x1152x256 .fp8e4m3) : wpOf x 1 = View.ld x (Rect.unit ![1, 0, 0] ![1, 1152, 256] inb_S5x1152x256_S1x1152x256_1_0_0) := rfl
theorem wpOf_2 (x : Vec Ideal S5x1152x256 .fp8e4m3) : wpOf x 2 = View.ld x (Rect.unit ![2, 0, 0] ![1, 1152, 256] inb_S5x1152x256_S1x1152x256_2_0_0) := rfl
theorem wpOf_3 (x : Vec Ideal S5x1152x256 .fp8e4m3) : wpOf x 3 = View.ld x (Rect.unit ![3, 0, 0] ![1, 1152, 256] inb_S5x1152x256_S1x1152x256_3_0_0) := rfl
theorem wpOf_4 (x : Vec Ideal S5x1152x256 .fp8e4m3) : wpOf x 4 = View.ld x (Rect.unit ![4, 0, 0] ![1, 1152, 256] inb_S5x1152x256_S1x1152x256_4_0_0) := rfl
theorem spOf_0 (x : Vec Ideal S5x18x256 .f32) : spOf x 0 = View.ld x (Rect.unit ![0, 0, 0] ![1, 18, 256] inb_S5x18x256_S1x18x256_0_0_0) := rfl
theorem spOf_1 (x : Vec Ideal S5x18x256 .f32) : spOf x 1 = View.ld x (Rect.unit ![1, 0, 0] ![1, 18, 256] inb_S5x18x256_S1x18x256_1_0_0) := rfl
theorem spOf_2 (x : Vec Ideal S5x18x256 .f32) : spOf x 2 = View.ld x (Rect.unit ![2, 0, 0] ![1, 18, 256] inb_S5x18x256_S1x18x256_2_0_0) := rfl
theorem spOf_3 (x : Vec Ideal S5x18x256 .f32) : spOf x 3 = View.ld x (Rect.unit ![3, 0, 0] ![1, 18, 256] inb_S5x18x256_S1x18x256_3_0_0) := rfl
theorem spOf_4 (x : Vec Ideal S5x18x256 .f32) : spOf x 4 = View.ld x (Rect.unit ![4, 0, 0] ![1, 18, 256] inb_S5x18x256_S1x18x256_4_0_0) := rfl
theorem bpOf_0 (x : Vec Ideal S5x1x256 .f32) : bpOf x 0 = View.ld x (Rect.unit ![0, 0, 0] ![1, 1, 256] inb_S5x1x256_S1x1x256_0_0_0) := rfl
theorem bpOf_1 (x : Vec Ideal S5x1x256 .f32) : bpOf x 1 = View.ld x (Rect.unit ![1, 0, 0] ![1, 1, 256] inb_S5x1x256_S1x1x256_1_0_0) := rfl
theorem bpOf_2 (x : Vec Ideal S5x1x256 .f32) : bpOf x 2 = View.ld x (Rect.unit ![2, 0, 0] ![1, 1, 256] inb_S5x1x256_S1x1x256_2_0_0) := rfl
theorem bpOf_3 (x : Vec Ideal S5x1x256 .f32) : bpOf x 3 = View.ld x (Rect.unit ![3, 0, 0] ![1, 1, 256] inb_S5x1x256_S1x1x256_3_0_0) := rfl
theorem bpOf_4 (x : Vec Ideal S5x1x256 .f32) : bpOf x 4 = View.ld x (Rect.unit ![4, 0, 0] ![1, 1, 256] inb_S5x1x256_S1x1x256_4_0_0) := rfl

theorem one_idx (q : S1.Idx) : q = ix1 0 := by
  funext a; fin_cases a; exact Subsingleton.elim (α := Fin 1) _ _

theorem word1 (x : Vec Ideal S6 .i32) (q : S1.Idx) : View.ld x (Rect.unit ![1] ![1] inb_S6_S1_1) q = (x : S6.Idx → BitVec 32) (ix1 1) := by
  obtain rfl : q = ix1 0 := one_idx q
  pointwise
theorem word2 (x : Vec Ideal S6 .i32) (q : S1.Idx) : View.ld x (Rect.unit ![2] ![1] inb_S6_S1_2) q = (x : S6.Idx → BitVec 32) (ix1 2) := by
  obtain rfl : q = ix1 0 := one_idx q
  pointwise
theorem word3 (x : Vec Ideal S6 .i32) (q : S1.Idx) : View.ld x (Rect.unit ![3] ![1] inb_S6_S1_3) q = (x : S6.Idx → BitVec 32) (ix1 3) := by
  obtain rfl : q = ix1 0 := one_idx q
  pointwise
theorem word4 (x : Vec Ideal S6 .i32) (q : S1.Idx) : View.ld x (Rect.unit ![4] ![1] inb_S6_S1_4) q = (x : S6.Idx → BitVec 32) (ix1 4) := by
  obtain rfl : q = ix1 0 := one_idx q
  pointwise
theorem word5 (x : Vec Ideal S6 .i32) (q : S1.Idx) : View.ld x (Rect.unit ![5] ![1] inb_S6_S1_5) q = (x : S6.Idx → BitVec 32) (ix1 5) := by
  obtain rfl : q = ix1 0 := one_idx q
  pointwise

/-- What the body leaves in its result. -/
theorem out_eq : (outsAt0 m 0 t0_0 : Vec Ideal S4096x256 .bf16)
    = body (fun k => (iblk m 0 0 t0_0 : S6.Idx → BitVec 32) (ix1 k)) (iblk m 0 1 t0_0) (iblk m 0 2 t0_0) (iblk m 0 3 t0_0) (iblk m 0 4 t0_0) (iblk m 0 7 t0_0)
        (wpOf (iblk m 0 5 t0_0)) (spOf (iblk m 0 6 t0_0)) (bpOf (iblk m 0 8 t0_0)) := by
  unfold outsAt0
  frame_out
  simp only [read_unread_whole]
  unfold body
  generalize iblk m 0 0 t0_0 = x0
  generalize iblk m 0 1 t0_0 = x1
  generalize iblk m 0 2 t0_0 = x2
  generalize iblk m 0 3 t0_0 = x3
  generalize iblk m 0 4 t0_0 = x4
  generalize iblk m 0 5 t0_0 = x5
  generalize iblk m 0 6 t0_0 = x6
  generalize iblk m 0 7 t0_0 = x7
  generalize iblk m 0 8 t0_0 = x8
  simp only [wpOf_0, wpOf_1, wpOf_2, wpOf_3, wpOf_4, spOf_0, spOf_1, spOf_2, spOf_3, spOf_4, bpOf_0, bpOf_1, bpOf_2, bpOf_3, bpOf_4]
  erw [word1 x0 _, word2 x0 _, word3 x0 _, word4 x0 _, word5 x0 _]

/-- The reference's array at an element of domain `d`. -/
theorem ref_right (g : Items.Good (offsR m)) (r : Fin 4096) (j : Fin 256) (d : ℕ) (hd : d < 5)
    (h1 : Items.at' (offsR m) d ≤ r.val) (h2 : (r.val : ℤ) < Items.at' (offsR m) (d + 1)) :
    (outsAt0 m 0 t0_0 (ix2 r j : S4096x256.Idx) : EReal) = Spec.result (argsR m) d r.val j.val := by
  have e0 : (fun k : Fin 6 => (iblk m 0 0 t0_0 : S6.Idx → BitVec 32) (ix1 k)) = offsR m := by rw [iblk0]; rfl
  rw [out_eq, e0, iblk1, iblk2, iblk3, iblk4, iblk5, iblk6]
  refine body_at _ _ _ _ _ _ _ _ _ (argsR m) g d r j h1 h2 hd ?_ ?_ ?_ ?_ ?_ ?_ ?_ ?_
  · exact fun r x => at2_of (argsR m).codes _ _ _ rfl rfl
  · exact fun r => at2_of (argsR m).sx _ _ _ rfl rfl
  · exact fun x j => at2_of (argsR m).ws _ _ _ rfl rfl
  · exact fun x j => at2_of (argsR m).ss _ _ _ rfl rfl
  · exact fun j => (iblk7 m j).trans (at1_of (argsR m).bs _ _ rfl)
  · exact fun d hd x j => (wpOf_at _ d hd x j).trans (at3_of (argsR m).wp _ _ _ _ rfl rfl rfl)
  · exact fun d hd x j => (spOf_at _ d hd x j).trans (at3_of (argsR m).sp _ _ _ _ rfl rfl rfl)
  · exact fun d hd j => (bpOf_at _ d hd j).trans ((iblk8 m ⟨d, hd⟩ j).trans (at2_of (argsR m).bp _ _ _ rfl rfl))

/-- The array after the run is what the body left. -/
theorem whole : ((dats m 0 0).arrAt 9 cfg0.N : S4096x256.Idx → EReal) = outsAt0 m 0 t0_0 := by
  refine (dats m 0 0).arrAt_eq_of_after_last 9 t0_0 (by decide +kernel) _ fun j => ?_
  blk_simp
  rw [after0_9]

end Cert.ReferenceCIdeal.Gen
-- ==== Proof.CPre.lean ====
module

public import proofs.«01_k».proof.Defs
public import proofs.«01_k».proof.Proof.ItemFacts
public import Idealize.ShloMosaic.Lib.Pointwise
public import Idealize.ShloMosaic.Lib.WordCmp

/-!
The precondition, as the fact the proof uses: the offsets start at 0, end at 4096 and never fall.
-/

@[expose] public section

set_option maxRecDepth 16384

noncomputable section

namespace Cert.Pre_offsets_partition3

open Idealize.ShloMosaic Idealize.ShloMosaic.Tactic

theorem facts : Facts where
  slices_S6_S1_0 := by decide
  shapeCasts_S1_S_ := by decide
  slices_S6_S1_5 := by decide
  slices_S6_S5_0 := by decide
  slices_S6_S5_1 := by decide

theorem good_of_ones (h : Facts) (a0 : IVec S6 32) (a1 : FVec Ideal S4096x1152 .fp8e4m3) (a2 : FVec Ideal S4096x1 .f32)
    (a3 : FVec Ideal S1152x256 .fp8e4m3) (a4 : FVec Ideal S18x256 .f32) (a5 : FVec Ideal S5x1152x256 .fp8e4m3)
    (a6 : FVec Ideal S5x18x256 .f32) (a7 : FVec Ideal S256 .f32) (a8 : FVec Ideal S5x256 .f32)
    (h1 : (fn (F := Ideal) a0 a1 a2 a3 a4 a5 a6 a7 a8).1 = fun _ => 1#1)
    (h2 : (fn (F := Ideal) a0 a1 a2 a3 a4 a5 a6 a7 a8).2 = fun _ => 1#1) :
    Items.Good (fun k => a0 (ix1 k)) := by
  have e1 := congrFun h1 (fun a => a.elim0)
  unfold fn at e1
  pointwise at e1
  rw [WordCmp.cmpi_eq_eq, WordCmp.cmpi_eq_eq, WordCmp.andi_ofBool, WordCmp.ofBool_eq_one_iff, Bool.and_eq_true, decide_eq_true_iff,
    decide_eq_true_iff] at e1
  refine ⟨?_, ?_, fun k => ?_⟩
  · show (a0 (ix1 0)).toInt = 0
    rw [e1.1]; decide
  · show (a0 (ix1 5)).toInt = 4096
    rw [e1.2]; decide
  · have e2 := congrFun h2 (ix1 k)
    unfold fn at e2
    pointwise at e2
    rw [WordCmp.cmpi_sle_eq, WordCmp.ofBool_decide_eq_one_iff] at e2
    show (a0 (ix1 k.castSucc)).toInt ≤ (a0 (ix1 k.succ)).toInt
    have es : k.succ = ⟨1 + k.val, by omega⟩ := Fin.ext (by simp; omega)
    rw [es]
    exact e2

end Cert.Pre_offsets_partition3
-- ==== Proof.CAgree.lean ====
module

public import proofs.«01_k».proof.Defs
public import proofs.«01_k».proof.Proof.CArray
public import proofs.«01_k».proof.Proof.CRefValue
public import proofs.«01_k».proof.Proof.CPre
public import Idealize.ShloMosaic.Lib.Pipeline.ArrRel

/-!
The kernel's array and the reference's array are the same, element by element.
-/

@[expose] public section

set_option maxRecDepth 16384

noncomputable section

namespace Cert.CAgree

open Idealize.ShloMosaic Idealize.ShloMosaic.TcCoe Idealize.SL.Sem

variable (m : (ℓ : Loc KernelCIdeal.nD KernelCIdeal.τ KernelCIdeal.sig) → Buf (Elt Ideal) ℓ)
  (ρ : Dev KernelCIdeal.nD → PrngReg)
  (m' : (ℓ : Loc ReferenceCIdeal.nD ReferenceCIdeal.τ ReferenceCIdeal.sig) → Buf (Elt Ideal) ℓ)

/-- The kernel's array after the run, under the facts about the offsets: at every element of the rows of domain `d`, `Spec.result`. -/
theorem run_kernel (g : Items.Good (KernelCIdeal.Gen.offs (KernelCIdeal.Gen.M0 m))) :
    θ_run (KernelCIdeal.defs (F := Ideal)) (onTc (τ := KernelCIdeal.τ) (KernelCIdeal.main (F := Ideal))) ⟨m, fun _ => 0, ρ⟩
      (fun r => ∀ (i : KernelCIdeal.S4096x256.Idx) (d : ℕ),
        Items.at' (KernelCIdeal.Gen.offs (KernelCIdeal.Gen.M0 m)) d ≤ (i 0).val →
        (i 0).val < Items.at' (KernelCIdeal.Gen.offs (KernelCIdeal.Gen.M0 m)) (d + 1) →
        ((r.2.mem ((((0 : Dev KernelCIdeal.nD).tc : Thread KernelCIdeal.nD KernelCIdeal.τ)).loc KernelCIdeal.main_v58) : KernelCIdeal.S4096x256.Idx → EReal) i)
          = Spec.result (KernelCIdeal.Gen.argsK m) d (i 0).val (i 1).val) :=
  (θ_run (KernelCIdeal.defs (F := Ideal)) _ _).mono (fun r h i d h1 h2 => by
    obtain ⟨after, hL, hA⟩ := h.1.exists_exact (0 : Dev KernelCIdeal.nD)
    have e := hA 8
    exact (congrFun e i).trans (KernelCIdeal.Gen.array_right m g ((KernelCIdeal.Gen.rdat m 0).withAfter after) (fun t hf => hL 8 t hf) i d h1 h2))
    (KernelCIdeal.Gen.run_main_quiescent m ρ)

/-- The reference's array, under the same. -/
theorem ref_at (g : Items.Good (ReferenceCIdeal.Gen.offsR m')) (i : ReferenceCIdeal.S4096x256.Idx) (d : ℕ) (hd : d < 5)
    (h1 : Items.at' (ReferenceCIdeal.Gen.offsR m') d ≤ (i 0).val) (h2 : ((i 0).val : ℤ) < Items.at' (ReferenceCIdeal.Gen.offsR m') (d + 1)) :
    (((ReferenceCIdeal.Gen.dats m' 0 0).arrAt 9 ReferenceCIdeal.cfg0.N : ReferenceCIdeal.S4096x256.Idx → EReal) i)
      = Spec.result (ReferenceCIdeal.Gen.argsR m') d (i 0).val (i 1).val := by
  rw [ReferenceCIdeal.Gen.whole]
  have hi : i = ix2 (i 0) (i 1) := by funext a; fin_cases a <;> rfl
  rw [hi]
  exact ReferenceCIdeal.Gen.ref_right m' g (i 0) (i 1) d hd h1 h2

/-- The precondition, of the offsets the kernel reads. -/
theorem good (h : Pre_KernelCIdeal_offsets_partition3 (hPre_offsets_partition3 := Pre_offsets_partition3.facts) m) :
    Items.Good (KernelCIdeal.Gen.offs (KernelCIdeal.Gen.M0 m)) :=
  Pre_offsets_partition3.good_of_ones Pre_offsets_partition3.facts _ _ _ _ _ _ _ _ _ (h 0).1 (h 0).2

/-- Both programs leave the same array, and their arguments as they were. -/
theorem agree : algebraic_KernelCIdeal_ReferenceCIdeal_pre_offsets_partition3 (hKernelCIdeal := KernelCIdeal.Gen.facts)
    (hReferenceCIdeal := ReferenceCIdeal.Gen.facts) (hPre_offsets_partition3 := Pre_offsets_partition3.facts) := by
  intro m ρ m' ρ' hp hargs
  have g := good m hp
  have hz := hargs 0
  have eo : ReferenceCIdeal.Gen.offsR m' = KernelCIdeal.Gen.offs (KernelCIdeal.Gen.M0 m) :=
    funext fun k => congrFun hz.1 (ix1 k)
  have ea : ReferenceCIdeal.Gen.argsR m' = KernelCIdeal.Gen.argsK m := by
    obtain ⟨_, e1, e2, e3, e4, e5, e6, e7, e8⟩ := hz
    unfold ReferenceCIdeal.Gen.argsR KernelCIdeal.Gen.argsK
    rw [Spec.Args.mk.injEq]
    exact ⟨e1, e2, e3, e4, e5, e6, e7, e8⟩
  refine ⟨fun c => (ReferenceCIdeal.Gen.dats m' 0 c).arrAt 9 ReferenceCIdeal.cfg0.N, ?_, ReferenceCIdeal.Value.run_blocks m' ρ'⟩
  refine (θ_run (KernelCIdeal.defs (F := Ideal)) _ _).mono (fun r h c => ⟨?_, h.2.1 c⟩) (θ_run_and (run_kernel m ρ g) (KernelCIdeal.Gen.frame m ρ))
  obtain hc : c = (0 : Dev KernelCIdeal.nD) := Subsingleton.elim _ _
  rw [hc]
  funext i
  obtain ⟨d, hd, h1, h2⟩ := Items.exists_dom _ g (i 0).val (i 0).isLt
  have eK := h.1 i d h1 h2
  have eR := ref_at m' (by rw [eo]; exact g) i d hd (by rw [eo]; exact h1) (by rw [eo]; exact h2)
  rw [ea] at eR
  exact eK.trans eR.symm

end Cert.CAgree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frame
public import proofs.«01_k».proof.Proof.Gen.ReferenceIdeal.Value
public import proofs.«01_k».proof.Proof.IdealFrame
public import proofs.«01_k».proof.Proof.Agree
public import proofs.«01_k».proof.Proof.Gen.KernelC
public import proofs.«01_k».proof.Proof.Gen.KernelC.Skeleton
public import proofs.«01_k».proof.Proof.Gen.KernelC.Launch
public import proofs.«01_k».proof.Proof.Gen.KernelCIdeal
public import proofs.«01_k».proof.Proof.Gen.KernelCIdeal.Skeleton
public import proofs.«01_k».proof.Proof.Gen.KernelCIdeal.Launch
public import proofs.«01_k».proof.Proof.Gen.ReferenceCIdeal
public import proofs.«01_k».proof.Proof.Gen.ReferenceCIdeal.Skeleton
public import proofs.«01_k».proof.Proof.Gen.ReferenceCIdeal.Launch
public import proofs.«01_k».proof.Proof.Gen.ReferenceCIdeal.Points
public import proofs.«01_k».proof.Proof.Gen.ReferenceCIdeal.Frame
public import proofs.«01_k».proof.Proof.Gen.ReferenceCIdeal.Value
public import proofs.«01_k».proof.Proof.CBitsFrame
public import proofs.«01_k».proof.Proof.CAgree
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.KernelC.Gen.facts, Cert.KernelCIdeal.Gen.facts,
    Cert.ReferenceCIdeal.Gen.facts, Cert.Pre_offsets_partition.facts, Cert.Pre_offsets_partition3.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g,
    fun m g _ => Cert.KernelC.Gen.frame m g, fun m g _ => Cert.KernelCIdeal.Gen.frame m g, fun m g _ => Cert.KernelCIdeal.Gen.frame m g,
    fun m g _ => Cert.ReferenceCIdeal.Gen.frame m g, fun m g _ => Cert.ReferenceCIdeal.Gen.frame m g,
    trivial, Cert.Agree.agree, trivial, Cert.CAgree.agree⟩

end Cert.Proof

end
